-- ==== Defs.lean ====
def Pre_Kernel [hPre_idx_in_vocab : Cert.Pre_idx_in_vocab.Facts] (m : (ℓ : Loc Cert.Kernel.nD Cert.Kernel.τ Cert.Kernel.sig) → Buf (Elt Bits) ℓ) : Prop :=
  ∀ c : Dev Cert.Kernel.nD,
    (Cert.Pre_idx_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_idx_in_vocab : Cert.Pre_idx_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_idx_in_vocab : Cert.Pre_idx_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] [hPre_idx_in_vocab : Cert.Pre_idx_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] [hPre_idx_in_vocab : Cert.Pre_idx_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] [hPre_idx_in_vocab : Cert.Pre_idx_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_vocab : Cert.Pre_idx_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v246) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_idx_in_vocab : Cert.Pre_idx_in_vocab.Facts),
    quiescent_Kernel (hKernel := hKernel) (hPre_idx_in_vocab := hPre_idx_in_vocab)
    ∧ quiescent_KernelIdeal (hKernelIdeal := hKernelIdeal) (hPre_idx_in_vocab := hPre_idx_in_vocab)
    ∧ quiescent_ReferenceIdeal (hReferenceIdeal := hReferenceIdeal) (hPre_idx_in_vocab := hPre_idx_in_vocab)
    ∧ preserves_Kernel_KernelIdeal
    ∧ algebraic_KernelIdeal_ReferenceIdeal (hKernelIdeal := hKernelIdeal) (hReferenceIdeal := hReferenceIdeal) (hPre_idx_in_vocab := hPre_idx_in_vocab)
-- ==== Pre_idx_in_vocab.lean ====
abbrev S1024x16 : Shape := ⟨2, ![1024, 16]⟩
abbrev S256x128 : Shape := ⟨2, ![256, 128]⟩
abbrev S256x1x128x5 : Shape := ⟨4, ![256, 1, 128, 5]⟩
abbrev S256 : Shape := ⟨1, ![256]⟩
abbrev S256x1x128x4 : Shape := ⟨4, ![256, 1, 128, 4]⟩
abbrev S256x1x128x3 : Shape := ⟨4, ![256, 1, 128, 3]⟩
abbrev S1024x256 : Shape := ⟨2, ![1024, 256]⟩
abbrev S1024 : Shape := ⟨1, ![1024]⟩
abbrev S20x512 : Shape := ⟨2, ![20, 512]⟩
abbrev S20 : Shape := ⟨1, ![20]⟩
abbrev S_ : Shape := ⟨0, ![]⟩

class Facts : Prop where
  bcast_S_S1024x16 : S_.BroadcastsInDim S1024x16 (![] : Fin 0 → Fin S1024x16.rank)
  reducesTo_S1024x16_S_d0_1 : S1024x16.ReducesTo [0, 1] S_
  h_S_ : 0 < S_.numel

variable [Facts]

def fn {F : FTy → Type} [FloatOps F] (main_arg0 : IVec S1024x16 32) (main_arg1 : FVec F S256x128 .f32) (main_arg2 : FVec F S256x1x128x5 .f32) (main_arg3 : FVec F S256 .f32) (main_arg4 : FVec F S256x1x128x4 .f32) (main_arg5 : FVec F S256 .f32) (main_arg6 : FVec F S256x1x128x3 .f32) (main_arg7 : FVec F S256 .f32) (main_arg8 : FVec F S1024x256 .f32) (main_arg9 : FVec F S1024x256 .f32) (main_arg10 : FVec F S1024 .f32) (main_arg11 : FVec F S1024 .f32) (main_arg12 : FVec F S1024x256 .f32) (main_arg13 : FVec F S1024x256 .f32) (main_arg14 : FVec F S1024 .f32) (main_arg15 : FVec F S1024 .f32) (main_arg16 : FVec F S20x512 .f32) (main_arg17 : FVec F S20 .f32) : IVec S_ 1 :=
  let main_c : IVec S_ 32 := constantI S_ 32 0#32
  let main_v0 : IVec S1024x16 32 := broadcastInDim S1024x16 ![] bcast_S_S1024x16 main_c
  let main_v1 : IVec S1024x16 1 := cmpi .sge main_arg0 main_v0
  let main_c_0 : IVec S_ 32 := constantI S_ 32 256#32
  let main_v2 : IVec S1024x16 32 := broadcastInDim S1024x16 ![] bcast_S_S1024x16 main_c_0
  let main_v3 : IVec S1024x16 1 := cmpi .slt main_arg0 main_v2
  let main_v4 : IVec S1024x16 1 := andi main_v1 main_v3
  let main_c_1 : IVec S_ 1 := constantI S_ 1 1#1
  let main_v5 : IVec S_ 1 := (fun x v => Host.reduce IntOp.andi x v reducesTo_S1024x16_S_d0_1 h_S_) main_v4 main_c_1
  main_v5
-- ==== Kernel.lean ====
abbrev S1024x16 : Shape := ⟨2, ![1024, 16]⟩
abbrev S256x128 : Shape := ⟨2, ![256, 128]⟩
abbrev S256x1x128x5 : Shape := ⟨4, ![256, 1, 128, 5]⟩
abbrev S256 : Shape := ⟨1, ![256]⟩
abbrev S256x1x128x4 : Shape := ⟨4, ![256, 1, 128, 4]⟩
abbrev S256x1x128x3 : Shape := ⟨4, ![256, 1, 128, 3]⟩
abbrev S1024x256 : Shape := ⟨2, ![1024, 256]⟩
abbrev S1024 : Shape := ⟨1, ![1024]⟩
abbrev S20x512 : Shape := ⟨2, ![20, 512]⟩
abbrev S20 : Shape := ⟨1, ![20]⟩
abbrev S16x1024 : Shape := ⟨2, ![16, 1024]⟩
abbrev S16384 : Shape := ⟨1, ![16384]⟩
abbrev S12288 : Shape := ⟨1, ![12288]⟩
abbrev S12288x128 : Shape := ⟨2, ![12288, 128]⟩
abbrev S384 : Shape := ⟨1, ![384]⟩
abbrev S384x128 : Shape := ⟨2, ![384, 128]⟩
abbrev S_ : Shape := ⟨0, ![]⟩
abbrev S12x1024x128 : Shape := ⟨3, ![12, 1024, 128]⟩
abbrev S4096 : Shape := ⟨1, ![4096]⟩
abbrev S4096x128 : Shape := ⟨2, ![4096, 128]⟩
abbrev S128 : Shape := ⟨1, ![128]⟩
abbrev S128x128 : Shape := ⟨2, ![128, 128]⟩
abbrev S4x1024x128 : Shape := ⟨3, ![4, 1024, 128]⟩
abbrev S256x128x5 : Shape := ⟨3, ![256, 128, 5]⟩
abbrev S5x128x256 : Shape := ⟨3, ![5, 128, 256]⟩
abbrev S640x256 : Shape := ⟨2, ![640, 256]⟩
abbrev S256x128x4 : Shape := ⟨3, ![256, 128, 4]⟩
abbrev S4x128x256 : Shape := ⟨3, ![4, 128, 256]⟩
abbrev S512x256 : Shape := ⟨2, ![512, 256]⟩
abbrev S256x128x3 : Shape := ⟨3, ![256, 128, 3]⟩
abbrev S3x128x256 : Shape := ⟨3, ![3, 128, 256]⟩
abbrev S384x256 : Shape := ⟨2, ![384, 256]⟩
abbrev S768 : Shape := ⟨1, ![768]⟩
abbrev S1x768 : Shape := ⟨2, ![1, 768]⟩
abbrev S12x3x256 : Shape := ⟨3, ![12, 3, 256]⟩
abbrev S4x3x256 : Shape := ⟨3, ![4, 3, 256]⟩
abbrev S4096x640 : Shape := ⟨2, ![4096, 640]⟩
abbrev S4095x128 : Shape := ⟨2, ![4095, 128]⟩
abbrev S1x128 : Shape := ⟨2, ![1, 128]⟩
abbrev S4x128 : Shape := ⟨2, ![4, 128]⟩
abbrev S4094x128 : Shape := ⟨2, ![4094, 128]⟩
abbrev S2x128 : Shape := ⟨2, ![2, 128]⟩
abbrev S4093x128 : Shape := ⟨2, ![4093, 128]⟩
abbrev S3x128 : Shape := ⟨2, ![3, 128]⟩
abbrev S4092x128 : Shape := ⟨2, ![4092, 128]⟩
abbrev S4096x256 : Shape := ⟨2, ![4096, 256]⟩
abbrev S1x256 : Shape := ⟨2, ![1, 256]⟩
abbrev S1020x256 : Shape := ⟨2, ![1020, 256]⟩
abbrev S1x1x256 : Shape := ⟨3, ![1, 1, 256]⟩
abbrev S4096x512 : Shape := ⟨2, ![4096, 512]⟩
abbrev S1021x256 : Shape := ⟨2, ![1021, 256]⟩
abbrev S4096x384 : Shape := ⟨2, ![4096, 384]⟩
abbrev S1022x256 : Shape := ⟨2, ![1022, 256]⟩
abbrev S256x1024 : Shape := ⟨2, ![256, 1024]⟩
abbrev S1x1024 : Shape := ⟨2, ![1, 1024]⟩
abbrev S512x20 : Shape := ⟨2, ![512, 20]⟩
abbrev S1x20 : Shape := ⟨2, ![1, 20]⟩
abbrev S16x20 : Shape := ⟨2, ![16, 20]⟩
abbrev S16x256 : Shape := ⟨2, ![16, 256]⟩
abbrev S12x1x256 : Shape := ⟨3, ![12, 1, 256]⟩
abbrev S12x256 : Shape := ⟨2, ![12, 256]⟩
abbrev S4x1x256 : Shape := ⟨3, ![4, 1, 256]⟩
abbrev S4x256 : Shape := ⟨2, ![4, 256]⟩
abbrev S16x512 : Shape := ⟨2, ![16, 512]⟩
abbrev S16 : Shape := ⟨1, ![16]⟩
abbrev S16x1 : Shape := ⟨2, ![16, 1]⟩

abbrev nBuf : Table → Nat
  | .hbm => 64
  | .local .tc .vmem => 25
  | .local .scVector .vmem => 4
  | _ => 0

abbrev bufTy : (tb : Table) → Fin (nBuf tb) → BufTy
  | .hbm, ⟨0, _⟩ => ⟨S1024x16, .i32⟩
  | .hbm, ⟨1, _⟩ => ⟨S256x128, .f32⟩
  | .hbm, ⟨2, _⟩ => ⟨S256x1x128x5, .f32⟩
  | .hbm, ⟨3, _⟩ => ⟨S256, .f32⟩
  | .hbm, ⟨4, _⟩ => ⟨S256x1x128x4, .f32⟩
  | .hbm, ⟨5, _⟩ => ⟨S256, .f32⟩
  | .hbm, ⟨6, _⟩ => ⟨S256x1x128x3, .f32⟩
  | .hbm, ⟨7, _⟩ => ⟨S256, .f32⟩
  | .hbm, ⟨8, _⟩ => ⟨S1024x256, .f32⟩
  | .hbm, ⟨9, _⟩ => ⟨S1024x256, .f32⟩
  | .hbm, ⟨10, _⟩ => ⟨S1024, .f32⟩
  | .hbm, ⟨11, _⟩ => ⟨S1024, .f32⟩
  | .hbm, ⟨12, _⟩ => ⟨S1024x256, .f32⟩
  | .hbm, ⟨13, _⟩ => ⟨S1024x256, .f32⟩
  | .hbm, ⟨14, _⟩ => ⟨S1024, .f32⟩
  | .hbm, ⟨15, _⟩ => ⟨S1024, .f32⟩
  | .hbm, ⟨16, _⟩ => ⟨S20x512, .f32⟩
  | .hbm, ⟨17, _⟩ => ⟨S20, .f32⟩
  | .hbm, ⟨18, _⟩ => ⟨S16x1024, .i32⟩
  | .hbm, ⟨19, _⟩ => ⟨S16384, .i32⟩
  | .hbm, ⟨20, _⟩ => ⟨S12288, .i32⟩
  | .hbm, ⟨21, _⟩ => ⟨S12288x128, .f32⟩
  | .hbm, ⟨22, _⟩ => ⟨S12x1024x128, .f32⟩
  | .hbm, ⟨23, _⟩ => ⟨S4096, .i32⟩
  | .hbm, ⟨24, _⟩ => ⟨S4096x128, .f32⟩
  | .hbm, ⟨25, _⟩ => ⟨S4x1024x128, .f32⟩
  | .hbm, ⟨26, _⟩ => ⟨S256x128x5, .f32⟩
  | .hbm, ⟨27, _⟩ => ⟨S5x128x256, .f32⟩
  | .hbm, ⟨28, _⟩ => ⟨S640x256, .f32⟩
  | .hbm, ⟨29, _⟩ => ⟨S_, .f32⟩
  | .hbm, ⟨30, _⟩ => ⟨S640x256, .f32⟩
  | .hbm, ⟨31, _⟩ => ⟨S640x256, .f32⟩
  | .hbm, ⟨32, _⟩ => ⟨S640x256, .fp8e4m3⟩
  | .hbm, ⟨33, _⟩ => ⟨S256x128x4, .f32⟩
  | .hbm, ⟨34, _⟩ => ⟨S4x128x256, .f32⟩
  | .hbm, ⟨35, _⟩ => ⟨S512x256, .f32⟩
  | .hbm, ⟨36, _⟩ => ⟨S_, .f32⟩
  | .hbm, ⟨37, _⟩ => ⟨S512x256, .f32⟩
  | .hbm, ⟨38, _⟩ => ⟨S512x256, .f32⟩
  | .hbm, ⟨39, _⟩ => ⟨S512x256, .fp8e4m3⟩
  | .hbm, ⟨40, _⟩ => ⟨S256x128x3, .f32⟩
  | .hbm, ⟨41, _⟩ => ⟨S3x128x256, .f32⟩
  | .hbm, ⟨42, _⟩ => ⟨S384x256, .f32⟩
  | .hbm, ⟨43, _⟩ => ⟨S_, .f32⟩
  | .hbm, ⟨44, _⟩ => ⟨S384x256, .f32⟩
  | .hbm, ⟨45, _⟩ => ⟨S384x256, .f32⟩
  | .hbm, ⟨46, _⟩ => ⟨S384x256, .fp8e4m3⟩
  | .hbm, ⟨47, _⟩ => ⟨S768, .f32⟩
  | .hbm, ⟨48, _⟩ => ⟨S1x768, .f32⟩
  | .hbm, ⟨49, _⟩ => ⟨S12x3x256, .f32⟩
  | .hbm, ⟨50, _⟩ => ⟨S256x1024, .f32⟩
  | .hbm, ⟨51, _⟩ => ⟨S256x1024, .bf16⟩
  | .hbm, ⟨52, _⟩ => ⟨S256x1024, .f32⟩
  | .hbm, ⟨53, _⟩ => ⟨S256x1024, .bf16⟩
  | .hbm, ⟨54, _⟩ => ⟨S1024, .f32⟩
  | .hbm, ⟨55, _⟩ => ⟨S1x1024, .f32⟩
  | .hbm, ⟨56, _⟩ => ⟨S256x1024, .f32⟩
  | .hbm, ⟨57, _⟩ => ⟨S256x1024, .bf16⟩
  | .hbm, ⟨58, _⟩ => ⟨S1024, .f32⟩
  | .hbm, ⟨59, _⟩ => ⟨S1x1024, .f32⟩
  | .hbm, ⟨60, _⟩ => ⟨S512x20, .f32⟩
  | .hbm, ⟨61, _⟩ => ⟨S512x20, .bf16⟩
  | .hbm, ⟨62, _⟩ => ⟨S1x20, .f32⟩
  | .hbm, ⟨63, _⟩ => ⟨S16x20, .f32⟩
  | .local .tc .vmem, ⟨0, _⟩ => ⟨S4x1024x128, .f32⟩
  | .local .tc .vmem, ⟨1, _⟩ => ⟨S4x1024x128, .f32⟩
  | .local .tc .vmem, ⟨2, _⟩ => ⟨S640x256, .fp8e4m3⟩
  | .local .tc .vmem, ⟨3, _⟩ => ⟨S512x256, .fp8e4m3⟩
  | .local .tc .vmem, ⟨4, _⟩ => ⟨S384x256, .fp8e4m3⟩
  | .local .tc .vmem, ⟨5, _⟩ => ⟨S1x768, .f32⟩
  | .local .tc .vmem, ⟨6, _⟩ => ⟨S4x3x256, .f32⟩
  | .local .tc .vmem, ⟨7, _⟩ => ⟨S4x3x256, .f32⟩
  | .local .tc .vmem, ⟨8, _⟩ => ⟨S4096x640, .fp8e4m3⟩
  | .local .tc .vmem, ⟨9, _⟩ => ⟨S4x1024x128, .f32⟩
  | .local .tc .vmem, ⟨10, _⟩ => ⟨S640x256, .fp8e4m3⟩
  | .local .tc .vmem, ⟨11, _⟩ => ⟨S512x256, .fp8e4m3⟩
  | .local .tc .vmem, ⟨12, _⟩ => ⟨S384x256, .fp8e4m3⟩
  | .local .tc .vmem, ⟨13, _⟩ => ⟨S1x768, .f32⟩
  | .local .tc .vmem, ⟨14, _⟩ => ⟨S12x3x256, .f32⟩
  | .local .tc .vmem, ⟨15, _⟩ => ⟨S256x1024, .bf16⟩
  | .local .tc .vmem, ⟨16, _⟩ => ⟨S256x1024, .bf16⟩
  | .local .tc .vmem, ⟨17, _⟩ => ⟨S1x1024, .f32⟩
  | .local .tc .vmem, ⟨18, _⟩ => ⟨S256x1024, .bf16⟩
  | .local .tc .vmem, ⟨19, _⟩ => ⟨S1x1024, .f32⟩
  | .local .tc .vmem, ⟨20, _⟩ => ⟨S512x20, .bf16⟩
  | .local .tc .vmem, ⟨21, _⟩ => ⟨S1x20, .f32⟩
  | .local .tc .vmem, ⟨22, _⟩ => ⟨S16x20, .f32⟩
  | .local .tc .vmem, ⟨23, _⟩ => ⟨S4096x640, .fp8e4m3⟩
  | .local .tc .vmem, ⟨24, _⟩ => ⟨S4x3x256, .f32⟩
  | .local .scVector .vmem, ⟨0, _⟩ => ⟨S384, .i32⟩
  | .local .scVector .vmem, ⟨1, _⟩ => ⟨S384x128, .f32⟩
  | .local .scVector .vmem, ⟨2, _⟩ => ⟨S128, .i32⟩
  | .local .scVector .vmem, ⟨3, _⟩ => ⟨S128x128, .f32⟩
  | _, _ => ⟨S1024x16, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 28 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTables nBuf rfl bufTy 4 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_1 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_arg1_scv : Ref sig .scVector := ⟨.hbm, 1, rfl⟩
abbrev main_v2_scv : Ref sig .scVector := ⟨.hbm, 20, rfl⟩
abbrev main_v3_scv : Ref sig .scVector := ⟨.hbm, 21, rfl⟩
abbrev main_v5_scv : Ref sig .scVector := ⟨.hbm, 23, rfl⟩
abbrev main_v6_scv : Ref sig .scVector := ⟨.hbm, 24, rfl⟩
abbrev cc2_stg0_0 : Ref sig .tc := ⟨.vmem, 0, rfl⟩
abbrev cc2_stg0_1 : Ref sig .tc := ⟨.vmem, 1, rfl⟩
abbrev cc2_stg1_0 : Ref sig .tc := ⟨.vmem, 2, rfl⟩
abbrev cc2_stg2_0 : Ref sig .tc := ⟨.vmem, 3, rfl⟩
abbrev cc2_stg3_0 : Ref sig .tc := ⟨.vmem, 4, rfl⟩
abbrev cc2_stg4_0 : Ref sig .tc := ⟨.vmem, 5, rfl⟩
abbrev cc2_stg5_0 : Ref sig .tc := ⟨.vmem, 6, rfl⟩
abbrev cc2_stg5_1 : Ref sig .tc := ⟨.vmem, 7, rfl⟩
abbrev cc2_scratch0 : Ref sig .tc := ⟨.vmem, 8, rfl⟩
abbrev cc3_stg0_0 : Ref sig .tc := ⟨.vmem, 9, rfl⟩
abbrev cc3_stg1_0 : Ref sig .tc := ⟨.vmem, 10, rfl⟩
abbrev cc3_stg2_0 : Ref sig .tc := ⟨.vmem, 11, rfl⟩
abbrev cc3_stg3_0 : Ref sig .tc := ⟨.vmem, 12, rfl⟩
abbrev cc3_stg4_0 : Ref sig .tc := ⟨.vmem, 13, rfl⟩
abbrev cc3_stg5_0 : Ref sig .tc := ⟨.vmem, 14, rfl⟩
abbrev cc3_stg6_0 : Ref sig .tc := ⟨.vmem, 15, rfl⟩
abbrev cc3_stg7_0 : Ref sig .tc := ⟨.vmem, 16, rfl⟩
abbrev cc3_stg8_0 : Ref sig .tc := ⟨.vmem, 17, rfl⟩
abbrev cc3_stg9_0 : Ref sig .tc := ⟨.vmem, 18, rfl⟩
abbrev cc3_stg10_0 : Ref sig .tc := ⟨.vmem, 19, rfl⟩
abbrev cc3_stg11_0 : Ref sig .tc := ⟨.vmem, 20, rfl⟩
abbrev cc3_stg12_0 : Ref sig .tc := ⟨.vmem, 21, rfl⟩
abbrev cc3_stg13_0 : Ref sig .tc := ⟨.vmem, 22, rfl⟩
abbrev cc3_scratch0 : Ref sig .tc := ⟨.vmem, 23, rfl⟩
abbrev cc3_scratch1 : Ref sig .tc := ⟨.vmem, 24, rfl⟩
abbrev cc0_scratch0 : Ref sig .scVector := ⟨.vmem, 0, rfl⟩
abbrev cc0_scratch1 : Ref sig .scVector := ⟨.vmem, 1, rfl⟩
abbrev cc1_scratch0 : Ref sig .scVector := ⟨.vmem, 2, rfl⟩
abbrev cc1_scratch1 : Ref sig .scVector := ⟨.vmem, 3, rfl⟩
abbrev cc2_sem0_0 : DmaSem sig := 6
abbrev cc2_sem0_1 : DmaSem sig := 7
abbrev cc2_sem1_0 : DmaSem sig := 8
abbrev cc2_sem2_0 : DmaSem sig := 9
abbrev cc2_sem3_0 : DmaSem sig := 10
abbrev cc2_sem4_0 : DmaSem sig := 11
abbrev cc2_sem5_0 : DmaSem sig := 12
abbrev cc2_sem5_1 : DmaSem sig := 13
abbrev cc3_sem0_0 : DmaSem sig := 14
abbrev cc3_sem1_0 : DmaSem sig := 15
abbrev cc3_sem2_0 : DmaSem sig := 16
abbrev cc3_sem3_0 : DmaSem sig := 17
abbrev cc3_sem4_0 : DmaSem sig := 18
abbrev cc3_sem5_0 : DmaSem sig := 19
abbrev cc3_sem6_0 : DmaSem sig := 20
abbrev cc3_sem7_0 : DmaSem sig := 21
abbrev cc3_sem8_0 : DmaSem sig := 22
abbrev cc3_sem9_0 : DmaSem sig := 23
abbrev cc3_sem10_0 : DmaSem sig := 24
abbrev cc3_sem11_0 : DmaSem sig := 25
abbrev cc3_sem12_0 : DmaSem sig := 26
abbrev cc3_sem13_0 : DmaSem sig := 27
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c384_i32 : BitVec 32 := 384#32
  let v2 : BitVec 32 := Scalar.muli v1 c384_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c384_i32 : BitVec 32 := 384#32
  let v2 : BitVec 32 := Scalar.muli v1 c384_i32
  let c0_i32_3_r1 : BitVec 32 := 0#32
  ![v2.toNat, 0]
abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_3_r1 : BitVec 32 := 0#32
  ![v2.toNat, 0]
abbrev grid2 : Pipeline.Grid := ⟨1, ![3], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S4x1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S640x256 .fp8e4m3 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S512x256 .fp8e4m3 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S384x256 .fp8e4m3 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x768 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4x3x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def k3_off1 (i : grid3.Coords) (c0_i32 : BitVec 32) : Fin 3 → Nat :=
  let arg0 : BitVec 32 := BitVec.ofNat 32 (i 0).val
  let c4_i32 : BitVec 32 := 4#32
  let v54 : BitVec 32 := Scalar.muli arg0 c4_i32
  let v55 : BitVec 32 := Scalar.addi v54 c0_i32
  let v56 : Index := Scalar.indexCast v55
  let c0_26 : Index := 0#32
  let c0_27 : Index := 0#32
  ![v56.toNat, 0, 0]
def k3_off2 (i : grid3.Coords) (c0_i32_55 : BitVec 32) : Fin 3 → Nat :=
  let arg0 : BitVec 32 := BitVec.ofNat 32 (i 0).val
  let c4_i32_54 : BitVec 32 := 4#32
  let v112 : BitVec 32 := Scalar.muli arg0 c4_i32_54
  let v113 : BitVec 32 := Scalar.addi v112 c0_i32_55
  let v114 : Index := Scalar.indexCast v113
  let c1 : Index := 1#32
  let c0_56 : Index := 0#32
  ![v114.toNat, 1, 0]
def k3_off3 (i : grid3.Coords) (c0_i32_87 : BitVec 32) : Fin 3 → Nat :=
  let arg0 : BitVec 32 := BitVec.ofNat 32 (i 0).val
  let c4_i32_86 : BitVec 32 := 4#32
  let v170 : BitVec 32 := Scalar.muli arg0 c4_i32_86
  let v171 : BitVec 32 := Scalar.addi v170 c0_i32_87
  let v172 : Index := Scalar.indexCast v171
  let c2 : Index := 2#32
  let c0_88 : Index := 0#32
  ![v172.toNat, 2, 0]
def k3_cond1 (i : grid3.Coords) : BitVec 1 :=
  let arg0 : BitVec 32 := BitVec.ofNat 32 (i 0).val
  let c0_i32_110 : BitVec 32 := 0#32
  let v215 : BitVec 1 := Scalar.cmpi .eq arg0 c0_i32_110
  let v216 : BitVec 32 := Scalar.extui v215
  let c0_i32_111 : BitVec 32 := 0#32
  let v217 : BitVec 1 := Scalar.cmpi .ne v216 c0_i32_111
  v217

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S4x1024x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S640x256 .fp8e4m3 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S512x256 .fp8e4m3 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S384x256 .fp8e4m3 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x768 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S12x3x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S256x1024 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S256x1024 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x1024 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S256x1024 .bf16 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x1024 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S512x20 .bf16 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x20 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S16x20 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S1024x16 : Shape := ⟨2, ![1024, 16]⟩
abbrev S256x128 : Shape := ⟨2, ![256, 128]⟩
abbrev S256x1x128x5 : Shape := ⟨4, ![256, 1, 128, 5]⟩
abbrev S256 : Shape := ⟨1, ![256]⟩
abbrev S256x1x128x4 : Shape := ⟨4, ![256, 1, 128, 4]⟩
abbrev S256x1x128x3 : Shape := ⟨4, ![256, 1, 128, 3]⟩
abbrev S1024x256 : Shape := ⟨2, ![1024, 256]⟩
abbrev S1024 : Shape := ⟨1, ![1024]⟩
abbrev S20x512 : Shape := ⟨2, ![20, 512]⟩
abbrev S20 : Shape := ⟨1, ![20]⟩
abbrev S_ : Shape := ⟨0, ![]⟩
abbrev S1024x16x1 : Shape := ⟨3, ![1024, 16, 1]⟩
abbrev S1 : Shape := ⟨1, ![1]⟩
abbrev S1x1x1 : Shape := ⟨3, ![1, 1, 1]⟩
abbrev S1024x16x128 : Shape := ⟨3, ![1024, 16, 128]⟩
abbrev S16x1024x128 : Shape := ⟨3, ![16, 1024, 128]⟩
abbrev S16x1020x128 : Shape := ⟨3, ![16, 1020, 128]⟩
abbrev S256x1x128x1 : Shape := ⟨4, ![256, 1, 128, 1]⟩
abbrev S16x1020x256 : Shape := ⟨3, ![16, 1020, 256]⟩
abbrev S1x1x256 : Shape := ⟨3, ![1, 1, 256]⟩
abbrev S16x256 : Shape := ⟨2, ![16, 256]⟩
abbrev S16x1021x128 : Shape := ⟨3, ![16, 1021, 128]⟩
abbrev S16x1021x256 : Shape := ⟨3, ![16, 1021, 256]⟩
abbrev S16x1022x128 : Shape := ⟨3, ![16, 1022, 128]⟩
abbrev S16x1022x256 : Shape := ⟨3, ![16, 1022, 256]⟩
abbrev S256x1024 : Shape := ⟨2, ![256, 1024]⟩
abbrev S16x1024 : Shape := ⟨2, ![16, 1024]⟩
abbrev S1x1024 : Shape := ⟨2, ![1, 1024]⟩
abbrev S16x512 : Shape := ⟨2, ![16, 512]⟩
abbrev S512x20 : Shape := ⟨2, ![512, 20]⟩
abbrev S16x20 : Shape := ⟨2, ![16, 20]⟩
abbrev S1x20 : Shape := ⟨2, ![1, 20]⟩
abbrev S16 : Shape := ⟨1, ![16]⟩
abbrev S16x1 : Shape := ⟨2, ![16, 1]⟩

abbrev nBuf : Space → Nat
  | .hbm => 341
  | .vmem => 0
  | .smem => 0
  | _ => 0

abbrev hbmTy0_0 (i : Nat) : BufTy := match i % 128 with
  | 0 => ⟨S1024x16, .i32⟩
  | 1 => ⟨S256x128, .f32⟩
  | 2 => ⟨S256x1x128x5, .f32⟩
  | 3 => ⟨S256, .f32⟩
  | 4 => ⟨S256x1x128x4, .f32⟩
  | 5 => ⟨S256, .f32⟩
  | 6 => ⟨S256x1x128x3, .f32⟩
  | 7 => ⟨S256, .f32⟩
  | 8 => ⟨S1024x256, .f32⟩
  | 9 => ⟨S1024x256, .f32⟩
  | 10 => ⟨S1024, .f32⟩
  | 11 => ⟨S1024, .f32⟩
  | 12 => ⟨S1024x256, .f32⟩
  | 13 => ⟨S1024x256, .f32⟩
  | 14 => ⟨S1024, .f32⟩
  | 15 => ⟨S1024, .f32⟩
  | 16 => ⟨S20x512, .f32⟩
  | 17 => ⟨S20, .f32⟩
  | 18 => ⟨S_, .i32⟩
  | 19 => ⟨S1024x16, .i32⟩
  | 20 => ⟨S1024x16, .i1⟩
  | 21 => ⟨S_, .i32⟩
  | 22 => ⟨S1024x16, .i32⟩
  | 23 => ⟨S1024x16, .i32⟩
  | 24 => ⟨S1024x16, .i32⟩
  | 25 => ⟨S1024x16x1, .i32⟩
  | 26 => ⟨S1, .i32⟩
  | 27 => ⟨S_, .i32⟩
  | 28 => ⟨S1024x16x1, .i32⟩
  | 29 => ⟨S1024x16x1, .i1⟩
  | 30 => ⟨S1x1x1, .i32⟩
  | 31 => ⟨S1024x16x1, .i32⟩
  | 32 => ⟨S1024x16x1, .i1⟩
  | 33 => ⟨S1024x16x1, .i1⟩
  | 34 => ⟨S_, .i1⟩
  | 35 => ⟨S1024x16, .i1⟩
  | 36 => ⟨S1024x16x128, .f32⟩
  | 37 => ⟨S1024x16x128, .i1⟩
  | 38 => ⟨S_, .f32⟩
  | 39 => ⟨S1024x16x128, .f32⟩
  | 40 => ⟨S1024x16x128, .f32⟩
  | 41 => ⟨S16x1024x128, .f32⟩
  | 42 => ⟨S16x1020x128, .f32⟩
  | 43 => ⟨S256x1x128x1, .f32⟩
  | 44 => ⟨S256x128, .f32⟩
  | 45 => ⟨S16x1020x256, .f32⟩
  | 46 => ⟨S_, .f32⟩
  | 47 => ⟨S16x1020x256, .f32⟩
  | 48 => ⟨S16x1020x256, .f32⟩
  | 49 => ⟨S16x1020x128, .f32⟩
  | 50 => ⟨S256x1x128x1, .f32⟩
  | 51 => ⟨S256x128, .f32⟩
  | 52 => ⟨S16x1020x256, .f32⟩
  | 53 => ⟨S16x1020x256, .f32⟩
  | 54 => ⟨S16x1020x128, .f32⟩
  | 55 => ⟨S256x1x128x1, .f32⟩
  | 56 => ⟨S256x128, .f32⟩
  | 57 => ⟨S16x1020x256, .f32⟩
  | 58 => ⟨S16x1020x256, .f32⟩
  | 59 => ⟨S16x1020x128, .f32⟩
  | 60 => ⟨S256x1x128x1, .f32⟩
  | 61 => ⟨S256x128, .f32⟩
  | 62 => ⟨S16x1020x256, .f32⟩
  | 63 => ⟨S16x1020x256, .f32⟩
  | 64 => ⟨S16x1020x128, .f32⟩
  | 65 => ⟨S256x1x128x1, .f32⟩
  | 66 => ⟨S256x128, .f32⟩
  | 67 => ⟨S16x1020x256, .f32⟩
  | 68 => ⟨S16x1020x256, .f32⟩
  | 69 => ⟨S1x1x256, .f32⟩
  | 70 => ⟨S16x1020x256, .f32⟩
  | 71 => ⟨S16x1020x256, .f32⟩
  | 72 => ⟨S_, .f32⟩
  | 73 => ⟨S16x1020x256, .f32⟩
  | 74 => ⟨S16x1020x256, .f32⟩
  | 75 => ⟨S_, .f32⟩
  | 76 => ⟨S16x256, .f32⟩
  | 77 => ⟨S16x1021x128, .f32⟩
  | 78 => ⟨S256x1x128x1, .f32⟩
  | 79 => ⟨S256x128, .f32⟩
  | 80 => ⟨S16x1021x256, .f32⟩
  | 81 => ⟨S_, .f32⟩
  | 82 => ⟨S16x1021x256, .f32⟩
  | 83 => ⟨S16x1021x256, .f32⟩
  | 84 => ⟨S16x1021x128, .f32⟩
  | 85 => ⟨S256x1x128x1, .f32⟩
  | 86 => ⟨S256x128, .f32⟩
  | 87 => ⟨S16x1021x256, .f32⟩
  | 88 => ⟨S16x1021x256, .f32⟩
  | 89 => ⟨S16x1021x128, .f32⟩
  | 90 => ⟨S256x1x128x1, .f32⟩
  | 91 => ⟨S256x128, .f32⟩
  | 92 => ⟨S16x1021x256, .f32⟩
  | 93 => ⟨S16x1021x256, .f32⟩
  | 94 => ⟨S16x1021x128, .f32⟩
  | 95 => ⟨S256x1x128x1, .f32⟩
  | 96 => ⟨S256x128, .f32⟩
  | 97 => ⟨S16x1021x256, .f32⟩
  | 98 => ⟨S16x1021x256, .f32⟩
  | 99 => ⟨S1x1x256, .f32⟩
  | 100 => ⟨S16x1021x256, .f32⟩
  | 101 => ⟨S16x1021x256, .f32⟩
  | 102 => ⟨S_, .f32⟩
  | 103 => ⟨S16x1021x256, .f32⟩
  | 104 => ⟨S16x1021x256, .f32⟩
  | 105 => ⟨S_, .f32⟩
  | 106 => ⟨S16x256, .f32⟩
  | 107 => ⟨S16x1022x128, .f32⟩
  | 108 => ⟨S256x1x128x1, .f32⟩
  | 109 => ⟨S256x128, .f32⟩
  | 110 => ⟨S16x1022x256, .f32⟩
  | 111 => ⟨S_, .f32⟩
  | 112 => ⟨S16x1022x256, .f32⟩
  | 113 => ⟨S16x1022x256, .f32⟩
  | 114 => ⟨S16x1022x128, .f32⟩
  | 115 => ⟨S256x1x128x1, .f32⟩
  | 116 => ⟨S256x128, .f32⟩
  | 117 => ⟨S16x1022x256, .f32⟩
  | 118 => ⟨S16x1022x256, .f32⟩
  | 119 => ⟨S16x1022x128, .f32⟩
  | 120 => ⟨S256x1x128x1, .f32⟩
  | 121 => ⟨S256x128, .f32⟩
  | 122 => ⟨S16x1022x256, .f32⟩
  | 123 => ⟨S16x1022x256, .f32⟩
  | 124 => ⟨S1x1x256, .f32⟩
  | 125 => ⟨S16x1022x256, .f32⟩
  | 126 => ⟨S16x1022x256, .f32⟩
  | 127 => ⟨S_, .f32⟩
  | _ => ⟨S1024x16, .i32⟩

abbrev hbmTy0_1 (i : Nat) : BufTy := match i % 128 with
  | 0 => ⟨S16x1022x256, .f32⟩
  | 1 => ⟨S16x1022x256, .f32⟩
  | 2 => ⟨S_, .f32⟩
  | 3 => ⟨S16x256, .f32⟩
  | 4 => ⟨S_, .f32⟩
  | 5 => ⟨S16x256, .f32⟩
  | 6 => ⟨S_, .f32⟩
  | 7 => ⟨S16x256, .f32⟩
  | 8 => ⟨S256x1024, .f32⟩
  | 9 => ⟨S16x1024, .f32⟩
  | 10 => ⟨S256x1024, .f32⟩
  | 11 => ⟨S16x1024, .f32⟩
  | 12 => ⟨S16x1024, .f32⟩
  | 13 => ⟨S1x1024, .f32⟩
  | 14 => ⟨S16x1024, .f32⟩
  | 15 => ⟨S16x1024, .f32⟩
  | 16 => ⟨S1x1024, .f32⟩
  | 17 => ⟨S16x1024, .f32⟩
  | 18 => ⟨S16x1024, .f32⟩
  | 19 => ⟨S16x256, .f32⟩
  | 20 => ⟨S16x256, .f32⟩
  | 21 => ⟨S16x256, .f32⟩
  | 22 => ⟨S16x256, .f32⟩
  | 23 => ⟨S16x256, .f32⟩
  | 24 => ⟨S16x256, .f32⟩
  | 25 => ⟨S_, .f32⟩
  | 26 => ⟨S16x256, .f32⟩
  | 27 => ⟨S16x256, .f32⟩
  | 28 => ⟨S_, .f32⟩
  | 29 => ⟨S16x256, .f32⟩
  | 30 => ⟨S16x256, .f32⟩
  | 31 => ⟨S16x256, .f32⟩
  | 32 => ⟨S16x256, .f32⟩
  | 33 => ⟨S_, .f32⟩
  | 34 => ⟨S16x256, .f32⟩
  | 35 => ⟨S16x256, .f32⟩
  | 36 => ⟨S_, .f32⟩
  | 37 => ⟨S16x256, .f32⟩
  | 38 => ⟨S16x256, .f32⟩
  | 39 => ⟨S16x256, .f32⟩
  | 40 => ⟨S16x256, .f32⟩
  | 41 => ⟨S16x256, .f32⟩
  | 42 => ⟨S_, .f32⟩
  | 43 => ⟨S16x256, .f32⟩
  | 44 => ⟨S16x256, .f32⟩
  | 45 => ⟨S_, .f32⟩
  | 46 => ⟨S16x256, .f32⟩
  | 47 => ⟨S16x256, .f32⟩
  | 48 => ⟨S16x256, .f32⟩
  | 49 => ⟨S16x256, .f32⟩
  | 50 => ⟨S16x256, .f32⟩
  | 51 => ⟨S16x256, .f32⟩
  | 52 => ⟨S16x256, .f32⟩
  | 53 => ⟨S256x1024, .f32⟩
  | 54 => ⟨S16x1024, .f32⟩
  | 55 => ⟨S256x1024, .f32⟩
  | 56 => ⟨S16x1024, .f32⟩
  | 57 => ⟨S16x1024, .f32⟩
  | 58 => ⟨S1x1024, .f32⟩
  | 59 => ⟨S16x1024, .f32⟩
  | 60 => ⟨S16x1024, .f32⟩
  | 61 => ⟨S1x1024, .f32⟩
  | 62 => ⟨S16x1024, .f32⟩
  | 63 => ⟨S16x1024, .f32⟩
  | 64 => ⟨S16x256, .f32⟩
  | 65 => ⟨S16x256, .f32⟩
  | 66 => ⟨S16x256, .f32⟩
  | 67 => ⟨S16x256, .f32⟩
  | 68 => ⟨S16x256, .f32⟩
  | 69 => ⟨S16x256, .f32⟩
  | 70 => ⟨S_, .f32⟩
  | 71 => ⟨S16x256, .f32⟩
  | 72 => ⟨S16x256, .f32⟩
  | 73 => ⟨S_, .f32⟩
  | 74 => ⟨S16x256, .f32⟩
  | 75 => ⟨S16x256, .f32⟩
  | 76 => ⟨S16x256, .f32⟩
  | 77 => ⟨S16x256, .f32⟩
  | 78 => ⟨S_, .f32⟩
  | 79 => ⟨S16x256, .f32⟩
  | 80 => ⟨S16x256, .f32⟩
  | 81 => ⟨S_, .f32⟩
  | 82 => ⟨S16x256, .f32⟩
  | 83 => ⟨S16x256, .f32⟩
  | 84 => ⟨S16x256, .f32⟩
  | 85 => ⟨S16x256, .f32⟩
  | 86 => ⟨S16x256, .f32⟩
  | 87 => ⟨S_, .f32⟩
  | 88 => ⟨S16x256, .f32⟩
  | 89 => ⟨S16x256, .f32⟩
  | 90 => ⟨S_, .f32⟩
  | 91 => ⟨S16x256, .f32⟩
  | 92 => ⟨S16x256, .f32⟩
  | 93 => ⟨S16x256, .f32⟩
  | 94 => ⟨S16x256, .f32⟩
  | 95 => ⟨S16x256, .f32⟩
  | 96 => ⟨S16x256, .f32⟩
  | 97 => ⟨S16x256, .f32⟩
  | 98 => ⟨S256x1024, .f32⟩
  | 99 => ⟨S16x1024, .f32⟩
  | 100 => ⟨S256x1024, .f32⟩
  | 101 => ⟨S16x1024, .f32⟩
  | 102 => ⟨S16x1024, .f32⟩
  | 103 => ⟨S1x1024, .f32⟩
  | 104 => ⟨S16x1024, .f32⟩
  | 105 => ⟨S16x1024, .f32⟩
  | 106 => ⟨S1x1024, .f32⟩
  | 107 => ⟨S16x1024, .f32⟩
  | 108 => ⟨S16x1024, .f32⟩
  | 109 => ⟨S16x256, .f32⟩
  | 110 => ⟨S16x256, .f32⟩
  | 111 => ⟨S16x256, .f32⟩
  | 112 => ⟨S16x256, .f32⟩
  | 113 => ⟨S16x256, .f32⟩
  | 114 => ⟨S16x256, .f32⟩
  | 115 => ⟨S_, .f32⟩
  | 116 => ⟨S16x256, .f32⟩
  | 117 => ⟨S16x256, .f32⟩
  | 118 => ⟨S_, .f32⟩
  | 119 => ⟨S16x256, .f32⟩
  | 120 => ⟨S16x256, .f32⟩
  | 121 => ⟨S16x256, .f32⟩
  | 122 => ⟨S16x256, .f32⟩
  | 123 => ⟨S_, .f32⟩
  | 124 => ⟨S16x256, .f32⟩
  | 125 => ⟨S16x256, .f32⟩
  | 126 => ⟨S_, .f32⟩
  | 127 => ⟨S16x256, .f32⟩
  | _ => ⟨S1024x16, .i32⟩

abbrev hbmTy0_2 (i : Nat) : BufTy := match i % 128 with
  | 0 => ⟨S16x256, .f32⟩
  | 1 => ⟨S16x256, .f32⟩
  | 2 => ⟨S16x256, .f32⟩
  | 3 => ⟨S16x256, .f32⟩
  | 4 => ⟨S_, .f32⟩
  | 5 => ⟨S16x256, .f32⟩
  | 6 => ⟨S16x256, .f32⟩
  | 7 => ⟨S_, .f32⟩
  | 8 => ⟨S16x256, .f32⟩
  | 9 => ⟨S16x256, .f32⟩
  | 10 => ⟨S16x256, .f32⟩
  | 11 => ⟨S16x256, .f32⟩
  | 12 => ⟨S16x256, .f32⟩
  | 13 => ⟨S16x256, .f32⟩
  | 14 => ⟨S16x256, .f32⟩
  | 15 => ⟨S_, .f32⟩
  | 16 => ⟨S16x256, .f32⟩
  | 17 => ⟨S_, .f32⟩
  | 18 => ⟨S16x256, .f32⟩
  | 19 => ⟨S256x1024, .f32⟩
  | 20 => ⟨S16x1024, .f32⟩
  | 21 => ⟨S256x1024, .f32⟩
  | 22 => ⟨S16x1024, .f32⟩
  | 23 => ⟨S16x1024, .f32⟩
  | 24 => ⟨S1x1024, .f32⟩
  | 25 => ⟨S16x1024, .f32⟩
  | 26 => ⟨S16x1024, .f32⟩
  | 27 => ⟨S1x1024, .f32⟩
  | 28 => ⟨S16x1024, .f32⟩
  | 29 => ⟨S16x1024, .f32⟩
  | 30 => ⟨S16x256, .f32⟩
  | 31 => ⟨S16x256, .f32⟩
  | 32 => ⟨S16x256, .f32⟩
  | 33 => ⟨S16x256, .f32⟩
  | 34 => ⟨S16x256, .f32⟩
  | 35 => ⟨S16x256, .f32⟩
  | 36 => ⟨S_, .f32⟩
  | 37 => ⟨S16x256, .f32⟩
  | 38 => ⟨S16x256, .f32⟩
  | 39 => ⟨S_, .f32⟩
  | 40 => ⟨S16x256, .f32⟩
  | 41 => ⟨S16x256, .f32⟩
  | 42 => ⟨S16x256, .f32⟩
  | 43 => ⟨S16x256, .f32⟩
  | 44 => ⟨S_, .f32⟩
  | 45 => ⟨S16x256, .f32⟩
  | 46 => ⟨S16x256, .f32⟩
  | 47 => ⟨S_, .f32⟩
  | 48 => ⟨S16x256, .f32⟩
  | 49 => ⟨S16x256, .f32⟩
  | 50 => ⟨S16x256, .f32⟩
  | 51 => ⟨S16x256, .f32⟩
  | 52 => ⟨S16x256, .f32⟩
  | 53 => ⟨S_, .f32⟩
  | 54 => ⟨S16x256, .f32⟩
  | 55 => ⟨S16x256, .f32⟩
  | 56 => ⟨S_, .f32⟩
  | 57 => ⟨S16x256, .f32⟩
  | 58 => ⟨S16x256, .f32⟩
  | 59 => ⟨S16x256, .f32⟩
  | 60 => ⟨S16x256, .f32⟩
  | 61 => ⟨S16x256, .f32⟩
  | 62 => ⟨S16x256, .f32⟩
  | 63 => ⟨S16x256, .f32⟩
  | 64 => ⟨S16x512, .f32⟩
  | 65 => ⟨S512x20, .f32⟩
  | 66 => ⟨S16x20, .f32⟩
  | 67 => ⟨S1x20, .f32⟩
  | 68 => ⟨S16x20, .f32⟩
  | 69 => ⟨S16x20, .f32⟩
  | 70 => ⟨S_, .f32⟩
  | 71 => ⟨S16, .f32⟩
  | 72 => ⟨S_, .f32⟩
  | 73 => ⟨S16, .f32⟩
  | 74 => ⟨S16, .f32⟩
  | 75 => ⟨S16x1, .f32⟩
  | 76 => ⟨S16x20, .f32⟩
  | 77 => ⟨S16x20, .f32⟩
  | 78 => ⟨S16x20, .f32⟩
  | 79 => ⟨S_, .f32⟩
  | 80 => ⟨S16, .f32⟩
  | 81 => ⟨S16x1, .f32⟩
  | 82 => ⟨S16x1, .f32⟩
  | 83 => ⟨S16x20, .f32⟩
  | 84 => ⟨S16x20, .f32⟩
  | _ => ⟨S1024x16, .i32⟩

abbrev hbmTy (i : Nat) : BufTy := match i / 128 with
  | 0 => hbmTy0_0 i
  | 1 => hbmTy0_1 i
  | 2 => hbmTy0_2 i
  | _ => ⟨S1024x16, .i32⟩

abbrev bufTy : (tb : Table) → Fin (tcTables nBuf tb) → BufTy
  | .hbm, ⟨i, _⟩ => hbmTy i
  | _, _ => ⟨S1024x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v0 : Ref sig .tc := ⟨.hbm, 40, rfl⟩
abbrev main_v1 : Ref sig .tc := ⟨.hbm, 41, rfl⟩
abbrev main_v2 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_cst : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_call1_cst : Ref sig .tc := ⟨.hbm, 72, rfl⟩
abbrev main_call1_v0 : Ref sig .tc := ⟨.hbm, 73, rfl⟩
abbrev main_v31 : Ref sig .tc := ⟨.hbm, 74, rfl⟩
abbrev main_cst_0 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_cst_1 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_call2_cst : Ref sig .tc := ⟨.hbm, 102, rfl⟩
abbrev main_call2_v0 : Ref sig .tc := ⟨.hbm, 103, rfl⟩
abbrev main_v57 : Ref sig .tc := ⟨.hbm, 104, rfl⟩
abbrev main_cst_2 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_cst_3 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_call3_cst : Ref sig .tc := ⟨.hbm, 127, rfl⟩
abbrev main_call3_v0 : Ref sig .tc := ⟨.hbm, 128, rfl⟩
abbrev main_v78 : Ref sig .tc := ⟨.hbm, 129, rfl⟩
abbrev main_cst_4 : Ref sig .tc := ⟨.hbm, 130, rfl⟩
abbrev main_v79 : Ref sig .tc := ⟨.hbm, 131, rfl⟩
abbrev main_cst_5 : Ref sig .tc := ⟨.hbm, 132, rfl⟩
abbrev main_v80 : Ref sig .tc := ⟨.hbm, 133, rfl⟩
abbrev main_cst_6 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_cst_7 : Ref sig .tc := ⟨.hbm, 153, rfl⟩
abbrev main_v99 : Ref sig .tc := ⟨.hbm, 154, rfl⟩
abbrev main_v100 : Ref sig .tc := ⟨.hbm, 155, rfl⟩
abbrev main_cst_8 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_cst_9 : Ref sig .tc := ⟨.hbm, 161, rfl⟩
abbrev main_v105 : Ref sig .tc := ⟨.hbm, 162, rfl⟩
abbrev main_v106 : Ref sig .tc := ⟨.hbm, 163, rfl⟩
abbrev main_cst_10 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_cst_11 : Ref sig .tc := ⟨.hbm, 170, rfl⟩
abbrev main_v112 : Ref sig .tc := ⟨.hbm, 171, rfl⟩
abbrev main_v113 : Ref sig .tc := ⟨.hbm, 172, rfl⟩
abbrev main_cst_12 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_cst_13 : Ref sig .tc := ⟨.hbm, 198, rfl⟩
abbrev main_v138 : Ref sig .tc := ⟨.hbm, 199, rfl⟩
abbrev main_v139 : Ref sig .tc := ⟨.hbm, 200, rfl⟩
abbrev main_cst_14 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_cst_15 : Ref sig .tc := ⟨.hbm, 206, rfl⟩
abbrev main_v144 : Ref sig .tc := ⟨.hbm, 207, rfl⟩
abbrev main_v145 : Ref sig .tc := ⟨.hbm, 208, rfl⟩
abbrev main_cst_16 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_cst_17 : Ref sig .tc := ⟨.hbm, 215, rfl⟩
abbrev main_v151 : Ref sig .tc := ⟨.hbm, 216, rfl⟩
abbrev main_v152 : Ref sig .tc := ⟨.hbm, 217, rfl⟩
abbrev main_cst_18 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_cst_19 : Ref sig .tc := ⟨.hbm, 243, rfl⟩
abbrev main_v177 : Ref sig .tc := ⟨.hbm, 244, rfl⟩
abbrev main_v178 : Ref sig .tc := ⟨.hbm, 245, rfl⟩
abbrev main_cst_20 : Ref sig .tc := ⟨.hbm, 246, rfl⟩
abbrev main_v179 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev main_cst_21 : Ref sig .tc := ⟨.hbm, 251, rfl⟩
abbrev main_v183 : Ref sig .tc := ⟨.hbm, 252, rfl⟩
abbrev main_v184 : Ref sig .tc := ⟨.hbm, 253, rfl⟩
abbrev main_cst_22 : Ref sig .tc := ⟨.hbm, 254, rfl⟩
abbrev main_v185 : Ref sig .tc := ⟨.hbm, 255, rfl⟩
abbrev main_v186 : Ref sig .tc := ⟨.hbm, 256, rfl⟩
abbrev main_v187 : Ref sig .tc := ⟨.hbm, 257, rfl⟩
abbrev main_v188 : Ref sig .tc := ⟨.hbm, 258, rfl⟩
abbrev main_v189 : Ref sig .tc := ⟨.hbm, 259, rfl⟩
abbrev main_cst_23 : Ref sig .tc := ⟨.hbm, 260, rfl⟩
abbrev main_v190 : Ref sig .tc := ⟨.hbm, 261, rfl⟩
abbrev main_v191 : Ref sig .tc := ⟨.hbm, 262, rfl⟩
abbrev main_cst_24 : Ref sig .tc := ⟨.hbm, 263, rfl⟩
abbrev main_v192 : Ref sig .tc := ⟨.hbm, 264, rfl⟩
abbrev main_v193 : Ref sig .tc := ⟨.hbm, 265, rfl⟩
abbrev main_v194 : Ref sig .tc := ⟨.hbm, 266, rfl⟩
abbrev main_v195 : Ref sig .tc := ⟨.hbm, 267, rfl⟩
abbrev main_v196 : Ref sig .tc := ⟨.hbm, 268, rfl⟩
abbrev main_v197 : Ref sig .tc := ⟨.hbm, 269, rfl⟩
abbrev main_v198 : Ref sig .tc := ⟨.hbm, 270, rfl⟩
abbrev main_cst_25 : Ref sig .tc := ⟨.hbm, 271, rfl⟩
abbrev main_v199 : Ref sig .tc := ⟨.hbm, 272, rfl⟩
abbrev main_cst_26 : Ref sig .tc := ⟨.hbm, 273, rfl⟩
abbrev main_v200 : Ref sig .tc := ⟨.hbm, 274, rfl⟩
abbrev main_v201 : Ref sig .tc := ⟨.hbm, 275, rfl⟩
abbrev main_v202 : Ref sig .tc := ⟨.hbm, 276, rfl⟩
abbrev main_v203 : Ref sig .tc := ⟨.hbm, 277, rfl⟩
abbrev main_v204 : Ref sig .tc := ⟨.hbm, 278, rfl⟩
abbrev main_v205 : Ref sig .tc := ⟨.hbm, 279, rfl⟩
abbrev main_v206 : Ref sig .tc := ⟨.hbm, 280, rfl⟩
abbrev main_v207 : Ref sig .tc := ⟨.hbm, 281, rfl⟩
abbrev main_v208 : Ref sig .tc := ⟨.hbm, 282, rfl⟩
abbrev main_v209 : Ref sig .tc := ⟨.hbm, 283, rfl⟩
abbrev main_v210 : Ref sig .tc := ⟨.hbm, 284, rfl⟩
abbrev main_v211 : Ref sig .tc := ⟨.hbm, 285, rfl⟩
abbrev main_v212 : Ref sig .tc := ⟨.hbm, 286, rfl⟩
abbrev main_v213 : Ref sig .tc := ⟨.hbm, 287, rfl⟩
abbrev main_v214 : Ref sig .tc := ⟨.hbm, 288, rfl⟩
abbrev main_v215 : Ref sig .tc := ⟨.hbm, 289, rfl⟩
abbrev main_v216 : Ref sig .tc := ⟨.hbm, 290, rfl⟩
abbrev main_v217 : Ref sig .tc := ⟨.hbm, 291, rfl⟩
abbrev main_cst_27 : Ref sig .tc := ⟨.hbm, 292, rfl⟩
abbrev main_v218 : Ref sig .tc := ⟨.hbm, 293, rfl⟩
abbrev main_v219 : Ref sig .tc := ⟨.hbm, 294, rfl⟩
abbrev main_cst_28 : Ref sig .tc := ⟨.hbm, 295, rfl⟩
abbrev main_v220 : Ref sig .tc := ⟨.hbm, 296, rfl⟩
abbrev main_v221 : Ref sig .tc := ⟨.hbm, 297, rfl⟩
abbrev main_v222 : Ref sig .tc := ⟨.hbm, 298, rfl⟩
abbrev main_v223 : Ref sig .tc := ⟨.hbm, 299, rfl⟩
abbrev main_cst_29 : Ref sig .tc := ⟨.hbm, 300, rfl⟩
abbrev main_v224 : Ref sig .tc := ⟨.hbm, 301, rfl⟩
abbrev main_v225 : Ref sig .tc := ⟨.hbm, 302, rfl⟩
abbrev main_cst_30 : Ref sig .tc := ⟨.hbm, 303, rfl⟩
abbrev main_v226 : Ref sig .tc := ⟨.hbm, 304, rfl⟩
abbrev main_v227 : Ref sig .tc := ⟨.hbm, 305, rfl⟩
abbrev main_v228 : Ref sig .tc := ⟨.hbm, 306, rfl⟩
abbrev main_v229 : Ref sig .tc := ⟨.hbm, 307, rfl⟩
abbrev main_v230 : Ref sig .tc := ⟨.hbm, 308, rfl⟩
abbrev main_cst_31 : Ref sig .tc := ⟨.hbm, 309, rfl⟩
abbrev main_v231 : Ref sig .tc := ⟨.hbm, 310, rfl⟩
abbrev main_v232 : Ref sig .tc := ⟨.hbm, 311, rfl⟩
abbrev main_cst_32 : Ref sig .tc := ⟨.hbm, 312, rfl⟩
abbrev main_v233 : Ref sig .tc := ⟨.hbm, 313, rfl⟩
abbrev main_v234 : Ref sig .tc := ⟨.hbm, 314, rfl⟩
abbrev main_v235 : Ref sig .tc := ⟨.hbm, 315, rfl⟩
abbrev main_v236 : Ref sig .tc := ⟨.hbm, 316, rfl⟩
abbrev main_v237 : Ref sig .tc := ⟨.hbm, 317, rfl⟩
abbrev main_v238 : Ref sig .tc := ⟨.hbm, 318, rfl⟩
abbrev main_v239 : Ref sig .tc := ⟨.hbm, 319, rfl⟩
abbrev main_v240 : Ref sig .tc := ⟨.hbm, 320, rfl⟩
abbrev main_v241 : Ref sig .tc := ⟨.hbm, 321, rfl⟩
abbrev main_v242 : Ref sig .tc := ⟨.hbm, 322, rfl⟩
abbrev main_v243 : Ref sig .tc := ⟨.hbm, 323, rfl⟩
abbrev main_v244 : Ref sig .tc := ⟨.hbm, 324, rfl⟩
abbrev main_v245 : Ref sig .tc := ⟨.hbm, 325, rfl⟩
abbrev main_call4_cst : Ref sig .tc := ⟨.hbm, 326, rfl⟩
abbrev main_call4_v0 : Ref sig .tc := ⟨.hbm, 327, rfl⟩
abbrev main_call4_cst_0 : Ref sig .tc := ⟨.hbm, 328, rfl⟩
abbrev main_call4_v1 : Ref sig .tc := ⟨.hbm, 329, rfl⟩
abbrev main_call4_v2 : Ref sig .tc := ⟨.hbm, 330, rfl⟩
abbrev main_call4_v3 : Ref sig .tc := ⟨.hbm, 331, rfl⟩
abbrev main_call4_v4 : Ref sig .tc := ⟨.hbm, 332, rfl⟩
abbrev main_call4_v5 : Ref sig .tc := ⟨.hbm, 333, rfl⟩
abbrev main_call4_v6 : Ref sig .tc := ⟨.hbm, 334, rfl⟩
abbrev main_call4_cst_1 : Ref sig .tc := ⟨.hbm, 335, rfl⟩
abbrev main_call4_v7 : Ref sig .tc := ⟨.hbm, 336, rfl⟩
abbrev main_call4_v8 : Ref sig .tc := ⟨.hbm, 337, rfl⟩
abbrev main_call4_v9 : Ref sig .tc := ⟨.hbm, 338, rfl⟩
abbrev main_call4_v10 : Ref sig .tc := ⟨.hbm, 339, rfl⟩
abbrev main_v246 : Ref sig .tc := ⟨.hbm, 340, rfl⟩

abbrev nD : Nat := 1
abbrev τ : Topo := Topo.v7x

variable {F : FTy → Type} [FloatOps F]
-- ==== Proof.ScSetup.lean ====
/-
  What the two SparseCore calls of the kernel share: the program as the launch theorem sees it, the resource algebra
  (the handshakes' rounds, the pipelines' rounds of the TensorCore regions, the transfers' counters), and the rows a
  tile of the 2 × 16 grid owns.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.PointwiseCore
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are apart and unscoped where the launch theorem asks it. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 2) (Elt F) ℕ UU ℕ

/-- The handshakes' rounds. -/
abbrev EH : Emb UH (MT nD τ sig (HIx 2) (Elt F) ℕ UU ℕ) := embL

/-! ## Contents of a valuation -/

/-- Buffer `b` of a valuation. -/
abbrev bv (W : Valuation τ sig (Elt F)) (b : Ref sig .tc) : b.ty.Contents (Elt F) := W (Proc.devRef .tc b)

/-- Row `j 0` of the result is the table's row that the list names at `j 0`. -/
def gathered {n : ℕ} (tbl : S256x128.Idx → Elt F .f32) (ix : (⟨1, ![n]⟩ : Shape).Idx → Elt F .i32) : (⟨2, ![n, 128]⟩ : Shape).Idx → Elt F .f32 :=
  fun j => tbl (ValueIdx.ix2 ⟨(ix (ValueIdx.ix1 (j 0))).toNat % 256, Nat.mod_lt _ (by decide)⟩ (j 1))

/-! ## The tiles of the grid -/

/-- The block that tile `s` of SparseCore `c` owns. -/
def tid (c : Fin 2) (s : Fin 16) : Fin 32 := finProdFinEquiv (s, c)

theorem tid_val (c : Fin 2) (s : Fin 16) : (tid c s).val = 2 * s.val + c.val := by
  unfold tid; simp [finProdFinEquiv]; omega

/-- What all 32 blocks hold is what the tiles of either SparseCore hold. -/
theorem bigSep_tid (Φ : Fin 32 → sProp 𝕄) :
    bigSep Finset.univ Φ = bigSep Finset.univ fun c : Fin 2 => bigSep Finset.univ fun s : Fin 16 => Φ (tid c s) := by
  rw [bigSep_univ_equiv ((Equiv.prodComm (Fin 2) (Fin 16)).trans finProdFinEquiv) Φ, bigSep_univ_prod]
  rfl

/-- The share of the table that block `k`'s tile reads through. -/
abbrev xq (k : Fin 32) : PosShare TreeShare := pieceOf fullShare 32 (by decide) k

end Cert.Proof.Sc

end
-- ==== Proof.ScCall0.lean ====
/-
  The first SparseCore gather: tile `(c, s)` fetches its 384 row numbers, gathers those rows of the table and writes
  them out as rows `384 · (2 s + c) …` of the result.
-/
module

public import proofs.«01_k».proof.Proof.ScSetup

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

namespace Call0

variable {F : FTy → Type}

local notation "𝕄" => MT nD τ sig (HIx 2) (Elt F) ℕ UU ℕ

local notation "iV" => (Memref.whole Cert.KernelIdeal.main_v2_scv : Memref Cert.KernelIdeal.sig Kind.scVector Space.hbm Cert.KernelIdeal.S12288 EltTy.i32)
local notation "xV" => (Memref.whole Cert.KernelIdeal.main_arg1_scv : Memref Cert.KernelIdeal.sig Kind.scVector Space.hbm Cert.KernelIdeal.S256x128 EltTy.f32)
local notation "oV" => (Memref.whole Cert.KernelIdeal.main_v3_scv : Memref Cert.KernelIdeal.sig Kind.scVector Space.hbm Cert.KernelIdeal.S12288x128 EltTy.f32)
local notation "sV" => (Memref.whole Cert.KernelIdeal.cc0_scratch0 : Memref Cert.KernelIdeal.sig Kind.scVector Space.vmem Cert.KernelIdeal.S384 EltTy.i32)
local notation "rV" => (Memref.whole Cert.KernelIdeal.cc0_scratch1 : Memref Cert.KernelIdeal.sig Kind.scVector Space.vmem Cert.KernelIdeal.S384x128 EltTy.f32)

/-! ## The buffers and their rows -/

abbrev iLoc (d : Dev nD) : Loc nD τ sig := (SparseCore.T d).loc main_v2
abbrev xLoc (d : Dev nD) : Loc nD τ sig := (SparseCore.T d).loc main_arg1
abbrev oLoc (d : Dev nD) : Loc nD τ sig := (SparseCore.T d).loc main_v3

theorem idiv : 32 ∣ S12288.size 0 := ⟨384, rfl⟩
theorem odiv : 32 ∣ S12288x128.size 0 := ⟨384, rfl⟩
abbrev iRow (k : Fin 32) : Finset S12288.Idx := (Rect.part (s := S12288) (a₀ := 0) idiv k).set
abbrev oRow (k : Fin 32) : Finset S12288x128.Idx := (Rect.part (s := S12288x128) (a₀ := 0) odiv k).set

/-- The index list is its 32 blocks. -/
theorem iPts_rows (d : Dev nD) (f : Buf (Elt F) (iLoc d)) :
    (iLoc d ↦{fullShare} f : sProp 𝕄) = bigSep Finset.univ fun k : Fin 32 => iLoc d ↦[iRow k]{fullShare} f := by
  rw [← pointsTo_biUnion Finset.univ (ℓ := iLoc d) iRow (fun i _ j _ h => Rect.part_disjoint idiv h),
    show (Finset.univ : Finset (Fin 32)).biUnion iRow = Finset.univ from Rect.biUnion_part idiv]
/-- The result is its 32 blocks. -/
theorem oPts_rows (d : Dev nD) (f : Buf (Elt F) (oLoc d)) :
    (oLoc d ↦{fullShare} f : sProp 𝕄) = bigSep Finset.univ fun k : Fin 32 => iprop(oLoc d ↦[oRow k]{fullShare} f) := by
  rw [← pointsTo_biUnion Finset.univ (ℓ := oLoc d) oRow (fun i _ j _ h => Rect.part_disjoint odiv h),
    show (Finset.univ : Finset (Fin 32)).biUnion oRow = Finset.univ from Rect.biUnion_part odiv]

variable (W : Dev nD → Valuation τ sig (Elt F))

/-- The call's result: row `r` is the table's row that the list names at `r`. -/
abbrev res (d : Dev nD) : Buf (Elt F) (oLoc d) := gathered (n := 12288) (bv (W d) main_arg1) (bv (W d) main_v2)

/-- What block `k`'s tile is handed: its row numbers, a share of the table, its rows of the result at `g`. -/
abbrev part (d : Dev nD) (g : Buf (Elt F) (oLoc d)) (k : Fin 32) : sProp 𝕄 :=
  iprop((iLoc d ↦[iRow k]{fullShare} bv (W d) main_v2) ∗ (xLoc d ↦{xq k} bv (W d) main_arg1) ∗ oLoc d ↦[oRow k]{fullShare} g)

/-- The three arrays whole are what the tiles of both SparseCores are handed. -/
theorem parts_eq (d : Dev nD) (g : Buf (Elt F) (oLoc d)) :
    (iprop((iLoc d ↦{fullShare} bv (W d) main_v2) ∗ (xLoc d ↦{fullShare} bv (W d) main_arg1) ∗ oLoc d ↦{fullShare} g) : sProp 𝕄)
      = bigSep Finset.univ fun c : Fin 2 => bigSep Finset.univ fun s : Fin 16 => part W d g (tid c s) := by
  rw [← bigSep_tid (fun k => part W d g k), bigSep_sep', bigSep_sep', ← iPts_rows, ← oPts_rows, ← pointsTo_piecesOf]

/-- Every word of the list names a row of the table. -/
def Ok : Prop := ∀ (d : Dev nD) (j : S12288.Idx), (bv (W d) main_v2 j).toNat < 256

/-! ## The task -/

variable (d : Dev nD) (L : grid0.Coords)

abbrev cV (L : grid0.Coords) : Fin τ.nSC := (L 0).castLE hcore0
abbrev jV (L : grid0.Coords) : Fin τ.nSub := (L 1).castLE hsub0
abbrev kL (L : grid0.Coords) : Fin 32 := tid (Fin.cast rfl (L 0)) (Fin.cast rfl (L 1))

abbrev irowK (L : grid0.Coords) : Rect S12288 := Rect.unit (s := S12288) (k0_off1 L) S384.size (k0_off1_inb L)
abbrev orowK (L : grid0.Coords) : Rect S12288x128 := Rect.unit (s := S12288x128) (k0_off2 L) S384x128.size (k0_off2_inb L)
abbrev iRowK (L : grid0.Coords) : Memref sig .scVector .hbm S384 .i32 := (iV).slice (irowK L) (fun _ => rfl)
abbrev oRowK (L : grid0.Coords) : Memref sig .scVector .hbm S384x128 .f32 := (oV).slice (orowK L) (fun _ => rfl)
abbrev xAllK : Memref sig .scVector .hbm S256x128 .f32 := (xV).slice (Rect.unit (s := S256x128) ![0, 0] S256x128.size inb_S256x128_S256x128_0_0) (fun _ => rfl)

theorem set_iRowK : (iRowK L).view.set = iRow (kL L) := by
  show ((View.whole (main_v2_scv : Ref sig .scVector)).slice (irowK L)).set = _
  rw [View.set_slice_whole]
  have e : irowK L = Rect.part (s := S12288) (a₀ := 0) idiv (kL L) := by
    have hk : (kL L).val = 2 * (L 1).val + (L 0).val := tid_val _ _
    generalize kL L = k at hk
    unfold irowK Rect.part Rect.block
    congr 1 <;> funext a
    · rw [k0_off1_eq]
      match a with
      | 0 => simp [Shape.partIx, Shape.partSize]; omega
    · match a with
      | 0 => simp [Shape.partSize]
  rw [e]
theorem set_oRowK : (oRowK L).view.set = oRow (kL L) := by
  show ((View.whole (main_v3_scv : Ref sig .scVector)).slice (orowK L)).set = _
  rw [View.set_slice_whole]
  have e : orowK L = Rect.part (s := S12288x128) (a₀ := 0) odiv (kL L) := by
    have hk : (kL L).val = 2 * (L 1).val + (L 0).val := tid_val _ _
    generalize kL L = k at hk
    unfold orowK Rect.part Rect.block
    congr 1 <;> funext a
    · rw [k0_off2_eq]
      match a with
      | 0 => simp [Shape.partIx, Shape.partSize]; omega
      | 1 => simp [Shape.partIx, Shape.partSize]
    · match a with
      | 0 => simp [Shape.partSize]
      | 1 => simp [Shape.partSize]
  rw [e]

theorem pts_iRowK (f : Buf (Elt F) (iLoc d)) :
    ((iRowK L).view.loc (V d (cV L) (jV L)) ↦[(iRowK L).view.set]{fullShare} f : sProp 𝕄) = iLoc d ↦[iRow (kL L)]{fullShare} f := by
  rw [set_iRowK]
theorem pts_oRowK (f : Buf (Elt F) (oLoc d)) :
    ((oRowK L).view.loc (V d (cV L) (jV L)) ↦[(oRowK L).view.set]{fullShare} f : sProp 𝕄) = oLoc d ↦[oRow (kL L)]{fullShare} f := by
  rw [set_oRowK]
theorem pts_xV (q : PosShare TreeShare) (f : Buf (Elt F) (xLoc d)) :
    ((xV).view.loc (V d (cV L) (jV L)) ↦{q} f : sProp 𝕄) = xLoc d ↦{q} f := rfl
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

abbrev cA (d : Dev nD) (c : Fin τ.nSC) (i : Fin τ.nSub) : GSem nD τ sig := (V d c i, .dma cc0_scratch2.sem)
abbrev cB (d : Dev nD) (c : Fin τ.nSC) (i : Fin τ.nSub) : GSem nD τ sig := (V d c i, .dma cc0_scoped0.sem)
abbrev cC (d : Dev nD) (c : Fin τ.nSC) (i : Fin τ.nSub) : GSem nD τ sig := (V d c i, .dma cc0_scoped1.sem)

/-- The task's three transfer semaphores are among the subcore's own. -/
theorem ownSems0_V :
    (ownSems0 (V d (cV L) (jV L)) : sProp 𝕄)
      = iprop(semVal (cA d (cV L) (jV L)) 0 ∗ semVal (cB d (cV L) (jV L)) 0 ∗ semVal (cC d (cV L) (jV L)) 0
          ∗ bigSep ((((ownCells (V d (cV L) (jV L))).erase (cA d (cV L) (jV L))).erase (cB d (cV L) (jV L))).erase (cC d (cV L) (jV L))) fun g => semVal g 0) := by
  unfold SparseCore.Cfg.ownSems0
  rw [SparseCore.bigSep_erase' ((mem_ownCells (g := cA d (cV L) (jV L))).mpr ⟨rfl, by
      show (SemLoc.dma cc0_scratch2.sem : SemLoc sig).isScoped .scVector = true; decide⟩),
    SparseCore.bigSep_erase' (Finset.mem_erase.mpr ⟨by simp [cA, cB]; decide, (mem_ownCells (g := cB d (cV L) (jV L))).mpr ⟨rfl, by
      show (SemLoc.dma cc0_scoped0.sem : SemLoc sig).isScoped .scVector = true; decide⟩⟩),
    SparseCore.bigSep_erase' (Finset.mem_erase.mpr ⟨by simp [cB, cC]; decide, Finset.mem_erase.mpr ⟨by simp [cA, cC]; decide,
      (mem_ownCells (g := cC d (cV L) (jV L))).mpr ⟨rfl, by show (SemLoc.dma cc0_scoped1.sem : SemLoc sig).isScoped .scVector = true; decide⟩⟩⟩)]

/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

theorem pts_sVset (f : Buf (Elt F) ((V d (cV L) (jV L)).loc cc0_scratch0)) :
    ((sV).view.loc (V d (cV L) (jV L)) ↦{fullShare} f : sProp 𝕄) = (sV).view.loc (V d (cV L) (jV L)) ↦[(sV).view.set]{fullShare} f := by
  rw [show (sV).view.set = Finset.univ from View.set_whole _]
theorem pts_rVset (f : Buf (Elt F) ((V d (cV L) (jV L)).loc cc0_scratch1)) :
    ((rV).view.loc (V d (cV L) (jV L)) ↦{fullShare} f : sProp 𝕄) = (rV).view.loc (V d (cV L) (jV L)) ↦[(rV).view.set]{fullShare} f := by
  rw [show (rV).view.set = Finset.univ from View.set_whole _]

variable {W}

/-- The words the stream reads, fetched from the list, are in range. -/
theorem inb_of_ok (hok : Ok W) (fs : Buf (Elt F) ((V d (cV L) (jV L)).loc cc0_scratch0)) (pay : S384.Idx → Elt F .i32)
    (hpay : pay = (iRowK L).view.read (Elt F) (bv (W d) main_v2)) :
    ∀ x, ((sV).view.read (Elt F) (View.write (Elt F) (sV).view fs pay Finset.univ) x).toNat < S256x128.size gathers_S256x128_S384x128.axis := by
  subst hpay; intro x
  rw [View.write_whole_univ]
  simp only [Memref.view_whole, View.read_whole]
  rw [show ∀ j, (iRowK L).view.read (Elt F) (bv (W d) main_v2) j = bv (W d) main_v2 ((iRowK L).view.emb j) from fun j => (View.read_apply _ _).trans (cast_eq _ _)]
  exact hok d _

/-- The block the task writes out is the block of the gathered rows. -/
theorem out_eq (hok : Ok W) (fs : Buf (Elt F) ((V d (cV L) (jV L)).loc cc0_scratch0)) (fr : Buf (Elt F) ((V d (cV L) (jV L)).loc cc0_scratch1))
    (fo : Buf (Elt F) (oLoc d)) (pay : S384.Idx → Elt F .i32) (hpay : pay = (iRowK L).view.read (Elt F) (bv (W d) main_v2))
    (hin : ∀ x, ((sV).view.read (Elt F) (View.write (Elt F) (sV).view fs pay Finset.univ) x).toNat < S256x128.size gathers_S256x128_S384x128.axis) :
    ∀ j ∈ (oRowK L).view.set, (oRowK L).view.writes (Elt F) fo [⟨Rect.whole S384x128,
        ((rV).view.read (Elt F) ((rV).view.write (Elt F) fr (SparseCore.gatherPayload gathers_S256x128_S384x128 ((xAllK).view.read (Elt F) (bv (W d) main_arg1))
          (SparseCore.rows ((sV).view.read (Elt F) (View.write (Elt F) (sV).view fs pay Finset.univ)) rfl hin)) Finset.univ))⟩] j = res W d j := by
  subst hpay
  intro j hj
  obtain ⟨x, -, rfl⟩ := Finset.mem_map.mp hj
  conv_lhs => rw [View.writes_singleton, show (oRowK L).view.emb x = ((oRowK L).view.slice (Rect.whole S384x128)).emb x from
    congrArg (oRowK L).view.emb (Rect.emb_whole_apply S384x128 x).symm, View.write_emb_of_mem _ _ (Finset.mem_univ _), View.write_whole_univ]
  simp only [Memref.view_whole, View.read_whole]
  refine (cast_eq _ _).trans ?_
  refine ((View.read_apply _ _).trans (cast_eq _ _)).trans ?_
  show bv (W d) main_arg1 _ = bv (W d) main_arg1 _
  congr 1
  have hx0 : ((orowK L).emb x 0).val = 768 * (L 1).val + 384 * (L 0).val + (x 0).val := by
    rw [Rect.emb_apply]
    show (k0_off2 L) 0 + 1 * (x 0).val = _
    rw [k0_off2_eq]; simp
  have hx1 : ((orowK L).emb x 1).val = (x 1).val := by
    rw [Rect.emb_apply]
    show (k0_off2 L) 1 + 1 * (x 1).val = _
    rw [k0_off2_eq]; simp
  have hidx : ∀ n : Fin 384, n.val = (x 0).val → (irowK L).emb (S384.rowMajor.symm (n.cast rfl)) = ValueIdx.ix1 ((orowK L).emb x 0) := by
    intro n hn
    have e : S384.rowMajor.symm (n.cast rfl) = ValueIdx.ix1 n :=
      (S384.rowMajor.symm_apply_eq).2 (Fin.ext (by rw [Shape.rowMajor_val_one]; rfl))
    rw [e]
    funext a
    match a with
    | 0 =>
      apply Fin.ext
      show _ = ((orowK L).emb x 0).val
      rw [hx0, Rect.emb_apply]
      show (k0_off1 L) 0 + 1 * n.val = _
      rw [k0_off1_eq, hn]; simp
  funext a
  apply Fin.ext
  match a with
  | 0 =>
    show 0 + 1 * (View.write (Elt F) (View.whole cc0_scratch0) fs (View.read (Elt F) ((View.whole main_v2_scv).slice (irowK L)) (bv (W d) main_v2)) Finset.univ
      (S384.rowMajor.symm ((x 0 : Fin 384).cast rfl))).toNat = (bv (W d) main_v2 (ValueIdx.ix1 ((orowK L).emb x 0))).toNat % 256
    rw [View.write_whole_univ, Nat.zero_add, Nat.one_mul, Nat.mod_eq_of_lt (hok d _)]
    exact congrArg (fun j => (bv (W d) main_v2 j).toNat) (hidx _ rfl)
  | 1 =>
    show 0 + 1 * (x 1).val = ((orowK L).emb x 1).val
    rw [hx1]; omega

variable [FloatOps F]

/-- The task: the row numbers fetched, the rows gathered, the block written out. -/
theorem tile_body (hF : (K (F := F)).Facts) (hok : Ok W) (fo : Buf (Elt F) (oLoc d)) (O : CellTallies nD τ sig (HIx 2)) (W₀ : Waits sig (HIx 2)) (hO : ∀ g, O g none = 0) :
    iprop(levAts (K (F := F)).L (K (F := F)).lev ∗ emp ∗ part W d fo (kL L)
        ∗ scopedBufs (V d (cV L) (jV L)) ∗ scopedSems0 (V d (cV L) (jV L)) ∗ owes (V d (cV L) (jV L)) O W₀)
      ⊢ wp frame (wpE (defs₀ (F := F)) 𝒱₀ (V d (cV L) (jV L)) none) Set.univ
          (cc0_gather_kernel L xV (Memref.isWhole_whole _) iV (Memref.isWhole_whole _) oV (Memref.isWhole_whole _)
            sV (Memref.isWhole_whole _) rV (Memref.isWhole_whole _) cc0_scratch2 cc0_scoped0 cc0_scoped1)
          fun _ => iprop(part W d (res W d) (kL L)
            ∗ scopedBufs (V d (cV L) (jV L)) ∗ scopedSems0 (V d (cV L) (jV L))
            ∗ ∃ W', ⌜∀ p ∈ W', p ∈ W₀ ∨ p.2 = none⌝ ∗ owes (V d (cV L) (jV L)) O W') := by
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  sl_exec
  ihave Hxs := (pointsTo_split_subset (ℓ := xLoc d) (q := xq (kL L)) (f := bv (W d) main_arg1) (S := Finset.univ) (Finset.subset_univ (xAllK).view.set)).1 $$ Hx'
  icases Hxs with ⟨Hxs, Hxr⟩
  ihave Hr'' := (Entails.of_eq (pts_rVset (F := F) d L _)) $$ Hr'
  ihave Hs'' := (Entails.of_eq (pts_sVset (F := F) d L _)) $$ Hs'
  have hN : ∀ h : S256x128.Gathers 0 S384x128, ∑ j, ((rV).slice (S384x128.rowRect h.axis' j) (S384x128.stride_rowRect h.axis' j)).view.dmaCredit
      = (rV).view.dmaCredit := by decide
  iapply (SparseCore.wp_indirectGatherLocal countersEmb 𝒱₀ (V d (cV L) (jV L)) none (hg := gathers_S256x128_S384x128) (default : HIx 2)
      (rV).view.dmaCredit (hN _) (by decide) (inb_of_ok d L hok fs _ rfl)) $$ [Hxs Hr'' Hs'' HsemA]
  · isplitl [Hxs]; · iexact Hxs
    isplitl [Hr'']; · iexact Hr''
    isplitl [Hs'']; · iexact Hs''
    iexact HsemA
  iintro Hfl
  sl_exec
  iapply (Transfers.wp_waitLocalO countersEmb 𝒱₀ (V d (cV L) (jV L)) none (default : HIx 2) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hxs, Hs'⟩, HsemA, HO⟩
  ihave Hx' := (pointsTo_split_subset (ℓ := xLoc d) (q := xq (kL L)) (f := bv (W d) main_arg1) (S := Finset.univ) (Finset.subset_univ (xAllK).view.set)).2 $$ [Hxs Hxr]; · isplitl [Hxs] <;> iassumption
  ihave Hr3 := (Entails.of_eq (pts_rVset (F := F) d L _).symm) $$ Hr'
  ihave Hs3 := (Entails.of_eq (pts_sVset (F := F) d L _).symm) $$ Hs'
  sl_exec
  sl_step
  isplitl [Hi' Hx' Ho']
  · isplitl [Hi']; · iapply (Entails.of_eq (pts_iRowK (F := F) d L _)); iexact Hi'
    isplitl [Hx']; · iexact Hx'
    iapply (Entails.of_eq (pts_oRowK (F := F) d L _))
    iapply (Entails.of_eq (pointsTo_congr (out_eq d L hok fs fr fo _ rfl (inb_of_ok d L hok fs _ rfl)))); iexact Ho'
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Call0

end Cert.Proof.Sc

end
-- ==== Proof.ScCall1.lean ====
/-
  The second SparseCore gather: tile `(c, s)` fetches its 128 row numbers, gathers those rows of the table and writes
  them out as rows `128 · (2 s + c) …` of the result.
-/
module

public import proofs.«01_k».proof.Proof.ScSetup

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

namespace Call1

variable {F : FTy → Type}

local notation "𝕄" => MT nD τ sig (HIx 2) (Elt F) ℕ UU ℕ

local notation "iV" => (Memref.whole Cert.KernelIdeal.main_v5_scv : Memref Cert.KernelIdeal.sig Kind.scVector Space.hbm Cert.KernelIdeal.S4096 EltTy.i32)
local notation "xV" => (Memref.whole Cert.KernelIdeal.main_arg1_scv : Memref Cert.KernelIdeal.sig Kind.scVector Space.hbm Cert.KernelIdeal.S256x128 EltTy.f32)
local notation "oV" => (Memref.whole Cert.KernelIdeal.main_v6_scv : Memref Cert.KernelIdeal.sig Kind.scVector Space.hbm Cert.KernelIdeal.S4096x128 EltTy.f32)
local notation "sV" => (Memref.whole Cert.KernelIdeal.cc1_scratch0 : Memref Cert.KernelIdeal.sig Kind.scVector Space.vmem Cert.KernelIdeal.S128 EltTy.i32)
local notation "rV" => (Memref.whole Cert.KernelIdeal.cc1_scratch1 : Memref Cert.KernelIdeal.sig Kind.scVector Space.vmem Cert.KernelIdeal.S128x128 EltTy.f32)

/-! ## The buffers and their rows -/

abbrev iLoc (d : Dev nD) : Loc nD τ sig := (SparseCore.T d).loc main_v5
abbrev xLoc (d : Dev nD) : Loc nD τ sig := (SparseCore.T d).loc main_arg1
abbrev oLoc (d : Dev nD) : Loc nD τ sig := (SparseCore.T d).loc main_v6

theorem idiv : 32 ∣ S4096.size 0 := ⟨128, rfl⟩
theorem odiv : 32 ∣ S4096x128.size 0 := ⟨128, rfl⟩
abbrev iRow (k : Fin 32) : Finset S4096.Idx := (Rect.part (s := S4096) (a₀ := 0) idiv k).set
abbrev oRow (k : Fin 32) : Finset S4096x128.Idx := (Rect.part (s := S4096x128) (a₀ := 0) odiv k).set

/-- The index list is its 32 blocks. -/
theorem iPts_rows (d : Dev nD) (f : Buf (Elt F) (iLoc d)) :
    (iLoc d ↦{fullShare} f : sProp 𝕄) = bigSep Finset.univ fun k : Fin 32 => iLoc d ↦[iRow k]{fullShare} f := by
  rw [← pointsTo_biUnion Finset.univ (ℓ := iLoc d) iRow (fun i _ j _ h => Rect.part_disjoint idiv h),
    show (Finset.univ : Finset (Fin 32)).biUnion iRow = Finset.univ from Rect.biUnion_part idiv]
/-- The result is its 32 blocks. -/
theorem oPts_rows (d : Dev nD) (f : Buf (Elt F) (oLoc d)) :
    (oLoc d ↦{fullShare} f : sProp 𝕄) = bigSep Finset.univ fun k : Fin 32 => iprop(oLoc d ↦[oRow k]{fullShare} f) := by
  rw [← pointsTo_biUnion Finset.univ (ℓ := oLoc d) oRow (fun i _ j _ h => Rect.part_disjoint odiv h),
    show (Finset.univ : Finset (Fin 32)).biUnion oRow = Finset.univ from Rect.biUnion_part odiv]

variable (W : Dev nD → Valuation τ sig (Elt F))

/-- The call's result: row `r` is the table's row that the list names at `r`. -/
abbrev res (d : Dev nD) : Buf (Elt F) (oLoc d) := gathered (n := 4096) (bv (W d) main_arg1) (bv (W d) main_v5)

/-- What block `k`'s tile is handed: its row numbers, a share of the table, its rows of the result at `g`. -/
abbrev part (d : Dev nD) (g : Buf (Elt F) (oLoc d)) (k : Fin 32) : sProp 𝕄 :=
  iprop((iLoc d ↦[iRow k]{fullShare} bv (W d) main_v5) ∗ (xLoc d ↦{xq k} bv (W d) main_arg1) ∗ oLoc d ↦[oRow k]{fullShare} g)

/-- The three arrays whole are what the tiles of both SparseCores are handed. -/
theorem parts_eq (d : Dev nD) (g : Buf (Elt F) (oLoc d)) :
    (iprop((iLoc d ↦{fullShare} bv (W d) main_v5) ∗ (xLoc d ↦{fullShare} bv (W d) main_arg1) ∗ oLoc d ↦{fullShare} g) : sProp 𝕄)
      = bigSep Finset.univ fun c : Fin 2 => bigSep Finset.univ fun s : Fin 16 => part W d g (tid c s) := by
  rw [← bigSep_tid (fun k => part W d g k), bigSep_sep', bigSep_sep', ← iPts_rows, ← oPts_rows, ← pointsTo_piecesOf]

/-- Every word of the list names a row of the table. -/
def Ok : Prop := ∀ (d : Dev nD) (j : S4096.Idx), (bv (W d) main_v5 j).toNat < 256

/-! ## The task -/

variable (d : Dev nD) (L : grid1.Coords)

abbrev cV (L : grid1.Coords) : Fin τ.nSC := (L 0).castLE hcore1
abbrev jV (L : grid1.Coords) : Fin τ.nSub := (L 1).castLE hsub1
abbrev kL (L : grid1.Coords) : Fin 32 := tid (Fin.cast rfl (L 0)) (Fin.cast rfl (L 1))

abbrev irowK (L : grid1.Coords) : Rect S4096 := Rect.unit (s := S4096) (k1_off1 L) S128.size (k1_off1_inb L)
abbrev orowK (L : grid1.Coords) : Rect S4096x128 := Rect.unit (s := S4096x128) (k1_off2 L) S128x128.size (k1_off2_inb L)
abbrev iRowK (L : grid1.Coords) : Memref sig .scVector .hbm S128 .i32 := (iV).slice (irowK L) (fun _ => rfl)
abbrev oRowK (L : grid1.Coords) : Memref sig .scVector .hbm S128x128 .f32 := (oV).slice (orowK L) (fun _ => rfl)
abbrev xAllK : Memref sig .scVector .hbm S256x128 .f32 := (xV).slice (Rect.unit (s := S256x128) ![0, 0] S256x128.size inb_S256x128_S256x128_0_0) (fun _ => rfl)

theorem set_iRowK : (iRowK L).view.set = iRow (kL L) := by
  show ((View.whole (main_v5_scv : Ref sig .scVector)).slice (irowK L)).set = _
  rw [View.set_slice_whole]
  have e : irowK L = Rect.part (s := S4096) (a₀ := 0) idiv (kL L) := by
    have hk : (kL L).val = 2 * (L 1).val + (L 0).val := tid_val _ _
    generalize kL L = k at hk
    unfold irowK Rect.part Rect.block
    congr 1 <;> funext a
    · rw [k1_off1_eq]
      match a with
      | 0 => simp [Shape.partIx, Shape.partSize]; omega
    · match a with
      | 0 => simp [Shape.partSize]
  rw [e]
theorem set_oRowK : (oRowK L).view.set = oRow (kL L) := by
  show ((View.whole (main_v6_scv : Ref sig .scVector)).slice (orowK L)).set = _
  rw [View.set_slice_whole]
  have e : orowK L = Rect.part (s := S4096x128) (a₀ := 0) odiv (kL L) := by
    have hk : (kL L).val = 2 * (L 1).val + (L 0).val := tid_val _ _
    generalize kL L = k at hk
    unfold orowK Rect.part Rect.block
    congr 1 <;> funext a
    · rw [k1_off2_eq]
      match a with
      | 0 => simp [Shape.partIx, Shape.partSize]; omega
      | 1 => simp [Shape.partIx, Shape.partSize]
    · match a with
      | 0 => simp [Shape.partSize]
      | 1 => simp [Shape.partSize]
  rw [e]

theorem pts_iRowK (f : Buf (Elt F) (iLoc d)) :
    ((iRowK L).view.loc (V d (cV L) (jV L)) ↦[(iRowK L).view.set]{fullShare} f : sProp 𝕄) = iLoc d ↦[iRow (kL L)]{fullShare} f := by
  rw [set_iRowK]
theorem pts_oRowK (f : Buf (Elt F) (oLoc d)) :
    ((oRowK L).view.loc (V d (cV L) (jV L)) ↦[(oRowK L).view.set]{fullShare} f : sProp 𝕄) = oLoc d ↦[oRow (kL L)]{fullShare} f := by
  rw [set_oRowK]
theorem pts_xV (q : PosShare TreeShare) (f : Buf (Elt F) (xLoc d)) :
    ((xV).view.loc (V d (cV L) (jV L)) ↦{q} f : sProp 𝕄) = xLoc d ↦{q} f := rfl
theorem pts_sV (f : Buf (Elt F) ((V d (cV L) (jV L)).loc cc1_scratch0)) :
    ((sV).view.loc (V d (cV L) (jV L)) ↦{fullShare} f : sProp 𝕄) = (V d (cV L) (jV L)).loc cc1_scratch0 ↦{fullShare} f := rfl
theorem pts_rV (f : Buf (Elt F) ((V d (cV L) (jV L)).loc cc1_scratch1)) :
    ((rV).view.loc (V d (cV L) (jV L)) ↦{fullShare} f : sProp 𝕄) = (V d (cV L) (jV L)).loc cc1_scratch1 ↦{fullShare} f := rfl

abbrev cA (d : Dev nD) (c : Fin τ.nSC) (i : Fin τ.nSub) : GSem nD τ sig := (V d c i, .dma cc1_scratch2.sem)
abbrev cB (d : Dev nD) (c : Fin τ.nSC) (i : Fin τ.nSub) : GSem nD τ sig := (V d c i, .dma cc1_scoped0.sem)
abbrev cC (d : Dev nD) (c : Fin τ.nSC) (i : Fin τ.nSub) : GSem nD τ sig := (V d c i, .dma cc1_scoped1.sem)

/-- The task's three transfer semaphores are among the subcore's own. -/
theorem ownSems0_V :
    (ownSems0 (V d (cV L) (jV L)) : sProp 𝕄)
      = iprop(semVal (cA d (cV L) (jV L)) 0 ∗ semVal (cB d (cV L) (jV L)) 0 ∗ semVal (cC d (cV L) (jV L)) 0
          ∗ bigSep ((((ownCells (V d (cV L) (jV L))).erase (cA d (cV L) (jV L))).erase (cB d (cV L) (jV L))).erase (cC d (cV L) (jV L))) fun g => semVal g 0) := by
  unfold SparseCore.Cfg.ownSems0
  rw [SparseCore.bigSep_erase' ((mem_ownCells (g := cA d (cV L) (jV L))).mpr ⟨rfl, by
      show (SemLoc.dma cc1_scratch2.sem : SemLoc sig).isScoped .scVector = true; decide⟩),
    SparseCore.bigSep_erase' (Finset.mem_erase.mpr ⟨by simp [cA, cB]; decide, (mem_ownCells (g := cB d (cV L) (jV L))).mpr ⟨rfl, by
      show (SemLoc.dma cc1_scoped0.sem : SemLoc sig).isScoped .scVector = true; decide⟩⟩),
    SparseCore.bigSep_erase' (Finset.mem_erase.mpr ⟨by simp [cB, cC]; decide, Finset.mem_erase.mpr ⟨by simp [cA, cC]; decide,
      (mem_ownCells (g := cC d (cV L) (jV L))).mpr ⟨rfl, by show (SemLoc.dma cc1_scoped1.sem : SemLoc sig).isScoped .scVector = true; decide⟩⟩⟩)]

/-- The two scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

theorem pts_sVset (f : Buf (Elt F) ((V d (cV L) (jV L)).loc cc1_scratch0)) :
    ((sV).view.loc (V d (cV L) (jV L)) ↦{fullShare} f : sProp 𝕄) = (sV).view.loc (V d (cV L) (jV L)) ↦[(sV).view.set]{fullShare} f := by
  rw [show (sV).view.set = Finset.univ from View.set_whole _]
theorem pts_rVset (f : Buf (Elt F) ((V d (cV L) (jV L)).loc cc1_scratch1)) :
    ((rV).view.loc (V d (cV L) (jV L)) ↦{fullShare} f : sProp 𝕄) = (rV).view.loc (V d (cV L) (jV L)) ↦[(rV).view.set]{fullShare} f := by
  rw [show (rV).view.set = Finset.univ from View.set_whole _]

variable {W}

/-- The words the stream reads, fetched from the list, are in range. -/
theorem inb_of_ok (hok : Ok W) (fs : Buf (Elt F) ((V d (cV L) (jV L)).loc cc1_scratch0)) (pay : S128.Idx → Elt F .i32)
    (hpay : pay = (iRowK L).view.read (Elt F) (bv (W d) main_v5)) :
    ∀ x, ((sV).view.read (Elt F) (View.write (Elt F) (sV).view fs pay Finset.univ) x).toNat < S256x128.size gathers_S256x128_S128x128.axis := by
  subst hpay; intro x
  rw [View.write_whole_univ]
  simp only [Memref.view_whole, View.read_whole]
  rw [show ∀ j, (iRowK L).view.read (Elt F) (bv (W d) main_v5) j = bv (W d) main_v5 ((iRowK L).view.emb j) from fun j => (View.read_apply _ _).trans (cast_eq _ _)]
  exact hok d _

/-- The block the task writes out is the block of the gathered rows. -/
theorem out_eq (hok : Ok W) (fs : Buf (Elt F) ((V d (cV L) (jV L)).loc cc1_scratch0)) (fr : Buf (Elt F) ((V d (cV L) (jV L)).loc cc1_scratch1))
    (fo : Buf (Elt F) (oLoc d)) (pay : S128.Idx → Elt F .i32) (hpay : pay = (iRowK L).view.read (Elt F) (bv (W d) main_v5))
    (hin : ∀ x, ((sV).view.read (Elt F) (View.write (Elt F) (sV).view fs pay Finset.univ) x).toNat < S256x128.size gathers_S256x128_S128x128.axis) :
    ∀ j ∈ (oRowK L).view.set, (oRowK L).view.writes (Elt F) fo [⟨Rect.whole S128x128,
        ((rV).view.read (Elt F) ((rV).view.write (Elt F) fr (SparseCore.gatherPayload gathers_S256x128_S128x128 ((xAllK).view.read (Elt F) (bv (W d) main_arg1))
          (SparseCore.rows ((sV).view.read (Elt F) (View.write (Elt F) (sV).view fs pay Finset.univ)) rfl hin)) Finset.univ))⟩] j = res W d j := by
  subst hpay
  intro j hj
  obtain ⟨x, -, rfl⟩ := Finset.mem_map.mp hj
  conv_lhs => rw [View.writes_singleton, show (oRowK L).view.emb x = ((oRowK L).view.slice (Rect.whole S128x128)).emb x from
    congrArg (oRowK L).view.emb (Rect.emb_whole_apply S128x128 x).symm, View.write_emb_of_mem _ _ (Finset.mem_univ _), View.write_whole_univ]
  simp only [Memref.view_whole, View.read_whole]
  refine (cast_eq _ _).trans ?_
  refine ((View.read_apply _ _).trans (cast_eq _ _)).trans ?_
  show bv (W d) main_arg1 _ = bv (W d) main_arg1 _
  congr 1
  have hx0 : ((orowK L).emb x 0).val = 256 * (L 1).val + 128 * (L 0).val + (x 0).val := by
    rw [Rect.emb_apply]
    show (k1_off2 L) 0 + 1 * (x 0).val = _
    rw [k1_off2_eq]; simp
  have hx1 : ((orowK L).emb x 1).val = (x 1).val := by
    rw [Rect.emb_apply]
    show (k1_off2 L) 1 + 1 * (x 1).val = _
    rw [k1_off2_eq]; simp
  have hidx : ∀ n : Fin 128, n.val = (x 0).val → (irowK L).emb (S128.rowMajor.symm (n.cast rfl)) = ValueIdx.ix1 ((orowK L).emb x 0) := by
    intro n hn
    have e : S128.rowMajor.symm (n.cast rfl) = ValueIdx.ix1 n :=
      (S128.rowMajor.symm_apply_eq).2 (Fin.ext (by rw [Shape.rowMajor_val_one]; rfl))
    rw [e]
    funext a
    match a with
    | 0 =>
      apply Fin.ext
      show _ = ((orowK L).emb x 0).val
      rw [hx0, Rect.emb_apply]
      show (k1_off1 L) 0 + 1 * n.val = _
      rw [k1_off1_eq, hn]; simp
  funext a
  apply Fin.ext
  match a with
  | 0 =>
    show 0 + 1 * (View.write (Elt F) (View.whole cc1_scratch0) fs (View.read (Elt F) ((View.whole main_v5_scv).slice (irowK L)) (bv (W d) main_v5)) Finset.univ
      (S128.rowMajor.symm ((x 0 : Fin 128).cast rfl))).toNat = (bv (W d) main_v5 (ValueIdx.ix1 ((orowK L).emb x 0))).toNat % 256
    rw [View.write_whole_univ, Nat.zero_add, Nat.one_mul, Nat.mod_eq_of_lt (hok d _)]
    exact congrArg (fun j => (bv (W d) main_v5 j).toNat) (hidx _ rfl)
  | 1 =>
    show 0 + 1 * (x 1).val = ((orowK L).emb x 1).val
    rw [hx1]; omega

variable [FloatOps F]

/-- The task: the row numbers fetched, the rows gathered, the block written out. -/
theorem tile_body (hF : (K (F := F)).Facts) (hok : Ok W) (fo : Buf (Elt F) (oLoc d)) (O : CellTallies nD τ sig (HIx 2)) (W₀ : Waits sig (HIx 2)) (hO : ∀ g, O g none = 0) :
    iprop(levAts (K (F := F)).L (K (F := F)).lev ∗ emp ∗ part W d fo (kL L)
        ∗ scopedBufs (V d (cV L) (jV L)) ∗ scopedSems0 (V d (cV L) (jV L)) ∗ owes (V d (cV L) (jV L)) O W₀)
      ⊢ wp frame (wpE (defs₀ (F := F)) 𝒱₀ (V d (cV L) (jV L)) none) Set.univ
          (cc1_gather_kernel L xV (Memref.isWhole_whole _) iV (Memref.isWhole_whole _) oV (Memref.isWhole_whole _)
            sV (Memref.isWhole_whole _) rV (Memref.isWhole_whole _) cc1_scratch2 cc1_scoped0 cc1_scoped1)
          fun _ => iprop(part W d (res W d) (kL L)
            ∗ scopedBufs (V d (cV L) (jV L)) ∗ scopedSems0 (V d (cV L) (jV L))
            ∗ ∃ W', ⌜∀ p ∈ W', p ∈ W₀ ∨ p.2 = none⌝ ∗ owes (V d (cV L) (jV L)) O W') := by
  simp only [cc1_gather_kernel_eq_skeleton]; unfold cc1_gather_kernel_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  sl_exec
  ihave Hxs := (pointsTo_split_subset (ℓ := xLoc d) (q := xq (kL L)) (f := bv (W d) main_arg1) (S := Finset.univ) (Finset.subset_univ (xAllK).view.set)).1 $$ Hx'
  icases Hxs with ⟨Hxs, Hxr⟩
  ihave Hr'' := (Entails.of_eq (pts_rVset (F := F) d L _)) $$ Hr'
  ihave Hs'' := (Entails.of_eq (pts_sVset (F := F) d L _)) $$ Hs'
  have hN : ∀ h : S256x128.Gathers 0 S128x128, ∑ j, ((rV).slice (S128x128.rowRect h.axis' j) (S128x128.stride_rowRect h.axis' j)).view.dmaCredit
      = (rV).view.dmaCredit := by decide
  iapply (SparseCore.wp_indirectGatherLocal countersEmb 𝒱₀ (V d (cV L) (jV L)) none (hg := gathers_S256x128_S128x128) (default : HIx 2)
      (rV).view.dmaCredit (hN _) (by decide) (inb_of_ok d L hok fs _ rfl)) $$ [Hxs Hr'' Hs'' HsemA]
  · isplitl [Hxs]; · iexact Hxs
    isplitl [Hr'']; · iexact Hr''
    isplitl [Hs'']; · iexact Hs''
    iexact HsemA
  iintro Hfl
  sl_exec
  iapply (Transfers.wp_waitLocalO countersEmb 𝒱₀ (V d (cV L) (jV L)) none (default : HIx 2) (rfl : (rV).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr', Hxs, Hs'⟩, HsemA, HO⟩
  ihave Hx' := (pointsTo_split_subset (ℓ := xLoc d) (q := xq (kL L)) (f := bv (W d) main_arg1) (S := Finset.univ) (Finset.subset_univ (xAllK).view.set)).2 $$ [Hxs Hxr]; · isplitl [Hxs] <;> iassumption
  ihave Hr3 := (Entails.of_eq (pts_rVset (F := F) d L _).symm) $$ Hr'
  ihave Hs3 := (Entails.of_eq (pts_sVset (F := F) d L _).symm) $$ Hs'
  sl_exec
  sl_step
  isplitl [Hi' Hx' Ho']
  · isplitl [Hi']; · iapply (Entails.of_eq (pts_iRowK (F := F) d L _)); iexact Hi'
    isplitl [Hx']; · iexact Hx'
    iapply (Entails.of_eq (pts_oRowK (F := F) d L _))
    iapply (Entails.of_eq (pointsTo_congr (out_eq d L hok fs fr fo _ rfl (inb_of_ok d L hok fs _ rfl)))); iexact Ho'
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Call1

end Cert.Proof.Sc

end
-- ==== Proof.ConvDefs.lean ====
/-
  The convolution both pallas_calls apply to a block of 4 × 1024 gathered rows, as functions of the block, the three
  weight matrices and the bias: the unfolded matrix that the scratch buffer holds once its columns are stored, and the
  pooled features.
-/
module

public import proofs.«01_k».proof.Proof.ScSetup
public import Idealize.ShloMosaic.Lib.VecWindow

@[expose] public section

set_option maxRecDepth 16384

noncomputable section

namespace Cert.Proof.Sc

open Cert.KernelIdeal Cert.KernelIdeal.Gen

open Idealize.ShloMosaic
open Idealize.ShloMosaic.TcCoe

variable {F : FTy → Type} [FloatOps F]

/-! ## The unfolded matrix -/

/-- Column `128·dt + e` of row `r` is component `e` of the row `dt` further down, and zero past the last row. -/
def xcol (v : FVec F S4096x128 .fp8e4m3) : FVec F S4096x640 .fp8e4m3 := fun y =>
  if h : (y 0).val + (y 1).val / 128 < 4096 then v (ValueIdx.ix2 ⟨_, h⟩ ⟨(y 1).val % 128, Nat.mod_lt _ (by decide)⟩)
  else Scalar.ofBits .fp8e4m3 0x00#8

section Band

variable {κ : Kind} {sp : Space} (v : View sig κ sp S4096x640 .fp8e4m3) (f : v.ty.Contents (Elt F))

/-- A band of 128 columns written in two stores: the rows from the top, of which the last `k` keep what they held, then
    the last 4 rows, of which the first `4 - k` keep what they held. Read inside the band. -/
theorem read_band (c0 k : ℕ) (hk : k ≤ 4) (L : List (View.Piece (Elt F) S4096x640 .fp8e4m3))
    (A : (⟨2, ![4096 - k, 128]⟩ : Shape).Idx → F .fp8e4m3) (Z : (⟨2, ![k, 128]⟩ : Shape).Idx → F .fp8e4m3)
    (o1 : S4096x128.Idx → F .fp8e4m3) (o2 : S4x128.Idx → F .fp8e4m3) (i1 i2 s1 s2)
    (ho : o2 = v.readCov (⟨Rect.unit (s := S4096x640) ![0, c0] S4096x128.size i1, updateSlice o1 A ![0, 0] s1⟩ :: L)
      (Rect.unit (s := S4096x640) ![4092, c0] S4x128.size i2).toLoadRect)
    (y : S4096x640.Idx) (h1 : c0 ≤ (y 1).val) (h2 : (y 1).val < c0 + 128) :
    v.read (Elt F) (v.writes (Elt F) f (⟨Rect.unit (s := S4096x640) ![4092, c0] S4x128.size i2, updateSlice o2 Z ![4 - k, 0] s2⟩
        :: ⟨Rect.unit (s := S4096x640) ![0, c0] S4096x128.size i1, updateSlice o1 A ![0, 0] s1⟩ :: L)) y
      = if h : (y 0).val < 4096 - k then A (ValueIdx.ix2 ⟨(y 0).val, h⟩ ⟨(y 1).val - c0, by omega⟩)
        else Z (ValueIdx.ix2 ⟨(y 0).val - (4096 - k), by have : (y 0).val < 4096 := (y 0).isLt; omega⟩ ⟨(y 1).val - c0, by omega⟩) := by
  have hy : (y 0).val < 4096 := (y 0).isLt
  have inner : ∀ (g : v.ty.Contents (Elt F)) (y : S4096x640.Idx) (h1 : c0 ≤ (y 1).val) (h2 : (y 1).val < c0 + 128) (h : (y 0).val < 4096 - k),
      v.read (Elt F) (v.writes (Elt F) g (⟨Rect.unit (s := S4096x640) ![0, c0] S4096x128.size i1, updateSlice o1 A ![0, 0] s1⟩ :: L)) y
        = A (ValueIdx.ix2 ⟨(y 0).val, h⟩ ⟨(y 1).val - c0, by omega⟩) := by
    intro g y h1 h2 h
    rw [View.read_writes_cons_hit_of_coords v g _ _ L (ValueIdx.ix2 ⟨(y 0).val, by omega⟩ ⟨(y 1).val - c0, by omega⟩) y
      (by
        intro a
        match a with
        | 0 => show (y 0).val = 0 + 1 * (y 0).val; omega
        | 1 => show (y 1).val = c0 + 1 * ((y 1).val - c0); omega)]
    unfold updateSlice
    rw [dif_pos (fun a => by
      match a with
      | 0 => exact ⟨Nat.zero_le _, show (y 0).val < 0 + (4096 - k) by omega⟩
      | 1 => exact ⟨Nat.zero_le _, show (y 1).val - c0 < 0 + 128 by omega⟩)]
    congr 1
    funext a
    match a with
    | 0 => rfl
    | 1 => rfl
  by_cases h : (y 0).val < 4092
  · rw [View.read_writes_cons_miss_of_axis v f _ _ y 0 4092 4 rfl rfl rfl (.inl h), dif_pos (by omega), inner f y h1 h2]
  · rw [View.read_writes_cons_hit_of_coords v f _ _ _ (ValueIdx.ix2 ⟨(y 0).val - 4092, by omega⟩ ⟨(y 1).val - c0, by omega⟩) y
      (by
        intro a
        match a with
        | 0 => show (y 0).val = 4092 + 1 * ((y 0).val - 4092); omega
        | 1 => show (y 1).val = c0 + 1 * ((y 1).val - c0); omega)]
    unfold updateSlice
    by_cases hz : (y 0).val < 4096 - k
    · rw [dif_pos hz, dif_neg (fun hc => by
        have := (hc 0).1
        have : 4 - k ≤ (y 0).val - 4092 := this
        omega), ho]
      have e := inner v.junk ((Rect.unit (s := S4096x640) ![4092, c0] S4x128.size i2).emb
        (ValueIdx.ix2 ⟨(y 0).val - 4092, by omega⟩ ⟨(y 1).val - c0, by omega⟩))
        (by show c0 ≤ c0 + 1 * ((y 1).val - c0); omega) (by show c0 + 1 * ((y 1).val - c0) < c0 + 128; omega)
        (by show 4092 + 1 * ((y 0).val - 4092) < 4096 - k; omega)
      refine e.trans (congrArg A ?_)
      funext a
      match a with
      | 0 => exact Fin.ext (show 4092 + 1 * ((y 0).val - 4092) = (y 0).val by omega)
      | 1 => exact Fin.ext (show c0 + 1 * ((y 1).val - c0) - c0 = (y 1).val - c0 by omega)
    · rw [dif_neg hz, dif_pos (fun a => by
        match a with
        | 0 => exact ⟨show 4 - k ≤ (y 0).val - 4092 by omega, show (y 0).val - 4092 < 4 - k + k by omega⟩
        | 1 => exact ⟨Nat.zero_le _, show (y 1).val - c0 < 0 + 128 by omega⟩)]
      congr 1
      funext a
      match a with
      | 0 => exact Fin.ext (show (y 0).val - 4092 - (4 - k) = (y 0).val - (4096 - k) by omega)
      | 1 => rfl

/-- Outside a band neither of its stores shows. -/
theorem read_band_miss (c0 : ℕ) (L : List (View.Piece (Elt F) S4096x640 .fp8e4m3))
    (P1 : S4096x128.Idx → F .fp8e4m3) (P2 : S4x128.Idx → F .fp8e4m3) (i1 i2)
    (y : S4096x640.Idx) (h : (y 1).val < c0 ∨ c0 + 128 ≤ (y 1).val) :
    v.read (Elt F) (v.writes (Elt F) f (⟨Rect.unit (s := S4096x640) ![4092, c0] S4x128.size i2, P2⟩
        :: ⟨Rect.unit (s := S4096x640) ![0, c0] S4096x128.size i1, P1⟩ :: L)) y
      = v.read (Elt F) (v.writes (Elt F) f L) y := by
  rw [View.read_writes_cons_miss_of_axis v f _ _ y 1 c0 128 rfl rfl rfl h, View.read_writes_cons_miss_of_axis v f _ _ y 1 c0 128 rfl rfl rfl h]

variable (v0 : Vec F S4x1024x128 .f32) (o1 o2 o3 : S4096x128.Idx → F .fp8e4m3) (p1 p2 p3 : S4x128.Idx → F .fp8e4m3)

/-- The stores of the first column block; -/
abbrev cols0 : List (View.Piece (Elt F) S4096x640 .fp8e4m3) :=
  [⟨Rect.unit (s := S4096x640) ![0, 0] S4096x128.size inb_S4096x640_S4096x128_0_0, k2_pay3 v0⟩]

/-- with the upper store of the second; -/
abbrev cols1a : List (View.Piece (Elt F) S4096x640 .fp8e4m3) :=
  ⟨Rect.unit (s := S4096x640) ![0, 128] S4096x128.size inb_S4096x640_S4096x128_0_128, updateSlice o1 (k2_pay4 v0) ![0, 0] slices_S4096x128_S4095x128_0_0⟩ :: cols0 v0

/-- with the second; -/
abbrev cols1 : List (View.Piece (Elt F) S4096x640 .fp8e4m3) :=
  ⟨Rect.unit (s := S4096x640) ![4092, 128] S4x128.size inb_S4096x640_S4x128_4092_128, updateSlice p1 (k2_pay5 (F := F)) ![3, 0] slices_S4x128_S1x128_3_0⟩ :: cols1a v0 o1

/-- with the upper store of the third; -/
abbrev cols2a : List (View.Piece (Elt F) S4096x640 .fp8e4m3) :=
  ⟨Rect.unit (s := S4096x640) ![0, 256] S4096x128.size inb_S4096x640_S4096x128_0_256, updateSlice o2 (k2_pay6 v0) ![0, 0] slices_S4096x128_S4094x128_0_0⟩ :: cols1 v0 o1 p1

/-- with the third; -/
abbrev cols2 : List (View.Piece (Elt F) S4096x640 .fp8e4m3) :=
  ⟨Rect.unit (s := S4096x640) ![4092, 256] S4x128.size inb_S4096x640_S4x128_4092_256, updateSlice p2 (k2_pay7 (F := F)) ![2, 0] slices_S4x128_S2x128_2_0⟩ :: cols2a v0 o1 o2 p1

/-- with the upper store of the fourth; -/
abbrev cols3a : List (View.Piece (Elt F) S4096x640 .fp8e4m3) :=
  ⟨Rect.unit (s := S4096x640) ![0, 384] S4096x128.size inb_S4096x640_S4096x128_0_384, updateSlice o3 (k2_pay8 v0) ![0, 0] slices_S4096x128_S4093x128_0_0⟩ :: cols2 v0 o1 o2 p1 p2

/-- with the fourth; -/
abbrev cols3 : List (View.Piece (Elt F) S4096x640 .fp8e4m3) :=
  ⟨Rect.unit (s := S4096x640) ![4092, 384] S4x128.size inb_S4096x640_S4x128_4092_384, updateSlice p3 (k2_pay10 (k2_pay9 (F := F))) ![1, 0] slices_S4x128_S3x128_1_0⟩ :: cols3a v0 o1 o2 o3 p1 p2

/-- and with the fifth. -/
abbrev cols4 : List (View.Piece (Elt F) S4096x640 .fp8e4m3) :=
  ⟨Rect.unit (s := S4096x640) ![4092, 512] S4x128.size inb_S4096x640_S4x128_4092_512, k2_pay12 (F := F)⟩
    :: ⟨Rect.unit (s := S4096x640) ![0, 512] S4092x128.size inb_S4096x640_S4092x128_0_512, k2_pay11 (k2_pay2 v0)⟩ :: cols3 v0 o1 o2 o3 p1 p2 p3

/-- After the ten stores the scratch buffer reads as the unfolded matrix, whatever it held. -/
theorem read_cols
    (h1 : p1 = v.readCov (cols1a v0 o1) (Rect.unit (s := S4096x640) ![4092, 128] S4x128.size inb_S4096x640_S4x128_4092_128).toLoadRect)
    (h2 : p2 = v.readCov (cols2a v0 o1 o2 p1) (Rect.unit (s := S4096x640) ![4092, 256] S4x128.size inb_S4096x640_S4x128_4092_256).toLoadRect)
    (h3 : p3 = v.readCov (cols3a v0 o1 o2 o3 p1 p2) (Rect.unit (s := S4096x640) ![4092, 384] S4x128.size inb_S4096x640_S4x128_4092_384).toLoadRect)
    (y : S4096x640.Idx) :
    v.read (Elt F) (v.writes (Elt F) f (cols4 v0 o1 o2 o3 p1 p2 p3)) y = xcol (k2_pay2 v0) y := by
  have hy0 : (y 0).val < 4096 := (y 0).isLt
  have hy1 : (y 1).val < 640 := (y 1).isLt
  have get : ∀ (i j : S4096x128.Idx), (i 0).val = (j 0).val → (i 1).val = (j 1).val → k2_pay2 v0 i = k2_pay2 v0 j := fun i j e0 e1 =>
    congrArg _ (funext fun a => match a with | 0 => Fin.ext e0 | 1 => Fin.ext e1)
  by_cases c4 : 512 ≤ (y 1).val
  · by_cases hr : (y 0).val < 4092
    · rw [View.read_writes_cons_miss_of_axis v f _ _ y 0 4092 4 rfl rfl rfl (.inl hr),
        View.read_writes_cons_hit_of_coords v f _ _ _ (ValueIdx.ix2 ⟨(y 0).val, hr⟩ ⟨(y 1).val - 512, by omega⟩) y
        (by
          intro a
          match a with
          | 0 => show (y 0).val = 0 + 1 * (y 0).val; omega
          | 1 => show (y 1).val = 512 + 1 * ((y 1).val - 512); omega)]
      unfold xcol k2_pay11
      rw [dif_pos (by omega)]
      simp only [shapeCast_self]
      exact get _ _ (show 4 + (y 0).val = (y 0).val + (y 1).val / 128 by omega) (show 0 + ((y 1).val - 512) = (y 1).val % 128 by omega)
    · rw [View.read_writes_cons_hit_of_coords v f _ _ _ (ValueIdx.ix2 ⟨(y 0).val - 4092, by omega⟩ ⟨(y 1).val - 512, by omega⟩) y
        (by
          intro a
          match a with
          | 0 => show (y 0).val = 4092 + 1 * ((y 0).val - 4092); omega
          | 1 => show (y 1).val = 512 + 1 * ((y 1).val - 512); omega)]
      unfold xcol
      rw [dif_neg (by omega)]
      rfl
  rw [View.read_writes_cons_miss_of_axis v f _ _ y 1 512 128 rfl rfl rfl (.inl (by omega)),
    View.read_writes_cons_miss_of_axis v f _ _ y 1 512 128 rfl rfl rfl (.inl (by omega))]
  by_cases c3 : 384 ≤ (y 1).val
  · rw [read_band v f 384 3 (by decide) (cols2 v0 o1 o2 p1 p2) (k2_pay8 v0) (k2_pay10 (k2_pay9 (F := F))) o3 p3 _ _ _ _ h3 y c3 (by omega)]
    unfold xcol
    by_cases hr : (y 0).val < 4093
    · rw [dif_pos hr, dif_pos (by omega)]
      unfold k2_pay8
      simp only [shapeCast_self]
      exact get _ _ (show 3 + (y 0).val = (y 0).val + (y 1).val / 128 by omega) (show 0 + ((y 1).val - 384) = (y 1).val % 128 by omega)
    · rw [dif_neg hr, dif_neg (by omega)]
      rfl
  rw [read_band_miss v f 384 (cols2 v0 o1 o2 p1 p2) _ _ _ _ y (.inl (by omega))]
  by_cases c2 : 256 ≤ (y 1).val
  · rw [read_band v f 256 2 (by decide) (cols1 v0 o1 p1) (k2_pay6 v0) (k2_pay7 (F := F)) o2 p2 _ _ _ _ h2 y c2 (by omega)]
    unfold xcol
    by_cases hr : (y 0).val < 4094
    · rw [dif_pos hr, dif_pos (by omega)]
      unfold k2_pay6
      simp only [shapeCast_self]
      exact get _ _ (show 2 + (y 0).val = (y 0).val + (y 1).val / 128 by omega) (show 0 + ((y 1).val - 256) = (y 1).val % 128 by omega)
    · rw [dif_neg hr, dif_neg (by omega)]
      rfl
  rw [read_band_miss v f 256 (cols1 v0 o1 p1) _ _ _ _ y (.inl (by omega))]
  by_cases c1 : 128 ≤ (y 1).val
  · rw [read_band v f 128 1 (by decide) (cols0 v0) (k2_pay4 v0) (k2_pay5 (F := F)) o1 p1 _ _ _ _ h1 y c1 (by omega)]
    unfold xcol
    by_cases hr : (y 0).val < 4095
    · rw [dif_pos hr, dif_pos (by omega)]
      unfold k2_pay4
      simp only [shapeCast_self]
      exact get _ _ (show 1 + (y 0).val = (y 0).val + (y 1).val / 128 by omega) (show 0 + ((y 1).val - 128) = (y 1).val % 128 by omega)
    · rw [dif_neg hr, dif_neg (by omega)]
      rfl
  rw [read_band_miss v f 128 (cols0 v0) _ _ _ _ y (.inl (by omega)),
    View.read_writes_cons_hit_of_coords v f _ _ _ (ValueIdx.ix2 ⟨(y 0).val, hy0⟩ ⟨(y 1).val, by omega⟩) y
    (by
      intro a
      match a with
      | 0 => show (y 0).val = 0 + 1 * (y 0).val; omega
      | 1 => show (y 1).val = 0 + 1 * (y 1).val; omega)]
  unfold xcol k2_pay3
  rw [dif_pos (by omega)]
  simp only [shapeCast_self]
  exact get _ _ (show (y 0).val = (y 0).val + (y 1).val / 128 by omega) (show (y 1).val = (y 1).val % 128 by omega)

end Band

/-! ## The features -/

/-- The pooled feature of `n` rows from row `o`: the largest score of each channel, scaled back, with the bias, cut at zero. -/
def pool (n : ℕ) (o : ℕ) (hs : S4096x256.Slices ![o, 0] ⟨2, ![n, 256]⟩) (hr : (⟨2, ![n, 256]⟩ : Shape).Reduces [0] S256)
    (S : FVec F S4096x256 .f32) (b : FVec F S256 .f32) : FVec F S256 .f32 :=
  maximumf (addf (mulf (multiReduction .maximumf [0] S256 (extractStridedSlice ⟨2, ![n, 256]⟩ ![o, 0] S hs) 0xFF800000#32 hr (.inl rfl) rfl)
    (broadcast S256 (Scalar.ofBits .f32 0x3C800000#32))) b) (broadcast S256 (Scalar.ofBits .f32 0x00000000#32))

variable (X : FVec F S4096x640 .fp8e4m3) (w5 : Vec F S640x256 .fp8e4m3) (w4 : Vec F S512x256 .fp8e4m3) (w3 : Vec F S384x256 .fp8e4m3)
  (b : Vec F S1x768 .f32)

/-- The bias of filter `j`. -/
def biasAt (j : ℕ) (inb : ∀ a, (![0, 256 * j] : Fin 2 → ℕ) a + S1x256.size a ≤ S1x768.size a) : FVec F S256 .f32 :=
  shapeCast S256 (fun x : S1x256.Idx => b ((Rect.unit (s := S1x768) ![0, 256 * j] S1x256.size inb).emb x)) shapeCasts_S1x256_S256

/-- The feature of path `r` and filter `j`. -/
def featv (r : Fin 4) (j : Fin 3) : FVec F S256 .f32 :=
  match j with
  | 0 => match r with
    | 0 => pool 1020 0 slices_S4096x256_o0_0_S1020x256 reduces_S1020x256_S256 (k2_pay13 X w5) (biasAt b 0 inb_S1x768_S1x256_0_0)
    | 1 => pool 1020 1024 slices_S4096x256_o1024_0_S1020x256 reduces_S1020x256_S256 (k2_pay13 X w5) (biasAt b 0 inb_S1x768_S1x256_0_0)
    | 2 => pool 1020 2048 slices_S4096x256_o2048_0_S1020x256 reduces_S1020x256_S256 (k2_pay13 X w5) (biasAt b 0 inb_S1x768_S1x256_0_0)
    | 3 => pool 1020 3072 slices_S4096x256_o3072_0_S1020x256 reduces_S1020x256_S256 (k2_pay13 X w5) (biasAt b 0 inb_S1x768_S1x256_0_0)
  | 1 => match r with
    | 0 => pool 1021 0 slices_S4096x256_o0_0_S1021x256 reduces_S1021x256_S256 (k2_pay20 X w4) (biasAt b 1 inb_S1x768_S1x256_0_256)
    | 1 => pool 1021 1024 slices_S4096x256_o1024_0_S1021x256 reduces_S1021x256_S256 (k2_pay20 X w4) (biasAt b 1 inb_S1x768_S1x256_0_256)
    | 2 => pool 1021 2048 slices_S4096x256_o2048_0_S1021x256 reduces_S1021x256_S256 (k2_pay20 X w4) (biasAt b 1 inb_S1x768_S1x256_0_256)
    | 3 => pool 1021 3072 slices_S4096x256_o3072_0_S1021x256 reduces_S1021x256_S256 (k2_pay20 X w4) (biasAt b 1 inb_S1x768_S1x256_0_256)
  | 2 => match r with
    | 0 => pool 1022 0 slices_S4096x256_o0_0_S1022x256 reduces_S1022x256_S256 (k2_pay28 (k2_pay27 X) w3) (biasAt b 2 inb_S1x768_S1x256_0_512)
    | 1 => pool 1022 1024 slices_S4096x256_o1024_0_S1022x256 reduces_S1022x256_S256 (k2_pay28 (k2_pay27 X) w3) (biasAt b 2 inb_S1x768_S1x256_0_512)
    | 2 => pool 1022 2048 slices_S4096x256_o2048_0_S1022x256 reduces_S1022x256_S256 (k2_pay28 (k2_pay27 X) w3) (biasAt b 2 inb_S1x768_S1x256_0_512)
    | 3 => pool 1022 3072 slices_S4096x256_o3072_0_S1022x256 reduces_S1022x256_S256 (k2_pay28 (k2_pay27 X) w3) (biasAt b 2 inb_S1x768_S1x256_0_512)

/-- The features of a block of gathered rows. -/
def convOut (v0 : Vec F S4x1024x128 .f32) : FVec F S4x3x256 .f32 := fun y =>
  featv (xcol (k2_pay2 v0)) w5 w4 w3 b (y 0) (y 1) (ValueIdx.ix1 (y 2))

/-- A feature stored at its place is the features' row there. -/
theorem feat_piece (g : Fin 4 → Fin 3 → FVec F S256 .f32) (r : Fin 4) (j : Fin 3) (off : Fin 3 → ℕ) (hoff : off = ![r.val, j.val, 0]) (inb)
    (x : S1x1x256.Idx) :
    shapeCast S1x1x256 (g r j) shapeCasts_S256_S1x1x256 x
      = (fun y : S4x3x256.Idx => g (y 0) (y 1) (ValueIdx.ix1 (y 2))) ((Rect.unit (s := S4x3x256) off S1x1x256.size inb).emb x) := by
  subst hoff
  have h0 : (x 0).val = 0 := by have : (x 0).val < 1 := (x 0).isLt; omega
  have h1 : (x 1).val = 0 := by have : (x 1).val < 1 := (x 1).isLt; omega
  have e0 : (Rect.unit (s := S4x3x256) ![r.val, j.val, 0] S1x1x256.size inb).emb x 0 = r :=
    Fin.ext (show r.val + 1 * (x 0).val = r.val by omega)
  have e1 : (Rect.unit (s := S4x3x256) ![r.val, j.val, 0] S1x1x256.size inb).emb x 1 = j :=
    Fin.ext (show j.val + 1 * (x 1).val = j.val by omega)
  show _ = g ((Rect.unit (s := S4x3x256) ![r.val, j.val, 0] S1x1x256.size inb).emb x 0) ((Rect.unit (s := S4x3x256) ![r.val, j.val, 0] S1x1x256.size inb).emb x 1) _
  rw [e0, e1]
  refine shapeCast_apply _ _ _ _ ?_
  rw [Shape.rowMajor_val_one, Shape.rowMajor_val_three]
  show 0 + 1 * (x 2).val = ((x 0).val * 1 + (x 1).val) * 256 + (x 2).val
  omega

end Cert.Proof.Sc

end
-- ==== Proof.Conv2Body.lean ====
/-
  The first pallas_call's body at one grid point, run once at any staging buffers.
-/
module

public import proofs.«01_k».proof.Proof.ConvDefs

@[expose] public section

set_option maxRecDepth 16384

noncomputable section

namespace Cert.Proof.Sc

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

namespace Conv2

variable {F : FTy → Type} [FloatOps F]

local notation "𝕄" => MT nD τ sig (HIx 2) (Elt F) ℕ UU ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The body leaves the block's features in its result buffer, and changes no other but its scratch buffer. -/
theorem run (c : Dev nD) (i : grid2.Coords)
    (M1 : Memref sig .tc .vmem S4x1024x128 .f32) (h1 : M1.IsWhole) (M2 : Memref sig .tc .vmem S640x256 .fp8e4m3) (h2 : M2.IsWhole)
    (M3 : Memref sig .tc .vmem S512x256 .fp8e4m3) (h3 : M3.IsWhole) (M4 : Memref sig .tc .vmem S384x256 .fp8e4m3) (h4 : M4.IsWhole)
    (M5 : Memref sig .tc .vmem S1x768 .f32) (h5 : M5.IsWhole) (M6 : Memref sig .tc .vmem S4x3x256 .f32) (h6 : M6.IsWhole)
    (M7 : Memref sig .tc .vmem S4096x640 .fp8e4m3) (h7 : M7.IsWhole)
    (f1 : Bf (F := F) c M1) (f2 : Bf (F := F) c M2) (f3 : Bf (F := F) c M3) (f4 : Bf (F := F) c M4) (f5 : Bf (F := F) c M5)
    (f6 : Bf (F := F) c M6) (f7 : Bf (F := F) c M7) (E : Set ℕ) (Q : PUnit → sProp 𝕄) :
    iprop(pt c M1 f1 ∗ pt c M2 f2 ∗ pt c M3 f3 ∗ pt c M4 f4 ∗ pt c M5 f5 ∗ pt c M6 f6 ∗ pt c M7 f7
      ∗ (iprop(pt c M1 f1 ∗ pt c M2 f2 ∗ pt c M3 f3 ∗ pt c M4 f4 ∗ pt c M5 f5 ∗ (∃ g, ⌜M6.view.read (Elt F) g = convOut (M2.view.read (Elt F) f2) (M3.view.read (Elt F) f3) (M4.view.read (Elt F) f4)
          (M5.view.read (Elt F) f5) (M1.view.read (Elt F) f1)⌝ ∗ pt c M6 g) ∗ ∃ g, pt c M7 g) -∗ Q ⟨⟩))
      ⊢ wp frame (wpE (defs₀ (F := F)) Variants.none c none) E (cc2__conv_body i M1 h1 M2 h2 M3 h3 M4 h4 M5 h5 M6 h6 M7 h7) Q := by
  iintro ⟨H1, H2, H3, H4, H5, H6, H7, Hk⟩
  simp only [cc2__conv_body_eq_skeleton]; unfold cc2__conv_body_skel
  simp only [k2_part1_eq_skeleton, k2_part2_eq_skeleton, k2_part3_eq_skeleton, k2_part4_eq_skeleton, k2_part5_eq_skeleton]
  unfold k2_part1_skel k2_part2_skel k2_part3_skel k2_part4_skel k2_part5_skel
  sl_exec!
  sl_step
  have hX : run.sl.v41 c M1 M7 f1 f7 = xcol (k2_pay2 (M1.view.read (Elt F) f1)) := by
    unfold run.sl.v41
    refine (View.readAt_full M7.view _ _).trans (funext fun y => ?_)
    rw [← View.readAt_full M1.view f1 inb_S4x1024x128_S4x1024x128_0_0_0]
    exact read_cols M7.view M7.view.junk _ _ _ _ _ _ _ rfl rfl rfl y
  iapply Hk
  isplitl [H1]; · iexact H1
  isplitl [H2]; · iexact H2
  isplitl [H3]; · iexact H3
  isplitl [H4]; · iexact H4
  isplitl [H5]; · iexact H5
  isplitl [H6]
  · iexists M6.view.writes (Elt F) M6.view.junk (run.sl.H6_12 c M1 M2 M3 M4 M5 M7 f1 f2 f3 f4 f5 f7)
    isplitr
    · ipureintro
      have hG : convOut (M2.view.read (Elt F) f2) (M3.view.read (Elt F) f3) (M4.view.read (Elt F) f4) (M5.view.read (Elt F) f5) (M1.view.read (Elt F) f1)
          = fun y => featv (run.sl.v41 c M1 M7 f1 f7) (M2.view.readAt (Elt F) (Rect.unit ![0, 0] S640x256.size inb_S640x256_S640x256_0_0).toLoadRect f2)
              (M3.view.readAt (Elt F) (Rect.unit ![0, 0] S512x256.size inb_S512x256_S512x256_0_0).toLoadRect f3)
              (M4.view.readAt (Elt F) (Rect.unit ![0, 0] S384x256.size inb_S384x256_S384x256_0_0).toLoadRect f4)
              (M5.view.read (Elt F) f5) (y 0) (y 1) (ValueIdx.ix1 (y 2)) := by
        rw [hX, View.readAt_full, View.readAt_full, View.readAt_full]; rfl
      rw [hG]
      have key := feat_piece (featv (run.sl.v41 c M1 M7 f1 f7) (M2.view.readAt (Elt F) (Rect.unit ![0, 0] S640x256.size inb_S640x256_S640x256_0_0).toLoadRect f2)
              (M3.view.readAt (Elt F) (Rect.unit ![0, 0] S512x256.size inb_S512x256_S512x256_0_0).toLoadRect f3)
              (M4.view.readAt (Elt F) (Rect.unit ![0, 0] S384x256.size inb_S384x256_S384x256_0_0).toLoadRect f4) (M5.view.read (Elt F) f5))
      refine funext fun y => View.read_writes_apply_of_pieces M6.view M6.view.junk
        (fun y => featv (run.sl.v41 c M1 M7 f1 f7) (M2.view.readAt (Elt F) (Rect.unit ![0, 0] S640x256.size inb_S640x256_S640x256_0_0).toLoadRect f2)
              (M3.view.readAt (Elt F) (Rect.unit ![0, 0] S512x256.size inb_S512x256_S512x256_0_0).toLoadRect f3)
              (M4.view.readAt (Elt F) (Rect.unit ![0, 0] S384x256.size inb_S384x256_S384x256_0_0).toLoadRect f4)
              (M5.view.read (Elt F) f5) (y 0) (y 1) (ValueIdx.ix1 (y 2)))
        (run.sl.H6_12 c M1 M2 M3 M4 M5 M7 f1 f2 f3 f4 f5 f7) ?_ y (View.cover_of_tiled _ ![1, 1, 256] rfl y)
      refine List.forall_mem_cons.2 ⟨fun x => key 3 2 ![3, 2, 0] rfl inb_S4x3x256_S1x1x256_3_2_0 x, ?_⟩
      refine List.forall_mem_cons.2 ⟨fun x => key 2 2 ![2, 2, 0] rfl inb_S4x3x256_S1x1x256_2_2_0 x, ?_⟩
      refine List.forall_mem_cons.2 ⟨fun x => key 1 2 ![1, 2, 0] rfl inb_S4x3x256_S1x1x256_1_2_0 x, ?_⟩
      refine List.forall_mem_cons.2 ⟨fun x => key 0 2 ![0, 2, 0] rfl inb_S4x3x256_S1x1x256_0_2_0 x, ?_⟩
      refine List.forall_mem_cons.2 ⟨fun x => key 3 1 ![3, 1, 0] rfl inb_S4x3x256_S1x1x256_3_1_0 x, ?_⟩
      refine List.forall_mem_cons.2 ⟨fun x => key 2 1 ![2, 1, 0] rfl inb_S4x3x256_S1x1x256_2_1_0 x, ?_⟩
      refine List.forall_mem_cons.2 ⟨fun x => key 1 1 ![1, 1, 0] rfl inb_S4x3x256_S1x1x256_1_1_0 x, ?_⟩
      refine List.forall_mem_cons.2 ⟨fun x => key 0 1 ![0, 1, 0] rfl inb_S4x3x256_S1x1x256_0_1_0 x, ?_⟩
      refine List.forall_mem_cons.2 ⟨fun x => key 3 0 ![3, 0, 0] rfl inb_S4x3x256_S1x1x256_3_0_0 x, ?_⟩
      refine List.forall_mem_cons.2 ⟨fun x => key 2 0 ![2, 0, 0] rfl inb_S4x3x256_S1x1x256_2_0_0 x, ?_⟩
      refine List.forall_mem_cons.2 ⟨fun x => key 1 0 ![1, 0, 0] rfl inb_S4x3x256_S1x1x256_1_0_0 x, ?_⟩
      refine List.forall_mem_cons.2 ⟨fun x => key 0 0 ![0, 0, 0] rfl inb_S4x3x256_S1x1x256_0_0_0 x, ?_⟩
      exact fun _ h => absurd h List.not_mem_nil
    · iexact H6
  · iexists _; iexact H7

end Conv2

end Cert.Proof.Sc

end
-- ==== Proof.Conv3Body.lean ====
/-
  The second pallas_call's body, run once at any staging buffers: the last paths' features, then the recurrence over all
  paths and the classifier.
-/
module

public import proofs.«01_k».proof.Proof.Conv2Body

@[expose] public section

set_option maxRecDepth 16384

noncomputable section

namespace Cert.Proof.Sc

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-- Step `j` of the first twelve paths' features. -/
abbrev step12 (A : Vec F S12x3x256 .f32) (j : ℕ) (inb : ∀ a, (![0, j, 0] : Fin 3 → ℕ) a + S12x1x256.size a ≤ S12x3x256.size a) : Vec F S12x1x256 .f32 :=
  fun x => A ((Rect.unit (s := S12x3x256) ![0, j, 0] S12x1x256.size inb).emb x)

/-- Step `j` of the last four paths' features. -/
abbrev step4 (B : Vec F S4x3x256 .f32) (j : ℕ) (inb : ∀ a, (![0, j, 0] : Fin 3 → ℕ) a + S4x1x256.size a ≤ S4x3x256.size a) : Vec F S4x1x256 .f32 :=
  fun x => B ((Rect.unit (s := S4x3x256) ![0, j, 0] S4x1x256.size inb).emb x)

/-- The class scores of all paths from the three steps of their features: three forward steps, one backward step from the
    last feature, the classifier and the normalisation. -/
def recFn (a0 : Vec F S12x1x256 .f32) (b0 : Vec F S4x1x256 .f32) (a1 : Vec F S12x1x256 .f32) (b1 : Vec F S4x1x256 .f32)
    (a2 : Vec F S12x1x256 .f32) (b2 : Vec F S4x1x256 .f32) (wi wh : Vec F S256x1024 .bf16) (b : Vec F S1x1024 .f32)
    (wib : Vec F S256x1024 .bf16) (bb : Vec F S1x1024 .f32) (pw : Vec F S512x20 .bf16) (pb : Vec F S1x20 .f32) : FVec F S16x20 .f32 :=
  k3_pay2 (k3_pay13
      (k3_pay9 (k3_pay4 a0 b0 wi wh b) (k3_pay5 a0 b0 wi wh b) (k3_pay6 a1) (k3_pay7 b1) wi wh b)
      (k3_pay10 a2 b2 wi)
      (k3_pay11 (k3_pay4 a0 b0 wi wh b) (k3_pay5 a0 b0 wi wh b) (k3_pay6 a1) (k3_pay7 b1) wi wh b)
      (k3_pay12 wh) (constant S16x1024 .f32 0x00000000#32) b a2 b2 wib bb) pw pb

/-- The class scores of all paths from their features. -/
def recOut (A : Vec F S12x3x256 .f32) (B : Vec F S4x3x256 .f32) (wi wh : Vec F S256x1024 .bf16) (b : Vec F S1x1024 .f32)
    (wib : Vec F S256x1024 .bf16) (bb : Vec F S1x1024 .f32) (pw : Vec F S512x20 .bf16) (pb : Vec F S1x20 .f32) : FVec F S16x20 .f32 :=
  recFn (step12 A 0 inb_S12x3x256_S12x1x256_0_0_0) (step4 B 0 inb_S4x3x256_S4x1x256_0_0_0)
    (step12 A 1 inb_S12x3x256_S12x1x256_0_1_0) (step4 B 1 inb_S4x3x256_S4x1x256_0_1_0)
    (step12 A 2 inb_S12x3x256_S12x1x256_0_2_0) (step4 B 2 inb_S4x3x256_S4x1x256_0_2_0) wi wh b wib bb pw pb

namespace Conv3

open Conv2 (Bf pt)

/-- The grid's one point. -/
def pt0 : grid3.Coords := fun a => ⟨0, (by decide : ∀ a, 0 < grid3.bound a) a⟩

theorem coord_zero (i : grid3.Coords) : i = pt0 :=
  funext fun a => Fin.ext (by
    have h : (i a).val < grid3.bound a := (i a).isLt
    have h1 : grid3.bound a = 1 := (by decide : ∀ a, grid3.bound a = 1) a
    show (i a).val = 0
    omega)

theorem cond_true : k3_cond1 pt0 = 1#1 := by decide

set_option maxHeartbeats 2000000 in
/-- The body leaves the class scores of the paths in its result buffer, and changes no other but its two scratch buffers. -/
theorem run (c : Dev nD) (i : grid3.Coords)
    (M1 : Memref sig .tc .vmem S4x1024x128 .f32) (h1 : M1.IsWhole)
    (M2 : Memref sig .tc .vmem S640x256 .fp8e4m3) (h2 : M2.IsWhole)
    (M3 : Memref sig .tc .vmem S512x256 .fp8e4m3) (h3 : M3.IsWhole)
    (M4 : Memref sig .tc .vmem S384x256 .fp8e4m3) (h4 : M4.IsWhole)
    (M5 : Memref sig .tc .vmem S1x768 .f32) (h5 : M5.IsWhole)
    (M6 : Memref sig .tc .vmem S12x3x256 .f32) (h6 : M6.IsWhole)
    (M7 : Memref sig .tc .vmem S256x1024 .bf16) (h7 : M7.IsWhole)
    (M8 : Memref sig .tc .vmem S256x1024 .bf16) (h8 : M8.IsWhole)
    (M9 : Memref sig .tc .vmem S1x1024 .f32) (h9 : M9.IsWhole)
    (M10 : Memref sig .tc .vmem S256x1024 .bf16) (h10 : M10.IsWhole)
    (M11 : Memref sig .tc .vmem S1x1024 .f32) (h11 : M11.IsWhole)
    (M12 : Memref sig .tc .vmem S512x20 .bf16) (h12 : M12.IsWhole)
    (M13 : Memref sig .tc .vmem S1x20 .f32) (h13 : M13.IsWhole)
    (M14 : Memref sig .tc .vmem S16x20 .f32) (h14 : M14.IsWhole)
    (M15 : Memref sig .tc .vmem S4096x640 .fp8e4m3) (h15 : M15.IsWhole)
    (M16 : Memref sig .tc .vmem S4x3x256 .f32) (h16 : M16.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16
      ∗ (iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ (∃ g, ⌜M14.view.read (Elt F) g = recOut (M6.view.read (Elt F) f6) (convOut (M2.view.read (Elt F) f2) (M3.view.read (Elt F) f3) (M4.view.read (Elt F) f4) (M5.view.read (Elt F) f5) (M1.view.read (Elt F) f1)) (M7.view.read (Elt F) f7) (M8.view.read (Elt F) f8) (M9.view.read (Elt F) f9) (M10.view.read (Elt F) f10) (M11.view.read (Elt F) f11) (M12.view.read (Elt F) f12) (M13.view.read (Elt F) f13)⌝ ∗ pt c M14 g)
          ∗ (∃ g, pt c M15 g) ∗ ∃ g, pt c M16 g) -∗ Q ⟨⟩))
      ⊢ wp frame (wpE (defs₀ (F := F)) Variants.none c none) E (cc3__conv_rec_body i M1 h1 M2 h2 M3 h3 M4 h4 M5 h5 M6 h6 M7 h7 M8 h8 M9 h9 M10 h10 M11 h11 M12 h12 M13 h13 M14 h14 M15 h15 M16 h16) Q := by
  obtain rfl := coord_zero i
  iintro ⟨H1, H2, H3, H4, H5, H6, H7, H8, H9, H10, H11, H12, H13, H14, H15, H16, Hk⟩
  simp only [cc3__conv_rec_body_eq_skeleton]; unfold cc3__conv_rec_body_skel
  simp only [k3_part1_eq_skeleton, k3_part2_eq_skeleton, k3_part3_eq_skeleton, k3_part4_eq_skeleton, k3_part5_eq_skeleton, k3_part6_eq_skeleton, k3_part7_eq_skeleton, k3_part8_eq_skeleton, k3_part9_eq_skeleton, dif_pos cond_true]
  unfold k3_part1_skel k3_part2_skel k3_part3_skel k3_part4_skel k3_part5_skel k3_part6_skel k3_part7_skel k3_part8_skel k3_part9_skel
  sl_exec!
  sl_step
  have hX : run.sl.v41 c M1 M15 f1 f15 = xcol (k2_pay2 (M1.view.read (Elt F) f1)) := by
    unfold run.sl.v41
    refine (View.readAt_full M15.view _ _).trans (funext fun y => ?_)
    rw [← View.readAt_full M1.view f1 inb_S4x1024x128_S4x1024x128_0_0_0]
    exact read_cols M15.view M15.view.junk _ _ _ _ _ _ _ rfl rfl rfl y
  have hG : (convOut (M2.view.read (Elt F) f2) (M3.view.read (Elt F) f3) (M4.view.read (Elt F) f4) (M5.view.read (Elt F) f5) (M1.view.read (Elt F) f1))
      = fun y => featv (run.sl.v41 c M1 M15 f1 f15) (M2.view.readAt (Elt F) (Rect.unit ![0, 0] S640x256.size inb_S640x256_S640x256_0_0).toLoadRect f2)
              (M3.view.readAt (Elt F) (Rect.unit ![0, 0] S512x256.size inb_S512x256_S512x256_0_0).toLoadRect f3)
              (M4.view.readAt (Elt F) (Rect.unit ![0, 0] S384x256.size inb_S384x256_S384x256_0_0).toLoadRect f4)
              (M5.view.read (Elt F) f5) (y 0) (y 1) (ValueIdx.ix1 (y 2)) := by
    rw [hX, View.readAt_full, View.readAt_full, View.readAt_full]; rfl
  have key := feat_piece (featv (run.sl.v41 c M1 M15 f1 f15) (M2.view.readAt (Elt F) (Rect.unit ![0, 0] S640x256.size inb_S640x256_S640x256_0_0).toLoadRect f2)
              (M3.view.readAt (Elt F) (Rect.unit ![0, 0] S512x256.size inb_S512x256_S512x256_0_0).toLoadRect f3)
              (M4.view.readAt (Elt F) (Rect.unit ![0, 0] S384x256.size inb_S384x256_S384x256_0_0).toLoadRect f4)
              (M5.view.read (Elt F) f5))
  have hF : M16.view.read (Elt F) (M16.view.writes (Elt F) M16.view.junk (run.sl.H16_12 c M1 M2 M3 M4 M5 M15 f1 f2 f3 f4 f5 f15)) = (convOut (M2.view.read (Elt F) f2) (M3.view.read (Elt F) f3) (M4.view.read (Elt F) f4) (M5.view.read (Elt F) f5) (M1.view.read (Elt F) f1)) := by
    rw [hG]
    refine funext fun y => View.read_writes_apply_of_pieces M16.view M16.view.junk
      (fun y => featv (run.sl.v41 c M1 M15 f1 f15) (M2.view.readAt (Elt F) (Rect.unit ![0, 0] S640x256.size inb_S640x256_S640x256_0_0).toLoadRect f2)
              (M3.view.readAt (Elt F) (Rect.unit ![0, 0] S512x256.size inb_S512x256_S512x256_0_0).toLoadRect f3)
              (M4.view.readAt (Elt F) (Rect.unit ![0, 0] S384x256.size inb_S384x256_S384x256_0_0).toLoadRect f4)
              (M5.view.read (Elt F) f5) (y 0) (y 1) (ValueIdx.ix1 (y 2)))
      (run.sl.H16_12 c M1 M2 M3 M4 M5 M15 f1 f2 f3 f4 f5 f15) ?_ y (View.cover_of_tiled _ ![1, 1, 256] rfl y)
    refine List.forall_mem_cons.2 ⟨fun x => key 3 2 (k3_off3 pt0 3#32) (k3_off3_eq pt0 3) (k3_off3_inb pt0 3) x, ?_⟩
    refine List.forall_mem_cons.2 ⟨fun x => key 2 2 (k3_off3 pt0 2#32) (k3_off3_eq pt0 2) (k3_off3_inb pt0 2) x, ?_⟩
    refine List.forall_mem_cons.2 ⟨fun x => key 1 2 (k3_off3 pt0 1#32) (k3_off3_eq pt0 1) (k3_off3_inb pt0 1) x, ?_⟩
    refine List.forall_mem_cons.2 ⟨fun x => key 0 2 (k3_off3 pt0 0#32) (k3_off3_eq pt0 0) (k3_off3_inb pt0 0) x, ?_⟩
    refine List.forall_mem_cons.2 ⟨fun x => key 3 1 (k3_off2 pt0 3#32) (k3_off2_eq pt0 3) (k3_off2_inb pt0 3) x, ?_⟩
    refine List.forall_mem_cons.2 ⟨fun x => key 2 1 (k3_off2 pt0 2#32) (k3_off2_eq pt0 2) (k3_off2_inb pt0 2) x, ?_⟩
    refine List.forall_mem_cons.2 ⟨fun x => key 1 1 (k3_off2 pt0 1#32) (k3_off2_eq pt0 1) (k3_off2_inb pt0 1) x, ?_⟩
    refine List.forall_mem_cons.2 ⟨fun x => key 0 1 (k3_off2 pt0 0#32) (k3_off2_eq pt0 0) (k3_off2_inb pt0 0) x, ?_⟩
    refine List.forall_mem_cons.2 ⟨fun x => key 3 0 (k3_off1 pt0 3#32) (k3_off1_eq pt0 3) (k3_off1_inb pt0 3) x, ?_⟩
    refine List.forall_mem_cons.2 ⟨fun x => key 2 0 (k3_off1 pt0 2#32) (k3_off1_eq pt0 2) (k3_off1_inb pt0 2) x, ?_⟩
    refine List.forall_mem_cons.2 ⟨fun x => key 1 0 (k3_off1 pt0 1#32) (k3_off1_eq pt0 1) (k3_off1_inb pt0 1) x, ?_⟩
    refine List.forall_mem_cons.2 ⟨fun x => key 0 0 (k3_off1 pt0 0#32) (k3_off1_eq pt0 0) (k3_off1_inb pt0 0) x, ?_⟩
    exact fun _ h => absurd h List.not_mem_nil
  have e222 : run.sl.v222 c M1 M2 M3 M4 M5 M15 M16 f1 f2 f3 f4 f5 f15 = step4 (convOut (M2.view.read (Elt F) f2) (M3.view.read (Elt F) f3) (M4.view.read (Elt F) f4) (M5.view.read (Elt F) f5) (M1.view.read (Elt F) f1)) 0 inb_S4x3x256_S4x1x256_0_0_0 := by
    rw [← hF]; rfl
  have e254 : run.sl.v254 c M1 M2 M3 M4 M5 M15 M16 f1 f2 f3 f4 f5 f15 = step4 (convOut (M2.view.read (Elt F) f2) (M3.view.read (Elt F) f3) (M4.view.read (Elt F) f4) (M5.view.read (Elt F) f5) (M1.view.read (Elt F) f1)) 1 inb_S4x3x256_S4x1x256_0_1_0 := by
    rw [← hF]; rfl
  have e286 : run.sl.v286 c M1 M2 M3 M4 M5 M15 M16 f1 f2 f3 f4 f5 f15 = step4 (convOut (M2.view.read (Elt F) f2) (M3.view.read (Elt F) f3) (M4.view.read (Elt F) f4) (M5.view.read (Elt F) f5) (M1.view.read (Elt F) f1)) 2 inb_S4x3x256_S4x1x256_0_2_0 := by
    rw [← hF]; rfl
  have hR : recOut (M6.view.read (Elt F) f6) (convOut (M2.view.read (Elt F) f2) (M3.view.read (Elt F) f3) (M4.view.read (Elt F) f4) (M5.view.read (Elt F) f5) (M1.view.read (Elt F) f1)) (M7.view.read (Elt F) f7) (M8.view.read (Elt F) f8) (M9.view.read (Elt F) f9) (M10.view.read (Elt F) f10) (M11.view.read (Elt F) f11) (M12.view.read (Elt F) f12) (M13.view.read (Elt F) f13)
      = recFn (M6.view.readAt (Elt F) (Rect.unit (s := S12x3x256) ![0, 0, 0] S12x1x256.size inb_S12x3x256_S12x1x256_0_0_0).toLoadRect f6) (run.sl.v222 c M1 M2 M3 M4 M5 M15 M16 f1 f2 f3 f4 f5 f15)
        (M6.view.readAt (Elt F) (Rect.unit (s := S12x3x256) ![0, 1, 0] S12x1x256.size inb_S12x3x256_S12x1x256_0_1_0).toLoadRect f6) (run.sl.v254 c M1 M2 M3 M4 M5 M15 M16 f1 f2 f3 f4 f5 f15)
        (M6.view.readAt (Elt F) (Rect.unit (s := S12x3x256) ![0, 2, 0] S12x1x256.size inb_S12x3x256_S12x1x256_0_2_0).toLoadRect f6) (run.sl.v286 c M1 M2 M3 M4 M5 M15 M16 f1 f2 f3 f4 f5 f15)
        (M7.view.readAt (Elt F) (Rect.unit ![0, 0] S256x1024.size inb_S256x1024_S256x1024_0_0).toLoadRect f7)
        (M8.view.readAt (Elt F) (Rect.unit ![0, 0] S256x1024.size inb_S256x1024_S256x1024_0_0).toLoadRect f8)
        (M9.view.readAt (Elt F) (Rect.unit ![0, 0] S1x1024.size inb_S1x1024_S1x1024_0_0).toLoadRect f9)
        (M10.view.readAt (Elt F) (Rect.unit ![0, 0] S256x1024.size inb_S256x1024_S256x1024_0_0).toLoadRect f10)
        (M11.view.readAt (Elt F) (Rect.unit ![0, 0] S1x1024.size inb_S1x1024_S1x1024_0_0).toLoadRect f11)
        (M12.view.readAt (Elt F) (Rect.unit ![0, 0] S512x20.size inb_S512x20_S512x20_0_0).toLoadRect f12)
        (M13.view.readAt (Elt F) (Rect.unit ![0, 0] S1x20.size inb_S1x20_S1x20_0_0).toLoadRect f13) := by
    rw [e222, e254, e286, View.readAt_full M7.view, View.readAt_full M8.view, View.readAt_full M9.view, View.readAt_full M10.view, View.readAt_full M11.view, View.readAt_full M12.view, View.readAt_full M13.view]; rfl
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · iexists M14.view.writes (Elt F) M14.view.junk (run.sl.H14_1 c M1 M2 M3 M4 M5 M6 M7 M8 M9 M10 M11 M12 M13 M15 M16 f1 f2 f3 f4 f5 f6 f7 f8 f9 f10 f11 f12 f13 f15)
    isplitr
    · ipureintro
      rw [hR]
      exact View.read_writes_full M14.view _ inb_S16x20_S16x20_0_0 _ []
    · iexact H14
  isplitl [H15]
  · iexists _; iexact H15
  · iexists _; iexact H16

end Conv3

end Cert.Proof.Sc

end
-- ==== Proof.Regions.lean ====
/-
  The two pallas_calls of the TensorCore as regions: the proof data of each from the valuation it is entered at, the
  body obligation from the body's run, and the region over the thread state that holds every unscoped buffer at a
  valuation beside the record of what the core still owes.
-/
module

public import proofs.«01_k».proof.Proof.ScSetup
public import proofs.«01_k».proof.Proof.Conv2Body
public import proofs.«01_k».proof.Proof.Conv3Body
public import proofs.«01_k».proof.Proof.Gen.KernelIdeal.Points
public import Idealize.ShloMosaic.Lib.Pipeline.RegionsLoop
public import Idealize.ShloMosaic.Lib.Pipeline.FrameBody
public import Idealize.ShloMosaic.Lib.Tactic

@[expose] public section

set_option maxRecDepth 16384

noncomputable section

namespace Cert.Proof.Sc

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

abbrev adm : (p : Fin 2) → (pcfgs (F := F) p).Adm := fun p => (cfgs p).toPCfg_adm

/-- A memref that is a whole buffer, owned at what it reads, is its buffer at contents that read so. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ Conv2.pt c M f) := by
  unfold owns; rw [h.set_eq_univ]

/-- The pairs the TensorCore may have recorded once both SparseCore calls are over. -/
abbrev recd (d : Dev nD) : Set (SemLoc sig × HIx 2) := {p | (K (F := F)).lev (T (nD := nD) (τ := τ) d, p.1) p.2 ≤ 8 * 2}

/-- What the core owes between the regions: nothing, its recorded pairs no higher than the calls' last. -/
abbrev owed0 (c : Dev nD) : sProp 𝕄 :=
  iprop(∃ W, ⌜(K (F := F)).WBelow (T (nD := nD) (τ := τ) c) W (8 * 2)⌝ ∗ owes (c : Thread nD τ) (0 : CellTallies nD τ sig (HIx 2)) W)

/-! ## The first pallas_call -/

/-- Input 0's block at point `t` of its array at the entry valuation. -/
abbrev blk2_0 (W : Valuation τ sig (Elt F)) (t : Fin cfg2.N) : (cfg2.win 0).block.Idx → Elt F (cfg2.win 0).elt :=
  ((cfg2.win 0).blk t).view.read (Elt F) (bv W main_v4)
/-- Input 1's block at point `t` of its array at the entry valuation. -/
abbrev blk2_1 (W : Valuation τ sig (Elt F)) (t : Fin cfg2.N) : (cfg2.win 1).block.Idx → Elt F (cfg2.win 1).elt :=
  ((cfg2.win 1).blk t).view.read (Elt F) (bv W main_v13)
/-- Input 2's block at point `t` of its array at the entry valuation. -/
abbrev blk2_2 (W : Valuation τ sig (Elt F)) (t : Fin cfg2.N) : (cfg2.win 2).block.Idx → Elt F (cfg2.win 2).elt :=
  ((cfg2.win 2).blk t).view.read (Elt F) (bv W main_v19)
/-- Input 3's block at point `t` of its array at the entry valuation. -/
abbrev blk2_3 (W : Valuation τ sig (Elt F)) (t : Fin cfg2.N) : (cfg2.win 3).block.Idx → Elt F (cfg2.win 3).elt :=
  ((cfg2.win 3).blk t).view.read (Elt F) (bv W main_v25)
/-- Input 4's block at point `t` of its array at the entry valuation. -/
abbrev blk2_4 (W : Valuation τ sig (Elt F)) (t : Fin cfg2.N) : (cfg2.win 4).block.Idx → Elt F (cfg2.win 4).elt :=
  ((cfg2.win 4).blk t).view.read (Elt F) (bv W main_v27)

/-- What the body leaves in the result's buffer at point `t`. -/
abbrev res2 (W : Valuation τ sig (Elt F)) (t : Fin cfg2.N) : FVec F S4x3x256 .f32 :=
  convOut (blk2_1 W t) (blk2_2 W t) (blk2_3 W t) (blk2_4 W t) (blk2_0 W t)

/-- The proof data of the region entered at `W`: the arrays at `W`, the inputs' buffers left as fetched, the result's at
    the body's result; nothing owed; full shares. -/
def dat2 (W : Valuation τ sig (Elt F)) (c : Dev nD) : Dat τ (Elt F) (HIx 2) ℕ UU ℕ cfg2 c where
  A w := bv W (Pipeline.arrRef spec2 w)
  after w t := match w with
    | ⟨0, _⟩ => blk2_0 W t
    | ⟨1, _⟩ => blk2_1 W t
    | ⟨2, _⟩ => blk2_2 W t
    | ⟨3, _⟩ => blk2_3 W t
    | ⟨4, _⟩ => blk2_4 W t
    | ⟨5, _⟩ => res2 W t
  Φ _ := Pipeline.scopedRest (Ix := HIx 2) (Name := ℕ) (U := UU) (Lvl := ℕ) (Val := Elt F) spec2 c
  q _ := fullShare
  owed _ := 0
  recorded _ := recd (F := F) c

theorem before2_0 (W : Valuation τ sig (Elt F)) (c : Dev nD) (t : Fin cfg2.N) (d : (cfg2.win 0).block.Idx → Elt F (cfg2.win 0).elt) :
    (dat2 W c).before 0 t d = blk2_0 W t :=
  (dat2 W c).before_in_eq_fetched 0 rfl (fun _ => rfl) (fun _ _ _ => rfl) (fun _ => rfl) t d

theorem before2_1 (W : Valuation τ sig (Elt F)) (c : Dev nD) (t : Fin cfg2.N) (d : (cfg2.win 1).block.Idx → Elt F (cfg2.win 1).elt) :
    (dat2 W c).before 1 t d = blk2_1 W t :=
  (dat2 W c).before_in_eq_fetched 1 rfl (fun _ => rfl) (fun _ _ _ => rfl) (fun _ => rfl) t d

theorem before2_2 (W : Valuation τ sig (Elt F)) (c : Dev nD) (t : Fin cfg2.N) (d : (cfg2.win 2).block.Idx → Elt F (cfg2.win 2).elt) :
    (dat2 W c).before 2 t d = blk2_2 W t :=
  (dat2 W c).before_in_eq_fetched 2 rfl (fun _ => rfl) (fun _ _ _ => rfl) (fun _ => rfl) t d

theorem before2_3 (W : Valuation τ sig (Elt F)) (c : Dev nD) (t : Fin cfg2.N) (d : (cfg2.win 3).block.Idx → Elt F (cfg2.win 3).elt) :
    (dat2 W c).before 3 t d = blk2_3 W t :=
  (dat2 W c).before_in_eq_fetched 3 rfl (fun _ => rfl) (fun _ _ _ => rfl) (fun _ => rfl) t d

theorem before2_4 (W : Valuation τ sig (Elt F)) (c : Dev nD) (t : Fin cfg2.N) (d : (cfg2.win 4).block.Idx → Elt F (cfg2.win 4).elt) :
    (dat2 W c).before 4 t d = blk2_4 W t :=
  (dat2 W c).before_in_eq_fetched 4 rfl (fun _ => rfl) (fun _ _ _ => rfl) (fun _ => rfl) t d

/-- At every point the body takes the fetched blocks to its result, and returns the scratch buffers. -/
theorem body2 (W : Valuation τ sig (Elt F)) (c : Dev nD) : BodyObligation (dat2 W c) (defs₀ (F := F)) 𝒱₀ none Set.univ := fun t => by
  rw [bigSep_W2, bigSep_W2]
  rw [show (dat2 W c).Φ t.castSucc = Pipeline.scopedRest (Ix := HIx 2) (Name := ℕ) (U := UU) (Lvl := ℕ) (Val := Elt F) spec2 c from rfl,
    show (dat2 W c).Φ t.succ = Pipeline.scopedRest (Ix := HIx 2) (Name := ℕ) (U := UU) (Lvl := ℕ) (Val := Elt F) spec2 c from rfl,
    show (dat2 W c).owesAt none t.succ = (dat2 W c).owesAt none t.castSucc from rfl, scopedRest2_eq]
  iintro ⟨⟨⟨%fs, Hs⟩, Hrest⟩, HO, ⟨%d0, H0⟩, ⟨%d1, H1⟩, ⟨%d2, H2⟩, ⟨%d3, H3⟩, ⟨%d4, H4⟩, ⟨%d5, H5⟩⟩
  ihave G0 := (Entails.of_eq (owns_pt c (st2_0 t) (hstage2_0 ((cfg2.slots t 0).cast nbuf2_0)) ((dat2 W c).before 0 t d0))) $$ H0
  icases G0 with ⟨%f0, %hf0, H0⟩
  ihave G1 := (Entails.of_eq (owns_pt c (st2_1 t) (hstage2_1 ((cfg2.slots t 1).cast nbuf2_1)) ((dat2 W c).before 1 t d1))) $$ H1
  icases G1 with ⟨%f1, %hf1, H1⟩
  ihave G2 := (Entails.of_eq (owns_pt c (st2_2 t) (hstage2_2 ((cfg2.slots t 2).cast nbuf2_2)) ((dat2 W c).before 2 t d2))) $$ H2
  icases G2 with ⟨%f2, %hf2, H2⟩
  ihave G3 := (Entails.of_eq (owns_pt c (st2_3 t) (hstage2_3 ((cfg2.slots t 3).cast nbuf2_3)) ((dat2 W c).before 3 t d3))) $$ H3
  icases G3 with ⟨%f3, %hf3, H3⟩
  ihave G4 := (Entails.of_eq (owns_pt c (st2_4 t) (hstage2_4 ((cfg2.slots t 4).cast nbuf2_4)) ((dat2 W c).before 4 t d4))) $$ H4
  icases G4 with ⟨%f4, %hf4, H4⟩
  ihave G5 := (Entails.of_eq (owns_pt c (st2_5 t) (hstage2_5 ((cfg2.slots t 5).cast nbuf2_5)) ((dat2 W c).before 5 t d5))) $$ H5
  icases G5 with ⟨%f5, %hf5, H5⟩
  rw [before2_0] at hf0
  rw [before2_1] at hf1
  rw [before2_2] at hf2
  rw [before2_3] at hf3
  rw [before2_4] at hf4
  iapply (Conv2.run c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (Memref.whole cc2_scratch0) (Memref.isWhole_whole _) f0 f1 f2 f3 f4 f5 fs Set.univ _)
  isplitl [H0]; · iexact H0
  isplitl [H1]; · iexact H1
  isplitl [H2]; · iexact H2
  isplitl [H3]; · iexact H3
  isplitl [H4]; · iexact H4
  isplitl [H5]; · iexact H5
  isplitl [Hs]; · iexact Hs
  iintro ⟨H0, H1, H2, H3, H4, ⟨%g, %hg, H5⟩, Hs⟩
  isplitl [Hs Hrest]
  · isplitl [Hs]; · iexact Hs
    iexact Hrest
  isplitl [HO]; · iexact HO
  isplitl [H0]
  · iapply (Entails.of_eq (owns_pt c (st2_0 t) (hstage2_0 ((cfg2.slots t 0).cast nbuf2_0)) ((dat2 W c).after 0 t)).symm)
    iexists f0; isplitr; · ipureintro; exact hf0
    iexact H0
  isplitl [H1]
  · iapply (Entails.of_eq (owns_pt c (st2_1 t) (hstage2_1 ((cfg2.slots t 1).cast nbuf2_1)) ((dat2 W c).after 1 t)).symm)
    iexists f1; isplitr; · ipureintro; exact hf1
    iexact H1
  isplitl [H2]
  · iapply (Entails.of_eq (owns_pt c (st2_2 t) (hstage2_2 ((cfg2.slots t 2).cast nbuf2_2)) ((dat2 W c).after 2 t)).symm)
    iexists f2; isplitr; · ipureintro; exact hf2
    iexact H2
  isplitl [H3]
  · iapply (Entails.of_eq (owns_pt c (st2_3 t) (hstage2_3 ((cfg2.slots t 3).cast nbuf2_3)) ((dat2 W c).after 3 t)).symm)
    iexists f3; isplitr; · ipureintro; exact hf3
    iexact H3
  isplitl [H4]
  · iapply (Entails.of_eq (owns_pt c (st2_4 t) (hstage2_4 ((cfg2.slots t 4).cast nbuf2_4)) ((dat2 W c).after 4 t)).symm)
    iexists f4; isplitr; · ipureintro; exact hf4
    iexact H4
  iapply (Entails.of_eq (owns_pt c (st2_5 t) (hstage2_5 ((cfg2.slots t 5).cast nbuf2_5)) ((dat2 W c).after 5 t)).symm)
  iexists g; isplitr; swap; (· iexact H5)
  ipureintro
  refine hg.trans ?_
  rw [hf0, hf1, hf2, hf3, hf4]; rfl

/-! ## The second pallas_call -/

/-- Input 0's block at point `t` of its array at the entry valuation. -/
abbrev blk3_0 (W : Valuation τ sig (Elt F)) (t : Fin cfg3.N) : (cfg3.win 0).block.Idx → Elt F (cfg3.win 0).elt :=
  ((cfg3.win 0).blk t).view.read (Elt F) (bv W main_v7)
/-- Input 1's block at point `t` of its array at the entry valuation. -/
abbrev blk3_1 (W : Valuation τ sig (Elt F)) (t : Fin cfg3.N) : (cfg3.win 1).block.Idx → Elt F (cfg3.win 1).elt :=
  ((cfg3.win 1).blk t).view.read (Elt F) (bv W main_v13)
/-- Input 2's block at point `t` of its array at the entry valuation. -/
abbrev blk3_2 (W : Valuation τ sig (Elt F)) (t : Fin cfg3.N) : (cfg3.win 2).block.Idx → Elt F (cfg3.win 2).elt :=
  ((cfg3.win 2).blk t).view.read (Elt F) (bv W main_v19)
/-- Input 3's block at point `t` of its array at the entry valuation. -/
abbrev blk3_3 (W : Valuation τ sig (Elt F)) (t : Fin cfg3.N) : (cfg3.win 3).block.Idx → Elt F (cfg3.win 3).elt :=
  ((cfg3.win 3).blk t).view.read (Elt F) (bv W main_v25)
/-- Input 4's block at point `t` of its array at the entry valuation. -/
abbrev blk3_4 (W : Valuation τ sig (Elt F)) (t : Fin cfg3.N) : (cfg3.win 4).block.Idx → Elt F (cfg3.win 4).elt :=
  ((cfg3.win 4).blk t).view.read (Elt F) (bv W main_v27)
/-- Input 5's block at point `t` of its array at the entry valuation. -/
abbrev blk3_5 (W : Valuation τ sig (Elt F)) (t : Fin cfg3.N) : (cfg3.win 5).block.Idx → Elt F (cfg3.win 5).elt :=
  ((cfg3.win 5).blk t).view.read (Elt F) (bv W main_v28)
/-- Input 6's block at point `t` of its array at the entry valuation. -/
abbrev blk3_6 (W : Valuation τ sig (Elt F)) (t : Fin cfg3.N) : (cfg3.win 6).block.Idx → Elt F (cfg3.win 6).elt :=
  ((cfg3.win 6).blk t).view.read (Elt F) (bv W main_v30)
/-- Input 7's block at point `t` of its array at the entry valuation. -/
abbrev blk3_7 (W : Valuation τ sig (Elt F)) (t : Fin cfg3.N) : (cfg3.win 7).block.Idx → Elt F (cfg3.win 7).elt :=
  ((cfg3.win 7).blk t).view.read (Elt F) (bv W main_v32)
/-- Input 8's block at point `t` of its array at the entry valuation. -/
abbrev blk3_8 (W : Valuation τ sig (Elt F)) (t : Fin cfg3.N) : (cfg3.win 8).block.Idx → Elt F (cfg3.win 8).elt :=
  ((cfg3.win 8).blk t).view.read (Elt F) (bv W main_v34)
/-- Input 9's block at point `t` of its array at the entry valuation. -/
abbrev blk3_9 (W : Valuation τ sig (Elt F)) (t : Fin cfg3.N) : (cfg3.win 9).block.Idx → Elt F (cfg3.win 9).elt :=
  ((cfg3.win 9).blk t).view.read (Elt F) (bv W main_v36)
/-- Input 10's block at point `t` of its array at the entry valuation. -/
abbrev blk3_10 (W : Valuation τ sig (Elt F)) (t : Fin cfg3.N) : (cfg3.win 10).block.Idx → Elt F (cfg3.win 10).elt :=
  ((cfg3.win 10).blk t).view.read (Elt F) (bv W main_v38)
/-- Input 11's block at point `t` of its array at the entry valuation. -/
abbrev blk3_11 (W : Valuation τ sig (Elt F)) (t : Fin cfg3.N) : (cfg3.win 11).block.Idx → Elt F (cfg3.win 11).elt :=
  ((cfg3.win 11).blk t).view.read (Elt F) (bv W main_v40)
/-- Input 12's block at point `t` of its array at the entry valuation. -/
abbrev blk3_12 (W : Valuation τ sig (Elt F)) (t : Fin cfg3.N) : (cfg3.win 12).block.Idx → Elt F (cfg3.win 12).elt :=
  ((cfg3.win 12).blk t).view.read (Elt F) (bv W main_v41)

/-- What the body leaves in the result's buffer. -/
abbrev res3 (W : Valuation τ sig (Elt F)) (t : Fin cfg3.N) : FVec F S16x20 .f32 :=
  recOut (blk3_5 W t) (convOut (blk3_1 W t) (blk3_2 W t) (blk3_3 W t) (blk3_4 W t) (blk3_0 W t))
    (blk3_6 W t) (blk3_7 W t) (blk3_8 W t) (blk3_9 W t) (blk3_10 W t) (blk3_11 W t) (blk3_12 W t)

/-- The proof data of the region entered at `W`: the arrays at `W`, the inputs' buffers left as fetched, the result's at
    the body's result; nothing owed; full shares. -/
def dat3 (W : Valuation τ sig (Elt F)) (c : Dev nD) : Dat τ (Elt F) (HIx 2) ℕ UU ℕ cfg3 c where
  A w := bv W (Pipeline.arrRef spec3 w)
  after w t := match w with
    | ⟨0, _⟩ => blk3_0 W t
    | ⟨1, _⟩ => blk3_1 W t
    | ⟨2, _⟩ => blk3_2 W t
    | ⟨3, _⟩ => blk3_3 W t
    | ⟨4, _⟩ => blk3_4 W t
    | ⟨5, _⟩ => blk3_5 W t
    | ⟨6, _⟩ => blk3_6 W t
    | ⟨7, _⟩ => blk3_7 W t
    | ⟨8, _⟩ => blk3_8 W t
    | ⟨9, _⟩ => blk3_9 W t
    | ⟨10, _⟩ => blk3_10 W t
    | ⟨11, _⟩ => blk3_11 W t
    | ⟨12, _⟩ => blk3_12 W t
    | ⟨13, _⟩ => res3 W t
  Φ _ := Pipeline.scopedRest (Ix := HIx 2) (Name := ℕ) (U := UU) (Lvl := ℕ) (Val := Elt F) spec3 c
  q _ := fullShare
  owed _ := 0
  recorded _ := recd (F := F) c

theorem before3_0 (W : Valuation τ sig (Elt F)) (c : Dev nD) (t : Fin cfg3.N) (d : (cfg3.win 0).block.Idx → Elt F (cfg3.win 0).elt) :
    (dat3 W c).before 0 t d = blk3_0 W t :=
  (dat3 W c).before_in_eq_fetched 0 rfl (fun _ => rfl) (fun _ _ _ => rfl) (fun _ => rfl) t d

theorem before3_1 (W : Valuation τ sig (Elt F)) (c : Dev nD) (t : Fin cfg3.N) (d : (cfg3.win 1).block.Idx → Elt F (cfg3.win 1).elt) :
    (dat3 W c).before 1 t d = blk3_1 W t :=
  (dat3 W c).before_in_eq_fetched 1 rfl (fun _ => rfl) (fun _ _ _ => rfl) (fun _ => rfl) t d

theorem before3_2 (W : Valuation τ sig (Elt F)) (c : Dev nD) (t : Fin cfg3.N) (d : (cfg3.win 2).block.Idx → Elt F (cfg3.win 2).elt) :
    (dat3 W c).before 2 t d = blk3_2 W t :=
  (dat3 W c).before_in_eq_fetched 2 rfl (fun _ => rfl) (fun _ _ _ => rfl) (fun _ => rfl) t d

theorem before3_3 (W : Valuation τ sig (Elt F)) (c : Dev nD) (t : Fin cfg3.N) (d : (cfg3.win 3).block.Idx → Elt F (cfg3.win 3).elt) :
    (dat3 W c).before 3 t d = blk3_3 W t :=
  (dat3 W c).before_in_eq_fetched 3 rfl (fun _ => rfl) (fun _ _ _ => rfl) (fun _ => rfl) t d

theorem before3_4 (W : Valuation τ sig (Elt F)) (c : Dev nD) (t : Fin cfg3.N) (d : (cfg3.win 4).block.Idx → Elt F (cfg3.win 4).elt) :
    (dat3 W c).before 4 t d = blk3_4 W t :=
  (dat3 W c).before_in_eq_fetched 4 rfl (fun _ => rfl) (fun _ _ _ => rfl) (fun _ => rfl) t d

theorem before3_5 (W : Valuation τ sig (Elt F)) (c : Dev nD) (t : Fin cfg3.N) (d : (cfg3.win 5).block.Idx → Elt F (cfg3.win 5).elt) :
    (dat3 W c).before 5 t d = blk3_5 W t :=
  (dat3 W c).before_in_eq_fetched 5 rfl (fun _ => rfl) (fun _ _ _ => rfl) (fun _ => rfl) t d

theorem before3_6 (W : Valuation τ sig (Elt F)) (c : Dev nD) (t : Fin cfg3.N) (d : (cfg3.win 6).block.Idx → Elt F (cfg3.win 6).elt) :
    (dat3 W c).before 6 t d = blk3_6 W t :=
  (dat3 W c).before_in_eq_fetched 6 rfl (fun _ => rfl) (fun _ _ _ => rfl) (fun _ => rfl) t d

theorem before3_7 (W : Valuation τ sig (Elt F)) (c : Dev nD) (t : Fin cfg3.N) (d : (cfg3.win 7).block.Idx → Elt F (cfg3.win 7).elt) :
    (dat3 W c).before 7 t d = blk3_7 W t :=
  (dat3 W c).before_in_eq_fetched 7 rfl (fun _ => rfl) (fun _ _ _ => rfl) (fun _ => rfl) t d

theorem before3_8 (W : Valuation τ sig (Elt F)) (c : Dev nD) (t : Fin cfg3.N) (d : (cfg3.win 8).block.Idx → Elt F (cfg3.win 8).elt) :
    (dat3 W c).before 8 t d = blk3_8 W t :=
  (dat3 W c).before_in_eq_fetched 8 rfl (fun _ => rfl) (fun _ _ _ => rfl) (fun _ => rfl) t d

theorem before3_9 (W : Valuation τ sig (Elt F)) (c : Dev nD) (t : Fin cfg3.N) (d : (cfg3.win 9).block.Idx → Elt F (cfg3.win 9).elt) :
    (dat3 W c).before 9 t d = blk3_9 W t :=
  (dat3 W c).before_in_eq_fetched 9 rfl (fun _ => rfl) (fun _ _ _ => rfl) (fun _ => rfl) t d

theorem before3_10 (W : Valuation τ sig (Elt F)) (c : Dev nD) (t : Fin cfg3.N) (d : (cfg3.win 10).block.Idx → Elt F (cfg3.win 10).elt) :
    (dat3 W c).before 10 t d = blk3_10 W t :=
  (dat3 W c).before_in_eq_fetched 10 rfl (fun _ => rfl) (fun _ _ _ => rfl) (fun _ => rfl) t d

theorem before3_11 (W : Valuation τ sig (Elt F)) (c : Dev nD) (t : Fin cfg3.N) (d : (cfg3.win 11).block.Idx → Elt F (cfg3.win 11).elt) :
    (dat3 W c).before 11 t d = blk3_11 W t :=
  (dat3 W c).before_in_eq_fetched 11 rfl (fun _ => rfl) (fun _ _ _ => rfl) (fun _ => rfl) t d

theorem before3_12 (W : Valuation τ sig (Elt F)) (c : Dev nD) (t : Fin cfg3.N) (d : (cfg3.win 12).block.Idx → Elt F (cfg3.win 12).elt) :
    (dat3 W c).before 12 t d = blk3_12 W t :=
  (dat3 W c).before_in_eq_fetched 12 rfl (fun _ => rfl) (fun _ _ _ => rfl) (fun _ => rfl) t d

set_option maxHeartbeats 2000000 in
/-- At every point the body takes the fetched blocks to its result, and returns the scratch buffers. -/
theorem body3 (W : Valuation τ sig (Elt F)) (c : Dev nD) : BodyObligation (dat3 W c) (defs₀ (F := F)) 𝒱₀ none Set.univ := fun t => by
  rw [bigSep_W3, bigSep_W3]
  rw [show cfg3.idle 13 (cfg3.grid.coords t) = false from by rw [Conv3.coord_zero (cfg3.grid.coords t)]; decide]
  rw [show (dat3 W c).Φ t.castSucc = Pipeline.scopedRest (Ix := HIx 2) (Name := ℕ) (U := UU) (Lvl := ℕ) (Val := Elt F) spec3 c from rfl,
    show (dat3 W c).Φ t.succ = Pipeline.scopedRest (Ix := HIx 2) (Name := ℕ) (U := UU) (Lvl := ℕ) (Val := Elt F) spec3 c from rfl,
    show (dat3 W c).owesAt none t.succ = (dat3 W c).owesAt none t.castSucc from rfl, scopedRest3_eq]
  iintro ⟨⟨R0, R1, R2, R3, R4, R5, R6, R7, R8, ⟨%fs, Hs⟩, ⟨%fr, Hr⟩⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  ihave G0 := (Entails.of_eq (owns_pt c (st3_0 t) (hstage3_0 ((cfg3.slots t 0).cast nbuf3_0)) ((dat3 W c).before 0 t d0))) $$ H0
  icases G0 with ⟨%f0, %hf0, H0⟩
  ihave G1 := (Entails.of_eq (owns_pt c (st3_1 t) (hstage3_1 ((cfg3.slots t 1).cast nbuf3_1)) ((dat3 W c).before 1 t d1))) $$ H1
  icases G1 with ⟨%f1, %hf1, H1⟩
  ihave G2 := (Entails.of_eq (owns_pt c (st3_2 t) (hstage3_2 ((cfg3.slots t 2).cast nbuf3_2)) ((dat3 W c).before 2 t d2))) $$ H2
  icases G2 with ⟨%f2, %hf2, H2⟩
  ihave G3 := (Entails.of_eq (owns_pt c (st3_3 t) (hstage3_3 ((cfg3.slots t 3).cast nbuf3_3)) ((dat3 W c).before 3 t d3))) $$ H3
  icases G3 with ⟨%f3, %hf3, H3⟩
  ihave G4 := (Entails.of_eq (owns_pt c (st3_4 t) (hstage3_4 ((cfg3.slots t 4).cast nbuf3_4)) ((dat3 W c).before 4 t d4))) $$ H4
  icases G4 with ⟨%f4, %hf4, H4⟩
  ihave G5 := (Entails.of_eq (owns_pt c (st3_5 t) (hstage3_5 ((cfg3.slots t 5).cast nbuf3_5)) ((dat3 W c).before 5 t d5))) $$ H5
  icases G5 with ⟨%f5, %hf5, H5⟩
  ihave G6 := (Entails.of_eq (owns_pt c (st3_6 t) (hstage3_6 ((cfg3.slots t 6).cast nbuf3_6)) ((dat3 W c).before 6 t d6))) $$ H6
  icases G6 with ⟨%f6, %hf6, H6⟩
  ihave G7 := (Entails.of_eq (owns_pt c (st3_7 t) (hstage3_7 ((cfg3.slots t 7).cast nbuf3_7)) ((dat3 W c).before 7 t d7))) $$ H7
  icases G7 with ⟨%f7, %hf7, H7⟩
  ihave G8 := (Entails.of_eq (owns_pt c (st3_8 t) (hstage3_8 ((cfg3.slots t 8).cast nbuf3_8)) ((dat3 W c).before 8 t d8))) $$ H8
  icases G8 with ⟨%f8, %hf8, H8⟩
  ihave G9 := (Entails.of_eq (owns_pt c (st3_9 t) (hstage3_9 ((cfg3.slots t 9).cast nbuf3_9)) ((dat3 W c).before 9 t d9))) $$ H9
  icases G9 with ⟨%f9, %hf9, H9⟩
  ihave G10 := (Entails.of_eq (owns_pt c (st3_10 t) (hstage3_10 ((cfg3.slots t 10).cast nbuf3_10)) ((dat3 W c).before 10 t d10))) $$ H10
  icases G10 with ⟨%f10, %hf10, H10⟩
  ihave G11 := (Entails.of_eq (owns_pt c (st3_11 t) (hstage3_11 ((cfg3.slots t 11).cast nbuf3_11)) ((dat3 W c).before 11 t d11))) $$ H11
  icases G11 with ⟨%f11, %hf11, H11⟩
  ihave G12 := (Entails.of_eq (owns_pt c (st3_12 t) (hstage3_12 ((cfg3.slots t 12).cast nbuf3_12)) ((dat3 W c).before 12 t d12))) $$ H12
  icases G12 with ⟨%f12, %hf12, H12⟩
  ihave G13 := (Entails.of_eq (owns_pt c (st3_13 t) (hstage3_13 ((cfg3.slots t 13).cast nbuf3_13)) ((dat3 W c).before 13 t d13))) $$ H13
  icases G13 with ⟨%f13, %hf13, H13⟩
  rw [before3_0] at hf0
  rw [before3_1] at hf1
  rw [before3_2] at hf2
  rw [before3_3] at hf3
  rw [before3_4] at hf4
  rw [before3_5] at hf5
  rw [before3_6] at hf6
  rw [before3_7] at hf7
  rw [before3_8] at hf8
  rw [before3_9] at hf9
  rw [before3_10] at hf10
  rw [before3_11] at hf11
  rw [before3_12] at hf12
  iapply (Conv3.run c (grid3.coords t) (st3_0 t) (hstage3_0 ((cfg3.slots t 0).cast nbuf3_0)) (st3_1 t) (hstage3_1 ((cfg3.slots t 1).cast nbuf3_1)) (st3_2 t) (hstage3_2 ((cfg3.slots t 2).cast nbuf3_2)) (st3_3 t) (hstage3_3 ((cfg3.slots t 3).cast nbuf3_3)) (st3_4 t) (hstage3_4 ((cfg3.slots t 4).cast nbuf3_4)) (st3_5 t) (hstage3_5 ((cfg3.slots t 5).cast nbuf3_5)) (st3_6 t) (hstage3_6 ((cfg3.slots t 6).cast nbuf3_6)) (st3_7 t) (hstage3_7 ((cfg3.slots t 7).cast nbuf3_7)) (st3_8 t) (hstage3_8 ((cfg3.slots t 8).cast nbuf3_8)) (st3_9 t) (hstage3_9 ((cfg3.slots t 9).cast nbuf3_9)) (st3_10 t) (hstage3_10 ((cfg3.slots t 10).cast nbuf3_10)) (st3_11 t) (hstage3_11 ((cfg3.slots t 11).cast nbuf3_11)) (st3_12 t) (hstage3_12 ((cfg3.slots t 12).cast nbuf3_12)) (st3_13 t) (hstage3_13 ((cfg3.slots t 13).cast nbuf3_13)) (Memref.whole cc3_scratch0) (Memref.isWhole_whole _) (Memref.whole cc3_scratch1) (Memref.isWhole_whole _) f0 f1 f2 f3 f4 f5 f6 f7 f8 f9 f10 f11 f12 f13 fs fr Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [Hs]; · iexact Hs
  isplitl [Hr]; · iexact Hr
  iintro ⟨H0, H1, H2, H3, H4, H5, H6, H7, H8, H9, H10, H11, H12, ⟨%g, %hg, H13⟩, Hs, Hr⟩
  isplitl [R0 R1 R2 R3 R4 R5 R6 R7 R8 Hs Hr]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [Hs]; · iexact Hs
    iexact Hr
  isplitl [HO]; · iexact HO
  isplitl [H0]
  · iapply (Entails.of_eq (owns_pt c (st3_0 t) (hstage3_0 ((cfg3.slots t 0).cast nbuf3_0)) ((dat3 W c).after 0 t)).symm)
    iexists f0; isplitr; · ipureintro; exact hf0
    iexact H0
  isplitl [H1]
  · iapply (Entails.of_eq (owns_pt c (st3_1 t) (hstage3_1 ((cfg3.slots t 1).cast nbuf3_1)) ((dat3 W c).after 1 t)).symm)
    iexists f1; isplitr; · ipureintro; exact hf1
    iexact H1
  isplitl [H2]
  · iapply (Entails.of_eq (owns_pt c (st3_2 t) (hstage3_2 ((cfg3.slots t 2).cast nbuf3_2)) ((dat3 W c).after 2 t)).symm)
    iexists f2; isplitr; · ipureintro; exact hf2
    iexact H2
  isplitl [H3]
  · iapply (Entails.of_eq (owns_pt c (st3_3 t) (hstage3_3 ((cfg3.slots t 3).cast nbuf3_3)) ((dat3 W c).after 3 t)).symm)
    iexists f3; isplitr; · ipureintro; exact hf3
    iexact H3
  isplitl [H4]
  · iapply (Entails.of_eq (owns_pt c (st3_4 t) (hstage3_4 ((cfg3.slots t 4).cast nbuf3_4)) ((dat3 W c).after 4 t)).symm)
    iexists f4; isplitr; · ipureintro; exact hf4
    iexact H4
  isplitl [H5]
  · iapply (Entails.of_eq (owns_pt c (st3_5 t) (hstage3_5 ((cfg3.slots t 5).cast nbuf3_5)) ((dat3 W c).after 5 t)).symm)
    iexists f5; isplitr; · ipureintro; exact hf5
    iexact H5
  isplitl [H6]
  · iapply (Entails.of_eq (owns_pt c (st3_6 t) (hstage3_6 ((cfg3.slots t 6).cast nbuf3_6)) ((dat3 W c).after 6 t)).symm)
    iexists f6; isplitr; · ipureintro; exact hf6
    iexact H6
  isplitl [H7]
  · iapply (Entails.of_eq (owns_pt c (st3_7 t) (hstage3_7 ((cfg3.slots t 7).cast nbuf3_7)) ((dat3 W c).after 7 t)).symm)
    iexists f7; isplitr; · ipureintro; exact hf7
    iexact H7
  isplitl [H8]
  · iapply (Entails.of_eq (owns_pt c (st3_8 t) (hstage3_8 ((cfg3.slots t 8).cast nbuf3_8)) ((dat3 W c).after 8 t)).symm)
    iexists f8; isplitr; · ipureintro; exact hf8
    iexact H8
  isplitl [H9]
  · iapply (Entails.of_eq (owns_pt c (st3_9 t) (hstage3_9 ((cfg3.slots t 9).cast nbuf3_9)) ((dat3 W c).after 9 t)).symm)
    iexists f9; isplitr; · ipureintro; exact hf9
    iexact H9
  isplitl [H10]
  · iapply (Entails.of_eq (owns_pt c (st3_10 t) (hstage3_10 ((cfg3.slots t 10).cast nbuf3_10)) ((dat3 W c).after 10 t)).symm)
    iexists f10; isplitr; · ipureintro; exact hf10
    iexact H10
  isplitl [H11]
  · iapply (Entails.of_eq (owns_pt c (st3_11 t) (hstage3_11 ((cfg3.slots t 11).cast nbuf3_11)) ((dat3 W c).after 11 t)).symm)
    iexists f11; isplitr; · ipureintro; exact hf11
    iexact H11
  isplitl [H12]
  · iapply (Entails.of_eq (owns_pt c (st3_12 t) (hstage3_12 ((cfg3.slots t 12).cast nbuf3_12)) ((dat3 W c).after 12 t)).symm)
    iexists f12; isplitr; · ipureintro; exact hf12
    iexact H12
  iapply (Entails.of_eq (owns_pt c (st3_13 t) (hstage3_13 ((cfg3.slots t 13).cast nbuf3_13)) ((dat3 W c).after 13 t)).symm)
  iexists g; isplitr; swap; (· iexact H13)
  ipureintro
  refine hg.trans ?_
  rw [hf0, hf1, hf2, hf3, hf4, hf5, hf6, hf7, hf8, hf9, hf10, hf11, hf12]; rfl

/-! ## The regions -/

/-- The proof data of both regions, each from the valuation it is entered at. -/
def dats (W2 W3 : Valuation τ sig (Elt F)) : (p : Fin 2) → (c : Dev nD) → Dat τ (Elt F) (HIx 2) ℕ UU ℕ (Pipeline.pin (pcfgs (F := F)) adm p) c
  | ⟨0, _⟩ => fun c => dat2 W2 c
  | ⟨1, _⟩ => fun c => dat3 W3 c

theorem waitPairs_le (cfg : Cfg sig Λ₀) (c : Dev nD) {W : Finset (SemLoc sig × HIx 2)} (h : (↑W : Set (SemLoc sig × HIx 2)) ⊆ recd (F := F) c ∪ cfg.waitPairs none) :
    (K (F := F)).WBelow (T (nD := nD) (τ := τ) c) W (8 * 2) := fun p hp => by
  rcases h (Finset.mem_coe.mpr hp) with h | ⟨w, s, rfl⟩
  · exact h
  · exact Nat.zero_le _

/-- The valuation the first region leaves: its result's array at what the write-backs make of it. -/
def out2 (W : Valuation τ sig (Elt F)) (c : Dev nD) : Valuation τ sig (Elt F) :=
  Function.update W (Proc.devRef .tc main_v28) ((dat2 W c).arrAt 5 cfg2.N)

theorem out2_self (W : Valuation τ sig (Elt F)) (c : Dev nD) : bv (out2 W c) main_v28 = (dat2 W c).arrAt 5 cfg2.N := Function.update_self ..

theorem out2_ne (W : Valuation τ sig (Elt F)) (c : Dev nD) (b : Ref sig .tc) (h : b ≠ main_v28) : bv (out2 W c) b = bv W b :=
  Function.update_of_ne (fun e => h (by exact Proc.devRef_injective _ e)) ..

set_option maxHeartbeats 2000000 in
set_option backward.isDefEq.respectTransparency.types false in
/-- The first region over the thread state. -/
def reg2 (W2 W3 : Valuation τ sig (Elt F)) (R : Dev nD → sProp 𝕄) :
    Pipeline.RegionSeg (pcfgs (F := F)) adm (dats W2 W3) none defs₀ 𝒱₀ (K (F := F)).L (K (F := F)).lev 0 where
  win := launch2.win.to₀
  block_pos := launch2.block_pos
  stage_whole := launch2.stage_whole
  K := PEmpty
  osem k := k.elim
  ho := Pipeline.OwnSemFacts.none _
  hbody c := (body2 W2 c).loose
  hwaits := Pipeline.hwaits_of_owed_zero _ _ _ _ (K (F := F)).L (K (F := F)).lev 0 fun _ _ => rfl
  pre c := iprop(unscopedBufs c (fun b => bv W2 b) ∗ R c ∗ owed0 c)
  post c := iprop(unscopedBufs c (fun b => bv (out2 W2 c) b) ∗ R c ∗ owed0 c)
  X _ := BI.emp
  Y _ := BI.emp
  Z c := iprop(Pipeline.unscopedRest (Ix := HIx 2) (Name := ℕ) (U := UU) (Lvl := ℕ) spec2 c (fun b => bv W2 b) ∗ R c)
  hentry c := by
    rw [Pipeline.ownSems0_none]
    have hsplit := Pipeline.arrays_of_unscopedBufs (p := 0) (pcfgs (F := F)) adm (dats W2 W3) launch2.win launch2.arr_whole c
      ((dats W2 W3 0 c).share_full fun _ => rfl) (fun b => bv W2 b) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p (Finset.mem_coe.mp hp))
      iexact HO
    isplitr; · iempintro
    isplitl [Hrest] <;> iassumption
  hin c := by
    rw [show (dats W2 W3 0 c).Φ 0 = Pipeline.scopedRest (Ix := HIx 2) (Name := ℕ) (U := UU) (Lvl := ℕ) (Val := Elt F) spec2 c from rfl]
    iintro ⟨-, -, Hr⟩; iexact Hr
  hout c := by
    rw [Pipeline.ownSems0_none, show (dats W2 W3 0 c).Φ (Fin.last _) = Pipeline.scopedRest (Ix := HIx 2) (Name := ℕ) (U := UU) (Lvl := ℕ) (Val := Elt F) spec2 c from rfl]
    iintro Hr
    isplitr; · iempintro
    isplitr; · iempintro
    iexact Hr
  hexit c := by
    have hjoin := Pipeline.unscopedBufs_of_arrays (p := 0) (pcfgs (F := F)) adm (Ix := HIx 2) (Name := ℕ) (U := UU) (Lvl := ℕ) launch2.win launch2.arr_whole c
      (dats W2 W3) ((dats W2 W3 0 c).share_full fun _ => rfl) (fun b => bv W2 b) (fun b => bv (out2 W2 c) b) ((dats W2 W3 0 c).arrAt · cfg2.N)
      (fun w => by
        fin_cases w
        · exact ((dats W2 W3 0 c).arrAt_in 0 rfl _).trans (out2_ne W2 c main_v4 (by decide)).symm
        · exact ((dats W2 W3 0 c).arrAt_in 1 rfl _).trans (out2_ne W2 c main_v13 (by decide)).symm
        · exact ((dats W2 W3 0 c).arrAt_in 2 rfl _).trans (out2_ne W2 c main_v19 (by decide)).symm
        · exact ((dats W2 W3 0 c).arrAt_in 3 rfl _).trans (out2_ne W2 c main_v25 (by decide)).symm
        · exact ((dats W2 W3 0 c).arrAt_in 4 rfl _).trans (out2_ne W2 c main_v27 (by decide)).symm
        · exact (out2_self W2 c).symm)
      (fun b hb => out2_ne W2 c b fun h => hb (h ▸ Finset.mem_image.mpr ⟨5, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W; isplitr; · ipureintro; exact waitPairs_le _ c hW
    iexact HO

/-- The valuation the second region leaves: its result's array at what the write-backs make of it. -/
def out3 (W : Valuation τ sig (Elt F)) (c : Dev nD) : Valuation τ sig (Elt F) :=
  Function.update W (Proc.devRef .tc main_v42) ((dat3 W c).arrAt 13 cfg3.N)

theorem out3_self (W : Valuation τ sig (Elt F)) (c : Dev nD) : bv (out3 W c) main_v42 = (dat3 W c).arrAt 13 cfg3.N := Function.update_self ..

theorem out3_ne (W : Valuation τ sig (Elt F)) (c : Dev nD) (b : Ref sig .tc) (h : b ≠ main_v42) : bv (out3 W c) b = bv W b :=
  Function.update_of_ne (fun e => h (by exact Proc.devRef_injective _ e)) ..

set_option maxHeartbeats 2000000 in
set_option backward.isDefEq.respectTransparency.types false in
/-- The second region over the thread state. -/
def reg3 (W2 W3 : Valuation τ sig (Elt F)) (R : Dev nD → sProp 𝕄) :
    Pipeline.RegionSeg (pcfgs (F := F)) adm (dats W2 W3) none defs₀ 𝒱₀ (K (F := F)).L (K (F := F)).lev 1 where
  win := launch3.win.to₀
  block_pos := launch3.block_pos
  stage_whole := launch3.stage_whole
  K := PEmpty
  osem k := k.elim
  ho := Pipeline.OwnSemFacts.none _
  hbody c := (body3 W3 c).loose
  hwaits := Pipeline.hwaits_of_owed_zero _ _ _ _ (K (F := F)).L (K (F := F)).lev 1 fun _ _ => rfl
  pre c := iprop(unscopedBufs c (fun b => bv W3 b) ∗ R c ∗ owed0 c)
  post c := iprop(unscopedBufs c (fun b => bv (out3 W3 c) b) ∗ R c ∗ owed0 c)
  X _ := BI.emp
  Y _ := BI.emp
  Z c := iprop(Pipeline.unscopedRest (Ix := HIx 2) (Name := ℕ) (U := UU) (Lvl := ℕ) spec3 c (fun b => bv W3 b) ∗ R c)
  hentry c := by
    rw [Pipeline.ownSems0_none]
    have hsplit := Pipeline.arrays_of_unscopedBufs (p := 1) (pcfgs (F := F)) adm (dats W2 W3) launch3.win launch3.arr_whole c
      ((dats W2 W3 1 c).share_full fun _ => rfl) (fun b => bv W3 b) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p (Finset.mem_coe.mp hp))
      iexact HO
    isplitr; · iempintro
    isplitl [Hrest] <;> iassumption
  hin c := by
    rw [show (dats W2 W3 1 c).Φ 0 = Pipeline.scopedRest (Ix := HIx 2) (Name := ℕ) (U := UU) (Lvl := ℕ) (Val := Elt F) spec3 c from rfl]
    iintro ⟨-, -, Hr⟩; iexact Hr
  hout c := by
    rw [Pipeline.ownSems0_none, show (dats W2 W3 1 c).Φ (Fin.last _) = Pipeline.scopedRest (Ix := HIx 2) (Name := ℕ) (U := UU) (Lvl := ℕ) (Val := Elt F) spec3 c from rfl]
    iintro Hr
    isplitr; · iempintro
    isplitr; · iempintro
    iexact Hr
  hexit c := by
    have hjoin := Pipeline.unscopedBufs_of_arrays (p := 1) (pcfgs (F := F)) adm (Ix := HIx 2) (Name := ℕ) (U := UU) (Lvl := ℕ) launch3.win launch3.arr_whole c
      (dats W2 W3) ((dats W2 W3 1 c).share_full fun _ => rfl) (fun b => bv W3 b) (fun b => bv (out3 W3 c) b) ((dats W2 W3 1 c).arrAt · cfg3.N)
      (fun w => by
        fin_cases w
        · exact ((dats W2 W3 1 c).arrAt_in 0 rfl _).trans (out3_ne W3 c main_v7 (by decide)).symm
        · exact ((dats W2 W3 1 c).arrAt_in 1 rfl _).trans (out3_ne W3 c main_v13 (by decide)).symm
        · exact ((dats W2 W3 1 c).arrAt_in 2 rfl _).trans (out3_ne W3 c main_v19 (by decide)).symm
        · exact ((dats W2 W3 1 c).arrAt_in 3 rfl _).trans (out3_ne W3 c main_v25 (by decide)).symm
        · exact ((dats W2 W3 1 c).arrAt_in 4 rfl _).trans (out3_ne W3 c main_v27 (by decide)).symm
        · exact ((dats W2 W3 1 c).arrAt_in 5 rfl _).trans (out3_ne W3 c main_v28 (by decide)).symm
        · exact ((dats W2 W3 1 c).arrAt_in 6 rfl _).trans (out3_ne W3 c main_v30 (by decide)).symm
        · exact ((dats W2 W3 1 c).arrAt_in 7 rfl _).trans (out3_ne W3 c main_v32 (by decide)).symm
        · exact ((dats W2 W3 1 c).arrAt_in 8 rfl _).trans (out3_ne W3 c main_v34 (by decide)).symm
        · exact ((dats W2 W3 1 c).arrAt_in 9 rfl _).trans (out3_ne W3 c main_v36 (by decide)).symm
        · exact ((dats W2 W3 1 c).arrAt_in 10 rfl _).trans (out3_ne W3 c main_v38 (by decide)).symm
        · exact ((dats W2 W3 1 c).arrAt_in 11 rfl _).trans (out3_ne W3 c main_v40 (by decide)).symm
        · exact ((dats W2 W3 1 c).arrAt_in 12 rfl _).trans (out3_ne W3 c main_v41 (by decide)).symm
        · exact (out3_self W3 c).symm)
      (fun b hb => out3_ne W3 c b fun h => hb (h ▸ Finset.mem_image.mpr ⟨13, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W; isplitr; · ipureintro; exact waitPairs_le _ c hW
    iexact HO

end Cert.Proof.Sc

end
-- ==== Proof.MainOps.lean ====
/-
  @main's host operations as lists between its four calls, and the contents of the TensorCore's buffers between them:
  the valuations the two SparseCore calls and the two regions are entered at and leave.
-/
module

public import proofs.«01_k».proof.Proof.ScCall0
public import proofs.«01_k».proof.Proof.ScCall1
public import proofs.«01_k».proof.Proof.Regions

@[expose] public section

set_option maxRecDepth 16384

noncomputable section

namespace Cert.Proof.Sc

open Cert.KernelIdeal Cert.KernelIdeal.Gen

open Idealize.ShloMosaic Idealize.ShloMosaic.TcCoe Idealize.SL.Sem Idealize.ShloMosaic.StableHlo

variable {F : FTy → Type} [FloatOps F]

/-! ## The host operations -/

/-- The host operations before the first SparseCore call. -/
abbrev hops0 : List (HloOp τ sig (Elt F)) :=
  [ StableHlo.unary main_arg0 main_v0 ((transpose S16x1024 [1, 0] · transposes_S1024x16_S16x1024_1_0) : (⟨S1024x16, .i32⟩ : BufTy).Contents (Elt F) → (⟨S16x1024, .i32⟩ : BufTy).Contents (Elt F)),
    StableHlo.reshape main_v0 main_v1 (rfl : (.i32 : EltTy) = .i32) shapeCasts_S16x1024_S16384,
    StableHlo.unary main_v1 main_v2 ((extractStridedSlice S12288 ![0] · slices_S16384_S12288_0) : (⟨S16384, .i32⟩ : BufTy).Contents (Elt F) → (⟨S12288, .i32⟩ : BufTy).Contents (Elt F)) ]

/-- The host operations between the two SparseCore calls. -/
abbrev hops1 : List (HloOp τ sig (Elt F)) :=
  [ StableHlo.reshape main_v3 main_v4 (rfl : (.f32 : EltTy) = .f32) shapeCasts_S12288x128_S12x1024x128,
    StableHlo.unary main_v1 main_v5 ((extractStridedSlice S4096 ![12288] · slices_S16384_S4096_12288) : (⟨S16384, .i32⟩ : BufTy).Contents (Elt F) → (⟨S4096, .i32⟩ : BufTy).Contents (Elt F)) ]

/-- The host operations between the second SparseCore call and the first region. -/
abbrev hops2 : List (HloOp τ sig (Elt F)) :=
  [ StableHlo.reshape main_v6 main_v7 (rfl : (.f32 : EltTy) = .f32) shapeCasts_S4096x128_S4x1024x128,
    StableHlo.reshape main_arg2 main_v8 (rfl : (.f32 : EltTy) = .f32) shapeCasts_S256x1x128x5_S256x128x5,
    StableHlo.unary main_v8 main_v9 ((transpose S5x128x256 [2, 1, 0] · transposes_S256x128x5_S5x128x256_2_1_0) : (⟨S256x128x5, .f32⟩ : BufTy).Contents (Elt F) → (⟨S5x128x256, .f32⟩ : BufTy).Contents (Elt F)),
    StableHlo.reshape main_v9 main_v10 (rfl : (.f32 : EltTy) = .f32) shapeCasts_S5x128x256_S640x256,
    StableHlo.nullary main_cst (constant S_ .f32 0x41000000#32),
    StableHlo.unary main_cst main_v11 (broadcastInDim S640x256 ![] bcast_S_S640x256 : (⟨S_, .f32⟩ : BufTy).Contents (Elt F) → (⟨S640x256, .f32⟩ : BufTy).Contents (Elt F)),
    StableHlo.binary main_v10 main_v11 main_v12 (mulf : (⟨S640x256, .f32⟩ : BufTy).Contents (Elt F) → (⟨S640x256, .f32⟩ : BufTy).Contents (Elt F) → (⟨S640x256, .f32⟩ : BufTy).Contents (Elt F)),
    StableHlo.unary main_v12 main_v13 (Host.convertf .fp8e4m3 : (⟨S640x256, .f32⟩ : BufTy).Contents (Elt F) → (⟨S640x256, .fp8e4m3⟩ : BufTy).Contents (Elt F)),
    StableHlo.reshape main_arg4 main_v14 (rfl : (.f32 : EltTy) = .f32) shapeCasts_S256x1x128x4_S256x128x4,
    StableHlo.unary main_v14 main_v15 ((transpose S4x128x256 [2, 1, 0] · transposes_S256x128x4_S4x128x256_2_1_0) : (⟨S256x128x4, .f32⟩ : BufTy).Contents (Elt F) → (⟨S4x128x256, .f32⟩ : BufTy).Contents (Elt F)),
    StableHlo.reshape main_v15 main_v16 (rfl : (.f32 : EltTy) = .f32) shapeCasts_S4x128x256_S512x256,
    StableHlo.nullary main_cst_0 (constant S_ .f32 0x41000000#32),
    StableHlo.unary main_cst_0 main_v17 (broadcastInDim S512x256 ![] bcast_S_S512x256 : (⟨S_, .f32⟩ : BufTy).Contents (Elt F) → (⟨S512x256, .f32⟩ : BufTy).Contents (Elt F)),
    StableHlo.binary main_v16 main_v17 main_v18 (mulf : (⟨S512x256, .f32⟩ : BufTy).Contents (Elt F) → (⟨S512x256, .f32⟩ : BufTy).Contents (Elt F) → (⟨S512x256, .f32⟩ : BufTy).Contents (Elt F)),
    StableHlo.unary main_v18 main_v19 (Host.convertf .fp8e4m3 : (⟨S512x256, .f32⟩ : BufTy).Contents (Elt F) → (⟨S512x256, .fp8e4m3⟩ : BufTy).Contents (Elt F)),
    StableHlo.reshape main_arg6 main_v20 (rfl : (.f32 : EltTy) = .f32) shapeCasts_S256x1x128x3_S256x128x3,
    StableHlo.unary main_v20 main_v21 ((transpose S3x128x256 [2, 1, 0] · transposes_S256x128x3_S3x128x256_2_1_0) : (⟨S256x128x3, .f32⟩ : BufTy).Contents (Elt F) → (⟨S3x128x256, .f32⟩ : BufTy).Contents (Elt F)),
    StableHlo.reshape main_v21 main_v22 (rfl : (.f32 : EltTy) = .f32) shapeCasts_S3x128x256_S384x256,
    StableHlo.nullary main_cst_1 (constant S_ .f32 0x41000000#32),
    StableHlo.unary main_cst_1 main_v23 (broadcastInDim S384x256 ![] bcast_S_S384x256 : (⟨S_, .f32⟩ : BufTy).Contents (Elt F) → (⟨S384x256, .f32⟩ : BufTy).Contents (Elt F)),
    StableHlo.binary main_v22 main_v23 main_v24 (mulf : (⟨S384x256, .f32⟩ : BufTy).Contents (Elt F) → (⟨S384x256, .f32⟩ : BufTy).Contents (Elt F) → (⟨S384x256, .f32⟩ : BufTy).Contents (Elt F)),
    StableHlo.unary main_v24 main_v25 (Host.convertf .fp8e4m3 : (⟨S384x256, .f32⟩ : BufTy).Contents (Elt F) → (⟨S384x256, .fp8e4m3⟩ : BufTy).Contents (Elt F)),
    StableHlo.nary ![main_arg3, main_arg5, main_arg7] main_v26 (fun u => (concatenate S768 0 [⟨S256, (u 0 : (⟨S256, .f32⟩ : BufTy).Contents (Elt F))⟩, ⟨S256, (u 1 : (⟨S256, .f32⟩ : BufTy).Contents (Elt F))⟩, ⟨S256, (u 2 : (⟨S256, .f32⟩ : BufTy).Contents (Elt F))⟩] concatenates_S256_S256_S256_S768_d0 : (⟨S768, .f32⟩ : BufTy).Contents (Elt F))),
    StableHlo.reshape main_v26 main_v27 (rfl : (.f32 : EltTy) = .f32) shapeCasts_S768_S1x768 ]

/-- The host operations between the two regions. -/
abbrev hops3 : List (HloOp τ sig (Elt F)) :=
  [ StableHlo.unary main_arg8 main_v29 ((transpose S256x1024 [1, 0] · transposes_S1024x256_S256x1024_1_0) : (⟨S1024x256, .f32⟩ : BufTy).Contents (Elt F) → (⟨S256x1024, .f32⟩ : BufTy).Contents (Elt F)),
    StableHlo.unary main_v29 main_v30 ((truncf .bf16 · bitsLt_bf16_f32) : (⟨S256x1024, .f32⟩ : BufTy).Contents (Elt F) → (⟨S256x1024, .bf16⟩ : BufTy).Contents (Elt F)),
    StableHlo.unary main_arg9 main_v31 ((transpose S256x1024 [1, 0] · transposes_S1024x256_S256x1024_1_0) : (⟨S1024x256, .f32⟩ : BufTy).Contents (Elt F) → (⟨S256x1024, .f32⟩ : BufTy).Contents (Elt F)),
    StableHlo.unary main_v31 main_v32 ((truncf .bf16 · bitsLt_bf16_f32) : (⟨S256x1024, .f32⟩ : BufTy).Contents (Elt F) → (⟨S256x1024, .bf16⟩ : BufTy).Contents (Elt F)),
    StableHlo.binary main_arg10 main_arg11 main_v33 (addf : (⟨S1024, .f32⟩ : BufTy).Contents (Elt F) → (⟨S1024, .f32⟩ : BufTy).Contents (Elt F) → (⟨S1024, .f32⟩ : BufTy).Contents (Elt F)),
    StableHlo.reshape main_v33 main_v34 (rfl : (.f32 : EltTy) = .f32) shapeCasts_S1024_S1x1024,
    StableHlo.unary main_arg12 main_v35 ((transpose S256x1024 [1, 0] · transposes_S1024x256_S256x1024_1_0) : (⟨S1024x256, .f32⟩ : BufTy).Contents (Elt F) → (⟨S256x1024, .f32⟩ : BufTy).Contents (Elt F)),
    StableHlo.unary main_v35 main_v36 ((truncf .bf16 · bitsLt_bf16_f32) : (⟨S256x1024, .f32⟩ : BufTy).Contents (Elt F) → (⟨S256x1024, .bf16⟩ : BufTy).Contents (Elt F)),
    StableHlo.binary main_arg14 main_arg15 main_v37 (addf : (⟨S1024, .f32⟩ : BufTy).Contents (Elt F) → (⟨S1024, .f32⟩ : BufTy).Contents (Elt F) → (⟨S1024, .f32⟩ : BufTy).Contents (Elt F)),
    StableHlo.reshape main_v37 main_v38 (rfl : (.f32 : EltTy) = .f32) shapeCasts_S1024_S1x1024,
    StableHlo.unary main_arg16 main_v39 ((transpose S512x20 [1, 0] · transposes_S20x512_S512x20_1_0) : (⟨S20x512, .f32⟩ : BufTy).Contents (Elt F) → (⟨S512x20, .f32⟩ : BufTy).Contents (Elt F)),
    StableHlo.unary main_v39 main_v40 ((truncf .bf16 · bitsLt_bf16_f32) : (⟨S512x20, .f32⟩ : BufTy).Contents (Elt F) → (⟨S512x20, .bf16⟩ : BufTy).Contents (Elt F)),
    StableHlo.reshape main_arg17 main_v41 (rfl : (.f32 : EltTy) = .f32) shapeCasts_S20_S1x20 ]

/-- What they write. -/
abbrev hops0_W : List (Ref sig .tc) := [main_v0, main_v1, main_v2]
theorem hops0_writes : (hops0 : List (HloOp τ sig (Elt F))).Forall fun op => op.writes ⊆ (hops0_W.map (Proc.devRef (τ := τ) .tc)).toFinset := by
  simp only [List.Forall, nullary_writes, unary_writes, binary_writes, reshape_writes, nary_writes]; decide
theorem hops0_sub : ∀ op ∈ (hops0 : List (HloOp τ sig (Elt F))), op.bufs ⊆ Pipeline.ucRefs τ sig := fun op h =>
  Pipeline.sub_ucRefs op (List.forall_iff_forall_mem.mp (show (hops0 : List (HloOp τ sig (Elt F))).Forall fun op => op.bufs ⊆ tcRefs τ sig by
    simp only [List.Forall, nullary_bufs_sub, unary_bufs_sub, binary_bufs_sub, reshape_bufs_sub, nary_bufs_sub, and_self]) op h)
theorem hops0_fresh : ∀ op ∈ (hops0 : List (HloOp τ sig (Elt F))), op.fresh = ∅ := by
  refine List.forall_iff_forall_mem.mp ?_
  simp only [List.Forall, and_self]; try exact ⟨rfl, rfl, rfl⟩

/-- What they write. -/
abbrev hops1_W : List (Ref sig .tc) := [main_v4, main_v5]
theorem hops1_writes : (hops1 : List (HloOp τ sig (Elt F))).Forall fun op => op.writes ⊆ (hops1_W.map (Proc.devRef (τ := τ) .tc)).toFinset := by
  simp only [List.Forall, nullary_writes, unary_writes, binary_writes, reshape_writes, nary_writes]; decide
theorem hops1_sub : ∀ op ∈ (hops1 : List (HloOp τ sig (Elt F))), op.bufs ⊆ Pipeline.ucRefs τ sig := fun op h =>
  Pipeline.sub_ucRefs op (List.forall_iff_forall_mem.mp (show (hops1 : List (HloOp τ sig (Elt F))).Forall fun op => op.bufs ⊆ tcRefs τ sig by
    simp only [List.Forall, nullary_bufs_sub, unary_bufs_sub, binary_bufs_sub, reshape_bufs_sub, nary_bufs_sub, and_self]) op h)
theorem hops1_fresh : ∀ op ∈ (hops1 : List (HloOp τ sig (Elt F))), op.fresh = ∅ := by
  refine List.forall_iff_forall_mem.mp ?_
  simp only [List.Forall, and_self]; try exact ⟨rfl, rfl⟩

/-- What they write. -/
abbrev hops2_W : List (Ref sig .tc) := [main_v7, main_v8, main_v9, main_v10, main_cst, main_v11, main_v12, main_v13, main_v14, main_v15, main_v16, main_cst_0, main_v17, main_v18, main_v19, main_v20, main_v21, main_v22, main_cst_1, main_v23, main_v24, main_v25, main_v26, main_v27]
theorem hops2_writes : (hops2 : List (HloOp τ sig (Elt F))).Forall fun op => op.writes ⊆ (hops2_W.map (Proc.devRef (τ := τ) .tc)).toFinset := by
  simp only [List.Forall, nullary_writes, unary_writes, binary_writes, reshape_writes, nary_writes]; decide
theorem hops2_sub : ∀ op ∈ (hops2 : List (HloOp τ sig (Elt F))), op.bufs ⊆ Pipeline.ucRefs τ sig := fun op h =>
  Pipeline.sub_ucRefs op (List.forall_iff_forall_mem.mp (show (hops2 : List (HloOp τ sig (Elt F))).Forall fun op => op.bufs ⊆ tcRefs τ sig by
    simp only [List.Forall, nullary_bufs_sub, unary_bufs_sub, binary_bufs_sub, reshape_bufs_sub, nary_bufs_sub, and_self]) op h)
theorem hops2_fresh : ∀ op ∈ (hops2 : List (HloOp τ sig (Elt F))), op.fresh = ∅ := by
  refine List.forall_iff_forall_mem.mp ?_
  simp only [List.Forall, and_self]; try exact ⟨rfl, rfl, rfl, rfl, rfl, rfl, rfl, rfl, rfl, rfl, rfl, rfl, rfl, rfl, rfl, rfl, rfl, rfl, rfl, rfl, rfl, rfl, rfl, rfl⟩

/-- What they write. -/
abbrev hops3_W : List (Ref sig .tc) := [main_v29, main_v30, main_v31, main_v32, main_v33, main_v34, main_v35, main_v36, main_v37, main_v38, main_v39, main_v40, main_v41]
theorem hops3_writes : (hops3 : List (HloOp τ sig (Elt F))).Forall fun op => op.writes ⊆ (hops3_W.map (Proc.devRef (τ := τ) .tc)).toFinset := by
  simp only [List.Forall, nullary_writes, unary_writes, binary_writes, reshape_writes, nary_writes]; decide
theorem hops3_sub : ∀ op ∈ (hops3 : List (HloOp τ sig (Elt F))), op.bufs ⊆ Pipeline.ucRefs τ sig := fun op h =>
  Pipeline.sub_ucRefs op (List.forall_iff_forall_mem.mp (show (hops3 : List (HloOp τ sig (Elt F))).Forall fun op => op.bufs ⊆ tcRefs τ sig by
    simp only [List.Forall, nullary_bufs_sub, unary_bufs_sub, binary_bufs_sub, reshape_bufs_sub, nary_bufs_sub, and_self]) op h)
theorem hops3_fresh : ∀ op ∈ (hops3 : List (HloOp τ sig (Elt F))), op.fresh = ∅ := by
  refine List.forall_iff_forall_mem.mp ?_
  simp only [List.Forall, and_self]; try exact ⟨rfl, rfl, rfl, rfl, rfl, rfl, rfl, rfl, rfl, rfl, rfl, rfl, rfl⟩

/-- @main is these lists around its calls. -/
theorem main_eq (d : Dev nD) : main (F := F) d = (seq hops0 >>= fun _ => (K (F := F)).run d 0 >>= fun _ => seq hops1 >>= fun _ => (K (F := F)).run d 1 >>= fun _ =>
    seq hops2 >>= fun _ => Prog.lift (.customCall (SparseCore.inner (Pipeline.entry 0)) ()) >>= fun _ =>
    seq hops3 >>= fun _ => Prog.lift (.customCall (SparseCore.inner (Pipeline.entry 1)) ())) := by
  simp only [seq_bind_seqK]; rfl

/-! ## The valuations -/

variable (m : (ℓ : Loc nD τ sig) → Buf (Elt F) ℓ) (d : Dev nD)

/-- At the launch. -/
def V0 : Valuation τ sig (Elt F) := fun b => m (d, b)
/-- Entering the first SparseCore call, -/
def Va : Valuation τ sig (Elt F) := after hops0 (V0 m d)
/-- and leaving it. -/
def Vb : Valuation τ sig (Elt F) := Function.update (Va m d) (Proc.devRef .tc main_v3) (Call0.res (fun d => Va m d) d)
/-- Entering the second SparseCore call, -/
def Vc : Valuation τ sig (Elt F) := after hops1 (Vb m d)
/-- and leaving it. -/
def Vd : Valuation τ sig (Elt F) := Function.update (Vc m d) (Proc.devRef .tc main_v6) (Call1.res (fun d => Vc m d) d)
/-- Entering the first region, -/
def Ve : Valuation τ sig (Elt F) := after hops2 (Vd m d)
/-- and leaving it. -/
def Vf : Valuation τ sig (Elt F) := out2 (Ve m d) d
/-- Entering the second region, -/
def Vg : Valuation τ sig (Elt F) := after hops3 (Vf m d)
/-- and leaving it: at the end. -/
def Vh : Valuation τ sig (Elt F) := out3 (Vg m d) d

theorem Va_keep (r : Ref sig .tc) (h : r ∉ hops0_W) : bv (Va m d) r = bv (V0 m d) r := after_of_writes_sub hops0 _ hops0_writes h
theorem Vb_self : bv (Vb m d) main_v3 = Call0.res (fun d => Va m d) d := Function.update_self ..
theorem Vb_keep (r : Ref sig .tc) (h : r ≠ main_v3) : bv (Vb m d) r = bv (Va m d) r := Function.update_of_ne (fun e => h (Proc.devRef_injective _ e)) ..
theorem Vc_keep (r : Ref sig .tc) (h : r ∉ hops1_W) : bv (Vc m d) r = bv (Vb m d) r := after_of_writes_sub hops1 _ hops1_writes h
theorem Vd_self : bv (Vd m d) main_v6 = Call1.res (fun d => Vc m d) d := Function.update_self ..
theorem Vd_keep (r : Ref sig .tc) (h : r ≠ main_v6) : bv (Vd m d) r = bv (Vc m d) r := Function.update_of_ne (fun e => h (Proc.devRef_injective _ e)) ..
theorem Ve_keep (r : Ref sig .tc) (h : r ∉ hops2_W) : bv (Ve m d) r = bv (Vd m d) r := after_of_writes_sub hops2 _ hops2_writes h
theorem Vf_keep (r : Ref sig .tc) (h : r ≠ main_v28) : bv (Vf m d) r = bv (Ve m d) r := out2_ne _ _ r h
theorem Vg_keep (r : Ref sig .tc) (h : r ∉ hops3_W) : bv (Vg m d) r = bv (Vf m d) r := after_of_writes_sub hops3 _ hops3_writes h
theorem Vh_keep (r : Ref sig .tc) (h : r ≠ main_v42) : bv (Vh m d) r = bv (Vg m d) r := out3_ne _ _ r h

/-- A buffer nothing writes holds its launch contents at the end. -/
theorem Vh_launch (r : Ref sig .tc) (h3 : r ≠ main_v3) (h6 : r ≠ main_v6) (h28 : r ≠ main_v28) (h42 : r ≠ main_v42)
    (g0 : r ∉ hops0_W) (g1 : r ∉ hops1_W) (g2 : r ∉ hops2_W) (g3 : r ∉ hops3_W) : bv (Vh m d) r = m (d, Proc.devRef .tc r) := by
  rw [Vh_keep m d r h42, Vg_keep m d r g3, Vf_keep m d r h28, Ve_keep m d r g2, Vd_keep m d r h6, Vc_keep m d r g1, Vb_keep m d r h3, Va_keep m d r g0]
  rfl

end Cert.Proof.Sc

end
-- ==== Proof.ScLaunch.lean ====
/-
  The launch of the program: the two SparseCore calls' obligations, the TensorCore's run of @main through its host
  operations, its two calls and its two regions, and what every fair execution ends at.
-/
module

public import proofs.«01_k».proof.Proof.MainOps

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Tactic

variable {F : FTy → Type} [FloatOps F]

local notation "𝕄" => MT nD τ sig (HIx 2) (Elt F) ℕ UU ℕ
local notation "iV0" => (Memref.whole Cert.KernelIdeal.main_v2_scv : Memref Cert.KernelIdeal.sig Kind.scVector Space.hbm Cert.KernelIdeal.S12288 EltTy.i32)
local notation "xV0" => (Memref.whole Cert.KernelIdeal.main_arg1_scv : Memref Cert.KernelIdeal.sig Kind.scVector Space.hbm Cert.KernelIdeal.S256x128 EltTy.f32)
local notation "oV0" => (Memref.whole Cert.KernelIdeal.main_v3_scv : Memref Cert.KernelIdeal.sig Kind.scVector Space.hbm Cert.KernelIdeal.S12288x128 EltTy.f32)
local notation "sV0" => (Memref.whole Cert.KernelIdeal.cc0_scratch0 : Memref Cert.KernelIdeal.sig Kind.scVector Space.vmem Cert.KernelIdeal.S384 EltTy.i32)
local notation "rV0" => (Memref.whole Cert.KernelIdeal.cc0_scratch1 : Memref Cert.KernelIdeal.sig Kind.scVector Space.vmem Cert.KernelIdeal.S384x128 EltTy.f32)
local notation "iV1" => (Memref.whole Cert.KernelIdeal.main_v5_scv : Memref Cert.KernelIdeal.sig Kind.scVector Space.hbm Cert.KernelIdeal.S4096 EltTy.i32)
local notation "xV1" => (Memref.whole Cert.KernelIdeal.main_arg1_scv : Memref Cert.KernelIdeal.sig Kind.scVector Space.hbm Cert.KernelIdeal.S256x128 EltTy.f32)
local notation "oV1" => (Memref.whole Cert.KernelIdeal.main_v6_scv : Memref Cert.KernelIdeal.sig Kind.scVector Space.hbm Cert.KernelIdeal.S4096x128 EltTy.f32)
local notation "sV1" => (Memref.whole Cert.KernelIdeal.cc1_scratch0 : Memref Cert.KernelIdeal.sig Kind.scVector Space.vmem Cert.KernelIdeal.S128 EltTy.i32)
local notation "rV1" => (Memref.whole Cert.KernelIdeal.cc1_scratch1 : Memref Cert.KernelIdeal.sig Kind.scVector Space.vmem Cert.KernelIdeal.S128x128 EltTy.f32)

/-! ## What the calls' handshakes carry -/

omit [FloatOps F] in
theorem nCore_0 : (K (F := F)).nCore 0 = 2 := rfl
omit [FloatOps F] in
theorem nSub_0 : (K (F := F)).nSub 0 = 16 := rfl
omit [FloatOps F] in
theorem nCore_1 : (K (F := F)).nCore 1 = 2 := rfl
omit [FloatOps F] in
theorem nSub_1 : (K (F := F)).nSub 1 = 16 := rfl

section Obl

variable (W0 W1 : Dev nD → Valuation τ sig (Elt F))

/-- Each call hands a SparseCore its sixteen tiles' parts, a tile its own, and takes them back with the rows gathered. -/
def P : (K (F := F)).Pay (U := UU) (Val := Elt F) (nD := nD) (Name := ℕ) where
  st q d c := match q with
    | 0 => bigSep Finset.univ fun s : Fin 16 => Call0.part W0 d (bv (W0 d) main_v3) (tid (Fin.cast nCore_0 c) s)
    | 1 => bigSep Finset.univ fun s : Fin 16 => Call1.part W1 d (bv (W1 d) main_v6) (tid (Fin.cast nCore_1 c) s)
  dn q d c := match q with
    | 0 => bigSep Finset.univ fun s : Fin 16 => Call0.part W0 d (Call0.res W0 d) (tid (Fin.cast nCore_0 c) s)
    | 1 => bigSep Finset.univ fun s : Fin 16 => Call1.part W1 d (Call1.res W1 d) (tid (Fin.cast nCore_1 c) s)
  go q d c i := match q with
    | 0 => Call0.part W0 d (bv (W0 d) main_v3) (tid (Fin.cast nCore_0 c) (Fin.cast nSub_0 i))
    | 1 => Call1.part W1 d (bv (W1 d) main_v6) (tid (Fin.cast nCore_1 c) (Fin.cast nSub_1 i))
  td q d c i := match q with
    | 0 => Call0.part W0 d (Call0.res W0 d) (tid (Fin.cast nCore_0 c) (Fin.cast nSub_0 i))
    | 1 => Call1.part W1 d (Call1.res W1 d) (tid (Fin.cast nCore_1 c) (Fin.cast nSub_1 i))
  x _ _ := iprop(emp)

instance P_storable : (P W0 W1).IsStorable where
  st q d c := match q with
    | 0 => (inferInstance : BI.Storable (upEmb : UEmb _ 𝕄) (bigSep Finset.univ fun s : Fin 16 => Call0.part W0 d (bv (W0 d) main_v3) (tid (Fin.cast nCore_0 c) s)))
    | 1 => (inferInstance : BI.Storable (upEmb : UEmb _ 𝕄) (bigSep Finset.univ fun s : Fin 16 => Call1.part W1 d (bv (W1 d) main_v6) (tid (Fin.cast nCore_1 c) s)))
  dn q d c := match q with
    | 0 => (inferInstance : BI.Storable (upEmb : UEmb _ 𝕄) (bigSep Finset.univ fun s : Fin 16 => Call0.part W0 d (Call0.res W0 d) (tid (Fin.cast nCore_0 c) s)))
    | 1 => (inferInstance : BI.Storable (upEmb : UEmb _ 𝕄) (bigSep Finset.univ fun s : Fin 16 => Call1.part W1 d (Call1.res W1 d) (tid (Fin.cast nCore_1 c) s)))
  go q d c i := match q with
    | 0 => (inferInstance : BI.Storable (upEmb : UEmb _ 𝕄) (Call0.part W0 d (bv (W0 d) main_v3) (tid (Fin.cast nCore_0 c) (Fin.cast nSub_0 i))))
    | 1 => (inferInstance : BI.Storable (upEmb : UEmb _ 𝕄) (Call1.part W1 d (bv (W1 d) main_v6) (tid (Fin.cast nCore_1 c) (Fin.cast nSub_1 i))))
  td q d c i := match q with
    | 0 => (inferInstance : BI.Storable (upEmb : UEmb _ 𝕄) (Call0.part W0 d (Call0.res W0 d) (tid (Fin.cast nCore_0 c) (Fin.cast nSub_0 i))))
    | 1 => (inferInstance : BI.Storable (upEmb : UEmb _ 𝕄) (Call1.part W1 d (Call1.res W1 d) (tid (Fin.cast nCore_1 c) (Fin.cast nSub_1 i))))

/-! ## The tiles' obligations -/

omit [FloatOps F] in
/-- A tile's waits, as the launch theorem counts them. -/
theorem tile_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The grid point of call 0 that a tile is. -/
def at0 (c : Fin (grid0.bound 0)) (s : Fin (grid0.bound 1)) : grid0.Coords :=
  fun | 0 => c | 1 => s | ⟨_ + 2, h⟩ => absurd h (Nat.not_lt.2 (Nat.le_add_left _ _))

theorem defs_tile0 (c : Fin τ.nSC) (s : Fin τ.nSub) :
    defs₀ (F := F) (.scVector c s) 0 ()
      = SparseCore.onTile hcore0 hsub0 (fun c s => cc0_gather_kernel (at0 c s)
          xV0 (Memref.isWhole_whole _) iV0 (Memref.isWhole_whole _) oV0 (Memref.isWhole_whole _)
          sV0 (Memref.isWhole_whole _) rV0 (Memref.isWhole_whole _) cc0_scratch2 cc0_scoped0 cc0_scoped1) ⟨⟩ c s := rfl

set_option maxRecDepth 16384 in
/-- Call 0: every tile gathers its rows. -/
theorem tile0 (hok : Call0.Ok W0) : (K (F := F)).TileObl (D (F := F)) 𝒱 (P W0 W1) v₀ 0 := by
  intro d c i O W hO _ _
  simp only [show (P W0 W1).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs_tile0]; simp only [SparseCore.onTile, hci, and_self, ↓reduceDIte]
  exact (Call0.tile_body d (at0 ⟨_, hci.1⟩ ⟨_, hci.2⟩) facts hok (bv (W0 d) main_v3) O W hO).trans (wp_mono frame _ _ fun _ => tile_post)

omit [FloatOps F] in
theorem over_subs0 (Φ : Fin 16 → sProp 𝕄) :
    (bigSep Finset.univ fun i : Fin ((K (F := F)).nSub 0) => Φ (Fin.cast nSub_0 i)) = bigSep Finset.univ Φ :=
  bigSep_congr fun _ _ => congrArg Φ (Fin.ext rfl)
omit [FloatOps F] in
theorem over_cores0 (Φ : Fin 2 → sProp 𝕄) :
    (bigSep Finset.univ fun i : Fin ((K (F := F)).nCore 0) => Φ (Fin.cast nCore_0 i)) = bigSep Finset.univ Φ :=
  bigSep_congr fun _ _ => congrArg Φ (Fin.ext rfl)

/-- A SparseCore's share of call 0 is its tiles' shares. -/
theorem split0 : (K (F := F)).VecSplit' (P W0 W1) 0 := by
  intro d c
  show (bigSep Finset.univ fun s : Fin 16 => Call0.part W0 d (bv (W0 d) main_v3) (tid (Fin.cast nCore_0 c) s)) ⊢ |={Set.univ}=> iprop(
      (bigSep Finset.univ fun i : Fin ((K (F := F)).nSub 0) => Call0.part W0 d (bv (W0 d) main_v3) (tid (Fin.cast nCore_0 c) (Fin.cast nSub_0 i)))
      ∗ ((bigSep Finset.univ fun i : Fin ((K (F := F)).nSub 0) => Call0.part W0 d (Call0.res W0 d) (tid (Fin.cast nCore_0 c) (Fin.cast nSub_0 i)))
          -∗ bigSep Finset.univ fun s : Fin 16 => Call0.part W0 d (Call0.res W0 d) (tid (Fin.cast nCore_0 c) s)))
  rw [over_subs0 (fun i => Call0.part W0 d (bv (W0 d) main_v3) (tid (Fin.cast nCore_0 c) i)),
    over_subs0 (fun i => Call0.part W0 d (Call0.res W0 d) (tid (Fin.cast nCore_0 c) i))]
  iintro H; imodintro
  isplitl [H]; · iexact H
  iintro H; iexact H

/-- The grid point of call 1 that a tile is. -/
def at1 (c : Fin (grid1.bound 0)) (s : Fin (grid1.bound 1)) : grid1.Coords :=
  fun | 0 => c | 1 => s | ⟨_ + 2, h⟩ => absurd h (Nat.not_lt.2 (Nat.le_add_left _ _))

theorem defs_tile1 (c : Fin τ.nSC) (s : Fin τ.nSub) :
    defs₀ (F := F) (.scVector c s) 1 ()
      = SparseCore.onTile hcore1 hsub1 (fun c s => cc1_gather_kernel (at1 c s)
          xV1 (Memref.isWhole_whole _) iV1 (Memref.isWhole_whole _) oV1 (Memref.isWhole_whole _)
          sV1 (Memref.isWhole_whole _) rV1 (Memref.isWhole_whole _) cc1_scratch2 cc1_scoped0 cc1_scoped1) ⟨⟩ c s := rfl

set_option maxRecDepth 16384 in
/-- Call 1: every tile gathers its rows. -/
theorem tile1 (hok : Call1.Ok W1) : (K (F := F)).TileObl (D (F := F)) 𝒱 (P W0 W1) v₀ 1 := by
  intro d c i O W hO _ _
  simp only [show (P W0 W1).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs_tile1]; simp only [SparseCore.onTile, hci, and_self, ↓reduceDIte]
  exact (Call1.tile_body d (at1 ⟨_, hci.1⟩ ⟨_, hci.2⟩) facts hok (bv (W1 d) main_v6) O W hO).trans (wp_mono frame _ _ fun _ => tile_post)

omit [FloatOps F] in
theorem over_subs1 (Φ : Fin 16 → sProp 𝕄) :
    (bigSep Finset.univ fun i : Fin ((K (F := F)).nSub 1) => Φ (Fin.cast nSub_1 i)) = bigSep Finset.univ Φ :=
  bigSep_congr fun _ _ => congrArg Φ (Fin.ext rfl)
omit [FloatOps F] in
theorem over_cores1 (Φ : Fin 2 → sProp 𝕄) :
    (bigSep Finset.univ fun i : Fin ((K (F := F)).nCore 1) => Φ (Fin.cast nCore_1 i)) = bigSep Finset.univ Φ :=
  bigSep_congr fun _ _ => congrArg Φ (Fin.ext rfl)

/-- A SparseCore's share of call 1 is its tiles' shares. -/
theorem split1 : (K (F := F)).VecSplit' (P W0 W1) 1 := by
  intro d c
  show (bigSep Finset.univ fun s : Fin 16 => Call1.part W1 d (bv (W1 d) main_v6) (tid (Fin.cast nCore_1 c) s)) ⊢ |={Set.univ}=> iprop(
      (bigSep Finset.univ fun i : Fin ((K (F := F)).nSub 1) => Call1.part W1 d (bv (W1 d) main_v6) (tid (Fin.cast nCore_1 c) (Fin.cast nSub_1 i)))
      ∗ ((bigSep Finset.univ fun i : Fin ((K (F := F)).nSub 1) => Call1.part W1 d (Call1.res W1 d) (tid (Fin.cast nCore_1 c) (Fin.cast nSub_1 i)))
          -∗ bigSep Finset.univ fun s : Fin 16 => Call1.part W1 d (Call1.res W1 d) (tid (Fin.cast nCore_1 c) s)))
  rw [over_subs1 (fun i => Call1.part W1 d (bv (W1 d) main_v6) (tid (Fin.cast nCore_1 c) i)),
    over_subs1 (fun i => Call1.part W1 d (Call1.res W1 d) (tid (Fin.cast nCore_1 c) i))]
  iintro H; imodintro
  isplitl [H]; · iexact H
  iintro H; iexact H

/-! ## The calls on the TensorCore's buffers -/

omit [FloatOps F] in
/-- Three of the buffers out of all of them. -/
theorem take3 (d : Dev nD) (a b o : Ref sig .tc) (hT : ({Proc.devRef .tc a, Proc.devRef .tc b, Proc.devRef .tc o} : Finset (DevRef τ sig)) ⊆ Pipeline.ucRefs τ sig)
    (hab : Proc.devRef (τ := τ) .tc a ∉ ({Proc.devRef .tc b, Proc.devRef .tc o} : Finset (DevRef τ sig)))
    (hbo : Proc.devRef (τ := τ) .tc b ∉ ({Proc.devRef .tc o} : Finset (DevRef τ sig))) (W : Valuation τ sig (Elt F)) :
    (held (SparseCore.T d) (Pipeline.ucRefs τ sig) W : sProp 𝕄)
      = iprop((((SparseCore.T d).loc a ↦{fullShare} bv W a) ∗ ((SparseCore.T d).loc b ↦{fullShare} bv W b) ∗ (SparseCore.T d).loc o ↦{fullShare} bv W o)
          ∗ held (SparseCore.T d) (Pipeline.ucRefs τ sig \ {Proc.devRef .tc a, Proc.devRef .tc b, Proc.devRef .tc o}) W) := by
  rw [held_sub_split (SparseCore.T d) hT W]
  congr 1
  unfold held
  rw [SparseCore.bigSep_insert' hab, SparseCore.bigSep_insert' hbo, bigSep_singleton]

/-- Call 0, from all the TensorCore's buffers to all of them with the gathered rows in place. -/
theorem call0 (κ : GSem nD τ sig → ℕ) (d : Dev nD) {Φ : PUnit → sProp 𝕄} :
    iprop((K (F := F)).ctx EH (P W0 W1) κ ∗ (K (F := F)).tcSt EH d 0 ∗ held (SparseCore.T d) (Pipeline.ucRefs τ sig) (W0 d)
        ∗ (((K (F := F)).tcSt EH d 1 ∗ held (SparseCore.T d) (Pipeline.ucRefs τ sig) (Function.update (W0 d) (Proc.devRef .tc main_v3) (Call0.res W0 d))) -∗ Φ ⟨⟩))
      ⊢ wp frame (wpE ((K (F := F)).defs (D (F := F))) 𝒱 (SparseCore.T d) none) Set.univ ((K (F := F)).run d 0) Φ := by
  rw [take3 d main_v2 main_arg1 main_v3 (by decide) (by decide) (by decide),
    take3 d main_v2 main_arg1 main_v3 (by decide) (by decide) (by decide) (Function.update (W0 d) _ _)]
  rw [show bv (Function.update (W0 d) (Proc.devRef .tc main_v3) (Call0.res W0 d)) main_v3 = Call0.res W0 d from Function.update_self ..,
    show bv (Function.update (W0 d) (Proc.devRef .tc main_v3) (Call0.res W0 d)) main_v2 = bv (W0 d) main_v2 from Function.update_of_ne (by decide) ..,
    show bv (Function.update (W0 d) (Proc.devRef .tc main_v3) (Call0.res W0 d)) main_arg1 = bv (W0 d) main_arg1 from Function.update_of_ne (by decide) ..,
    held_congr (SparseCore.T d) (S := Pipeline.ucRefs τ sig \ {Proc.devRef .tc main_v2, Proc.devRef .tc main_arg1, Proc.devRef .tc main_v3})
      (V := Function.update (W0 d) (Proc.devRef .tc main_v3) (Call0.res W0 d)) (V' := W0 d)
      (fun r hr => Function.update_of_ne (fun e => (Finset.mem_sdiff.mp hr).2 (by rw [e]; simp)) ..)]
  have e1 : iprop(((SparseCore.T d).loc main_v2 ↦{fullShare} bv (W0 d) main_v2) ∗ ((SparseCore.T d).loc main_arg1 ↦{fullShare} bv (W0 d) main_arg1) ∗ (SparseCore.T d).loc main_v3 ↦{fullShare} bv (W0 d) main_v3)
      = (bigSep Finset.univ fun c : Fin ((K (F := F)).nCore 0) => (P W0 W1).st 0 d c : sProp 𝕄) :=
    (Call0.parts_eq W0 d _).trans (over_cores0 (fun c => bigSep Finset.univ fun s : Fin 16 => Call0.part W0 d (bv (W0 d) main_v3) (tid c s))).symm
  have e2 : iprop(((SparseCore.T d).loc main_v2 ↦{fullShare} bv (W0 d) main_v2) ∗ ((SparseCore.T d).loc main_arg1 ↦{fullShare} bv (W0 d) main_arg1) ∗ (SparseCore.T d).loc main_v3 ↦{fullShare} Call0.res W0 d)
      = (bigSep Finset.univ fun c : Fin ((K (F := F)).nCore 0) => (P W0 W1).dn 0 d c : sProp 𝕄) :=
    (Call0.parts_eq W0 d _).trans (over_cores0 (fun c => bigSep Finset.univ fun s : Fin 16 => Call0.part W0 d (Call0.res W0 d) (tid c s))).symm
  rw [e1, e2]
  iintro ⟨Hctx, Hst, ⟨Hp, Hr⟩, Hk⟩
  iapply ((K (F := F)).wp_run (D (F := F)) 𝒱 (EH := EH) (P := P W0 W1) κ d 0) $$ [Hctx Hst Hp Hr Hk]
  isplitl [Hctx]; · iexact Hctx
  isplitl [Hst]; · iexact Hst
  isplitl [Hp]; · iexact Hp
  iintro ⟨Hst, Hp⟩
  iapply Hk
  isplitl [Hst]; · iexact Hst
  isplitl [Hp]; · iexact Hp
  iexact Hr

/-- Call 1, from all the TensorCore's buffers to all of them with the gathered rows in place. -/
theorem call1 (κ : GSem nD τ sig → ℕ) (d : Dev nD) {Φ : PUnit → sProp 𝕄} :
    iprop((K (F := F)).ctx EH (P W0 W1) κ ∗ (K (F := F)).tcSt EH d 1 ∗ held (SparseCore.T d) (Pipeline.ucRefs τ sig) (W1 d)
        ∗ (((K (F := F)).tcSt EH d 2 ∗ held (SparseCore.T d) (Pipeline.ucRefs τ sig) (Function.update (W1 d) (Proc.devRef .tc main_v6) (Call1.res W1 d))) -∗ Φ ⟨⟩))
      ⊢ wp frame (wpE ((K (F := F)).defs (D (F := F))) 𝒱 (SparseCore.T d) none) Set.univ ((K (F := F)).run d 1) Φ := by
  rw [take3 d main_v5 main_arg1 main_v6 (by decide) (by decide) (by decide),
    take3 d main_v5 main_arg1 main_v6 (by decide) (by decide) (by decide) (Function.update (W1 d) _ _)]
  rw [show bv (Function.update (W1 d) (Proc.devRef .tc main_v6) (Call1.res W1 d)) main_v6 = Call1.res W1 d from Function.update_self ..,
    show bv (Function.update (W1 d) (Proc.devRef .tc main_v6) (Call1.res W1 d)) main_v5 = bv (W1 d) main_v5 from Function.update_of_ne (by decide) ..,
    show bv (Function.update (W1 d) (Proc.devRef .tc main_v6) (Call1.res W1 d)) main_arg1 = bv (W1 d) main_arg1 from Function.update_of_ne (by decide) ..,
    held_congr (SparseCore.T d) (S := Pipeline.ucRefs τ sig \ {Proc.devRef .tc main_v5, Proc.devRef .tc main_arg1, Proc.devRef .tc main_v6})
      (V := Function.update (W1 d) (Proc.devRef .tc main_v6) (Call1.res W1 d)) (V' := W1 d)
      (fun r hr => Function.update_of_ne (fun e => (Finset.mem_sdiff.mp hr).2 (by rw [e]; simp)) ..)]
  have e1 : iprop(((SparseCore.T d).loc main_v5 ↦{fullShare} bv (W1 d) main_v5) ∗ ((SparseCore.T d).loc main_arg1 ↦{fullShare} bv (W1 d) main_arg1) ∗ (SparseCore.T d).loc main_v6 ↦{fullShare} bv (W1 d) main_v6)
      = (bigSep Finset.univ fun c : Fin ((K (F := F)).nCore 1) => (P W0 W1).st 1 d c : sProp 𝕄) :=
    (Call1.parts_eq W1 d _).trans (over_cores1 (fun c => bigSep Finset.univ fun s : Fin 16 => Call1.part W1 d (bv (W1 d) main_v6) (tid c s))).symm
  have e2 : iprop(((SparseCore.T d).loc main_v5 ↦{fullShare} bv (W1 d) main_v5) ∗ ((SparseCore.T d).loc main_arg1 ↦{fullShare} bv (W1 d) main_arg1) ∗ (SparseCore.T d).loc main_v6 ↦{fullShare} Call1.res W1 d)
      = (bigSep Finset.univ fun c : Fin ((K (F := F)).nCore 1) => (P W0 W1).dn 1 d c : sProp 𝕄) :=
    (Call1.parts_eq W1 d _).trans (over_cores1 (fun c => bigSep Finset.univ fun s : Fin 16 => Call1.part W1 d (Call1.res W1 d) (tid c s))).symm
  rw [e1, e2]
  iintro ⟨Hctx, Hst, ⟨Hp, Hr⟩, Hk⟩
  iapply ((K (F := F)).wp_run (D (F := F)) 𝒱 (EH := EH) (P := P W0 W1) κ d 1) $$ [Hctx Hst Hp Hr Hk]
  isplitl [Hctx]; · iexact Hctx
  isplitl [Hst]; · iexact Hst
  isplitl [Hp]; · iexact Hp
  iintro ⟨Hst, Hp⟩
  iapply Hk
  isplitl [Hst]; · iexact Hst
  isplitl [Hp]; · iexact Hp
  iexact Hr

end Obl

/-! ## The regions on the TensorCore's buffers -/

omit [FloatOps F] in
/-- The pipelines' cells are apart. -/
theorem inj : Function.Injective (Pipeline.cellOf (nD := nD) (τ := τ) (Pipeline.pin (pcfgs (F := F)) adm)) := cellOf_inj

/-- The pipelines' rounds. -/
abbrev EP : Emb UP (MT nD τ sig (HIx 2) (Elt F) ℕ UU ℕ) := (Emb.inl : Emb UP (UP × Counters)).trans embR

omit [FloatOps F] in
/-- The TensorCore's state after both calls: what it owes, and the rest. -/
theorem tcSt_split (d : Dev nD) : ∃ R : sProp 𝕄, (K (F := F)).tcSt EH d 2 = iprop(owed0 (F := F) d ∗ R) := by
  unfold SparseCore.Cfg.tcSt owed0
  rw [(K (F := F)).Otc_end d (le_refl 2)]
  exact ⟨_, rfl⟩

/-- A region's call is the pipelines' call, lifted. -/
theorem lift_entry (p : Fin 2) : (Prog.lift (.customCall (SparseCore.inner (Pipeline.entry p)) ()) : Prog (TpuEff nD τ sig (Elt F) (SparseCore.Sig (ΛP (F := F)) 2) .tc) PUnit)
    = SparseCore.liftProg (.op (.customCall (Pipeline.entry p) ()) (fun x => .ret x) : Prog (TpuEff nD τ sig (Elt F) (ΛP (F := F)) .tc) PUnit) := rfl

set_option backward.isDefEq.respectTransparency.types false in
/-- Region 0, from all the TensorCore's buffers to all of them with its result in place. -/
theorem region0 [∀ e, Nonempty (Elt F e)] (W0 W1 : Dev nD → Valuation τ sig (Elt F)) (κ : GSem nD τ sig → ℕ) (d : Dev nD) (W : Valuation τ sig (Elt F)) {Φ : PUnit → sProp 𝕄} :
    iprop((K (F := F)).ctx EH (P W0 W1) κ ∗ (K (F := F)).tcSt EH d 2 ∗ boundary (SparseCore.T d) ∗ held (SparseCore.T d) (Pipeline.ucRefs τ sig) W
        ∗ (Pipeline.cellsGhost (Pipeline.pin (pcfgs (F := F)) adm) EP 0 d ∗ Pipeline.toksInit (Pipeline.pin (pcfgs (F := F)) adm) EP 0 d)
        ∗ (((K (F := F)).tcSt EH d 2 ∗ boundary (SparseCore.T d) ∗ held (SparseCore.T d) (Pipeline.ucRefs τ sig) (out2 W d)) -∗ Φ ⟨⟩))
      ⊢ wp frame (wpE ((K (F := F)).defs (D (F := F))) 𝒱 (SparseCore.T d) none) Set.univ (Prog.lift (.customCall (SparseCore.inner (Pipeline.entry 0)) ())) Φ := by
  obtain ⟨R, hR⟩ := tcSt_split (F := F) d
  rw [hR, ← Pipeline.unscopedBufs_held d W, ← Pipeline.unscopedBufs_held d (out2 W d)]
  rw [lift_entry]
  refine BI.Entails.trans ?_ ((K (F := F)).wp_liftProg (D (F := F)) 𝒱 (SparseCore.T d) Set.univ none _ Φ)
  refine BI.Entails.trans ?_ (Pipeline.RegionSeg.wp (pcfgs (F := F)) adm (dats W W) none inj EP defs₀ 𝒱₀ (K (F := F)).L (K (F := F)).lev (reg2 W W (fun _ => R)) d none
    (fun u hu => absurd hu (by simp)) (fun x => .ret x) Φ)
  show _ ⊢ iprop((iprop(boundary (d.tc : Thread nD τ) ∗ (unscopedBufs d (fun b => bv (out2 W d) b) ∗ R ∗ owed0 (F := F) d)) -∗ wp frame (wpE (D (F := F)) 𝒱 (d.tc : Thread nD τ) none) Set.univ (.ret ⟨⟩) Φ)
        ∗ boundary (d.tc : Thread nD τ) ∗ (unscopedBufs d (fun b => bv W b) ∗ R ∗ owed0 (F := F) d) ∗ levAts (K (F := F)).L (K (F := F)).lev
        ∗ Pipeline.cellsGhost (Pipeline.pin (pcfgs (F := F)) adm) EP 0 d ∗ Pipeline.toksInit (Pipeline.pin (pcfgs (F := F)) adm) EP 0 d)
  rw [wp_ret]
  iintro ⟨Hctx, ⟨Ho, HR⟩, Hb, Hh, ⟨Hg, Ht⟩, Hk⟩
  ihave Hl := (SparseCore.Cfg.ctx_levAts (K := K (F := F)) (P := P W0 W1) (EH := EH) κ) $$ Hctx
  isplitl [Hk]
  · iintro ⟨Hb, Hh, HR, Ho⟩
    imodintro
    iapply Hk
    isplitl [Ho HR]
    · isplitl [Ho]; · iexact Ho
      iexact HR
    isplitl [Hb]; · iexact Hb
    iexact Hh
  isplitl [Hb]; · iexact Hb
  isplitl [Hh HR Ho]
  · isplitl [Hh]; · iexact Hh
    isplitl [HR]; · iexact HR
    iexact Ho
  isplitl [Hl]; · iexact Hl
  isplitl [Hg]; · iexact Hg
  iexact Ht

set_option backward.isDefEq.respectTransparency.types false in
/-- Region 1, from all the TensorCore's buffers to all of them with its result in place. -/
theorem region1 [∀ e, Nonempty (Elt F e)] (W0 W1 : Dev nD → Valuation τ sig (Elt F)) (κ : GSem nD τ sig → ℕ) (d : Dev nD) (W : Valuation τ sig (Elt F)) {Φ : PUnit → sProp 𝕄} :
    iprop((K (F := F)).ctx EH (P W0 W1) κ ∗ (K (F := F)).tcSt EH d 2 ∗ boundary (SparseCore.T d) ∗ held (SparseCore.T d) (Pipeline.ucRefs τ sig) W
        ∗ (Pipeline.cellsGhost (Pipeline.pin (pcfgs (F := F)) adm) EP 1 d ∗ Pipeline.toksInit (Pipeline.pin (pcfgs (F := F)) adm) EP 1 d)
        ∗ (((K (F := F)).tcSt EH d 2 ∗ boundary (SparseCore.T d) ∗ held (SparseCore.T d) (Pipeline.ucRefs τ sig) (out3 W d)) -∗ Φ ⟨⟩))
      ⊢ wp frame (wpE ((K (F := F)).defs (D (F := F))) 𝒱 (SparseCore.T d) none) Set.univ (Prog.lift (.customCall (SparseCore.inner (Pipeline.entry 1)) ())) Φ := by
  obtain ⟨R, hR⟩ := tcSt_split (F := F) d
  rw [hR, ← Pipeline.unscopedBufs_held d W, ← Pipeline.unscopedBufs_held d (out3 W d)]
  rw [lift_entry]
  refine BI.Entails.trans ?_ ((K (F := F)).wp_liftProg (D (F := F)) 𝒱 (SparseCore.T d) Set.univ none _ Φ)
  refine BI.Entails.trans ?_ (Pipeline.RegionSeg.wp (pcfgs (F := F)) adm (dats W W) none inj EP defs₀ 𝒱₀ (K (F := F)).L (K (F := F)).lev (reg3 W W (fun _ => R)) d none
    (fun u hu => absurd hu (by simp)) (fun x => .ret x) Φ)
  show _ ⊢ iprop((iprop(boundary (d.tc : Thread nD τ) ∗ (unscopedBufs d (fun b => bv (out3 W d) b) ∗ R ∗ owed0 (F := F) d)) -∗ wp frame (wpE (D (F := F)) 𝒱 (d.tc : Thread nD τ) none) Set.univ (.ret ⟨⟩) Φ)
        ∗ boundary (d.tc : Thread nD τ) ∗ (unscopedBufs d (fun b => bv W b) ∗ R ∗ owed0 (F := F) d) ∗ levAts (K (F := F)).L (K (F := F)).lev
        ∗ Pipeline.cellsGhost (Pipeline.pin (pcfgs (F := F)) adm) EP 1 d ∗ Pipeline.toksInit (Pipeline.pin (pcfgs (F := F)) adm) EP 1 d)
  rw [wp_ret]
  iintro ⟨Hctx, ⟨Ho, HR⟩, Hb, Hh, ⟨Hg, Ht⟩, Hk⟩
  ihave Hl := (SparseCore.Cfg.ctx_levAts (K := K (F := F)) (P := P W0 W1) (EH := EH) κ) $$ Hctx
  isplitl [Hk]
  · iintro ⟨Hb, Hh, HR, Ho⟩
    imodintro
    iapply Hk
    isplitl [Ho HR]
    · isplitl [Ho]; · iexact Ho
      iexact HR
    isplitl [Hb]; · iexact Hb
    iexact Hh
  isplitl [Hb]; · iexact Hb
  isplitl [Hh HR Ho]
  · isplitl [Hh]; · iexact Hh
    isplitl [HR]; · iexact HR
    iexact Ho
  isplitl [Hl]; · iexact Hl
  isplitl [Hg]; · iexact Hg
  iexact Ht

/-! ## The launch element of the ghost state -/

/-- The handshakes' and the pipelines' launch elements. -/
def u₀ : UU := (initOf (K (F := F)).hsCells (K (F := F)).hsToks,
  (initOf (Pipeline.cells (Pipeline.pin (pcfgs (F := F)) adm) inj) (Pipeline.launchToks (Pipeline.pin (pcfgs (F := F)) adm) inj), 1))

/-- What the TensorCore holds of it: both pipelines' cells and tokens. -/
abbrev G (d : Dev nD) : sProp 𝕄 :=
  iprop((bigSep Finset.univ fun p => Pipeline.cellsGhost (Pipeline.pin (pcfgs (F := F)) adm) EP p d)
    ∗ bigSep Finset.univ fun p => Pipeline.toksInit (Pipeline.pin (pcfgs (F := F)) adm) EP p d)

omit [FloatOps F] in
theorem emps {I : Type} (s : Finset I) : (bigSep s fun _ => iprop(emp)) = (iprop(emp) : sProp 𝕄) := bigSep_emp_const s

theorem hu₀ (W0 W1 : Dev nD → Valuation τ sig (Elt F)) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P W0 W1).x q thr) := by
  unfold u₀
  iintro Hu
  ihave H := (ownU_pair (initOf (K (F := F)).hsCells (K (F := F)).hsToks) _) $$ Hu
  icases H with ⟨HH, HR⟩
  ihave H := (own_pair_emb (embR : Emb (UP × Counters) 𝕄) _ _) $$ HR
  icases H with ⟨HP, -⟩
  imod (Pipeline.fund_ghost (Pipeline.pin (pcfgs (F := F)) adm) (EP (F := F)) inj) $$ HP with ⟨Hg, Ht⟩
  imodintro
  isplitl [HH]; · iexact HH
  isplitl [Hg Ht]
  · rw [bigSep_sep']
    isplitl [Hg]; · iexact Hg
    iexact Ht
  rw [show (bigSep Finset.univ fun thr : Thread nD τ => bigSep Finset.univ fun q : Fin 2 => (P W0 W1).x q thr) = bigSep Finset.univ fun _ => iprop(emp) from
    bigSep_congr fun _ _ => emps _, emps]
  iempintro

theorem G_eq (d : Dev nD) : G (F := F) d
    = iprop((Pipeline.cellsGhost (Pipeline.pin (pcfgs (F := F)) adm) EP 0 d ∗ Pipeline.cellsGhost (Pipeline.pin (pcfgs (F := F)) adm) EP 1 d)
      ∗ Pipeline.toksInit (Pipeline.pin (pcfgs (F := F)) adm) EP 0 d ∗ Pipeline.toksInit (Pipeline.pin (pcfgs (F := F)) adm) EP 1 d) := by
  unfold G
  rw [bigSep_univ_eq_bigSepL [0, 1] (by decide) (by decide), bigSep_univ_eq_bigSepL [0, 1] (by decide) (by decide)]
  rfl

/-! ## @main on the TensorCore -/

variable (m : (ℓ : Loc nD τ sig) → Buf (Elt F) ℓ) (ρ : Dev nD → PrngReg)

/-- The calls' handshakes at the contents the calls are entered at. -/
abbrev PP : (K (F := F)).Pay (U := UU) (Val := Elt F) (nD := nD) (Name := ℕ) := P (fun d => Va m d) (fun d => Vc m d)

/-- At the end the TensorCore holds its buffers at the final contents. -/
abbrev FIN (d : Dev nD) : sProp 𝕄 := held (SparseCore.T d) (Pipeline.ucRefs τ sig) (Vh m d)

set_option maxRecDepth 16384 in
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [main_eq, G_eq, show (unscopedBufs d (fun b => m ((SparseCore.T d).loc b)) : sProp 𝕄) = held (SparseCore.T d) (Pipeline.ucRefs τ sig) (V0 m d) from Pipeline.unscopedBufs_held d (V0 m d)]
  iintro ⟨#Hctx, Hst, ⟨Hb, Hh, Hts, -⟩, ⟨Hg0, Hg1⟩, Ht0, Ht1⟩
  iapply (wp_seq 𝒱 none Set.univ d (Pipeline.ucRefs τ sig) _ hops0 hops0_sub hops0_fresh (V0 m d)) $$ [Hb Hh]
  · isplitl [Hb]
    · iexact Hb
    iexact Hh
  iintro ⟨Hb, Hh⟩
  rw [wp_bind]
  iapply (call0 (fun d => Va m d) (fun d => Vc m d) κ d) $$ [Hst Hb Hh Hts Hg0 Hg1 Ht0 Ht1]
  isplitr; · iexact Hctx
  isplitl [Hst]; · iexact Hst
  isplitl [Hh]; · iexact Hh
  iintro ⟨Hst, Hh⟩
  iapply (wp_seq 𝒱 none Set.univ d (Pipeline.ucRefs τ sig) _ hops1 hops1_sub hops1_fresh (Vb m d)) $$ [Hb Hh]
  · isplitl [Hb]
    · iexact Hb
    iexact Hh
  iintro ⟨Hb, Hh⟩
  rw [wp_bind]
  iapply (call1 (fun d => Va m d) (fun d => Vc m d) κ d) $$ [Hst Hb Hh Hts Hg0 Hg1 Ht0 Ht1]
  isplitr; · iexact Hctx
  isplitl [Hst]; · iexact Hst
  isplitl [Hh]; · iexact Hh
  iintro ⟨Hst, Hh⟩
  iapply (wp_seq 𝒱 none Set.univ d (Pipeline.ucRefs τ sig) _ hops2 hops2_sub hops2_fresh (Vd m d)) $$ [Hb Hh]
  · isplitl [Hb]
    · iexact Hb
    iexact Hh
  iintro ⟨Hb, Hh⟩
  rw [wp_bind]
  iapply (region0 (fun d => Va m d) (fun d => Vc m d) κ d (Ve m d)) $$ [Hst Hb Hh Hts Hg0 Hg1 Ht0 Ht1]
  isplitr; · iexact Hctx
  isplitl [Hst]; · iexact Hst
  isplitl [Hb]; · iexact Hb
  isplitl [Hh]; · iexact Hh
  isplitl [Hg0 Ht0]
  · isplitl [Hg0] <;> iassumption
  iintro ⟨Hst, Hb, Hh⟩
  iapply (wp_seq 𝒱 none Set.univ d (Pipeline.ucRefs τ sig) _ hops3 hops3_sub hops3_fresh (Vf m d)) $$ [Hb Hh]
  · isplitl [Hb]
    · iexact Hb
    iexact Hh
  iintro ⟨Hb, Hh⟩
  iapply (region1 (fun d => Va m d) (fun d => Vc m d) κ d (Vg m d)) $$ [Hst Hb Hh Hts Hg1 Ht1]
  isplitr; · iexact Hctx
  isplitl [Hst]; · iexact Hst
  isplitl [Hb]; · iexact Hb
  isplitl [Hh]; · iexact Hh
  isplitl [Hg1 Ht1]
  · isplitl [Hg1] <;> iassumption
  iintro ⟨Hst, Hb, Hh⟩
  isplitl [Hst]; · iexact Hst
  isplitl [Hh]; · iexact Hh
  isplitl [Hb] <;> iassumption

/-! ## The program's run -/

/-- What a final state holds on device `d`. -/
def fq (d : Dev nD) (s' : Phys nD τ sig (Elt F)) : Prop := ∀ b ∈ Pipeline.ucRefs τ sig, s'.mem.mem (d, b) = Vh m d b

theorem hfin (d : Dev nD) (s' : Phys nD τ sig (Elt F)) : iprop(FIN m d ∗ SI s') ⊢ (⌜fq m d s'⌝ : sProp 𝕄) :=
  (pointsTo_read_all (Pipeline.ucRefs τ sig) (fun b => (d, b)) (fun b => Vh m d b) s').trans sep_elim_left

/-- The final memory, and every semaphore back at zero. -/
def QC : PUnit × MemSt nD τ sig (Elt F) → Prop := fun r => (∀ d : Dev nD, ∀ b ∈ Pipeline.ucRefs τ sig, r.2.mem (d, b) = Vh m d b) ∧ r.2.sem = fun _ => 0

theorem run_main [∀ e, Nonempty (Elt F e)] (h0 : Call0.Ok fun d => Va m d) (h1 : Call1.Ok fun d => Vc m d) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq | 1 => nomatch hq)
    (fun q _ => match q with | 0 => tile0 _ _ h0 | 1 => tile1 _ _ h1)
    (fun q _ => match q with | 0 => SparseCore.Cfg.VecSplit.of_plain (split0 _ _) | 1 => SparseCore.Cfg.VecSplit.of_plain (split1 _ _))
    m ρ main (fun d => G (F := F) d) (FIN m) (u₀ (F := F)) (sep_elim_left.trans (hu₀ _ _)) (hmain m ρ) (fq m) (hfin m) (QC m) (fun _ h hz => ⟨h, hz⟩)

end Cert.Proof.Sc

end
-- ==== Proof.Frames.lean ====
/-
  The frames: the precondition gives that every gathered row exists, so the program runs; the arguments end as they began.
  The lists of rows the two SparseCore calls gather, read off the tokens.
-/
module

public import proofs.«01_k».proof.Proof.ScLaunch
public import proofs.«01_k».proof.Proof.Gen.Kernel
public import proofs.«01_k».proof.Proof.Gen.ReferenceIdeal.Run
public import proofs.«01_k».proof.Proof.Gen.Pre_idx_in_vocab
public import Idealize.ShloMosaic.Lib.ReduceAll
public import Idealize.ShloMosaic.Lib.VecWindow

@[expose] public section

set_option maxRecDepth 16384

noncomputable section

namespace Cert.Proof.Sc

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (d : Dev nD)

/-- The tokens. -/
abbrev toks : S1024x16.Idx → BitVec 32 := bv (V0 m d) main_arg0

/-- The token at place `n` of the sequences read one time step after another. -/
def tokAt (n : Fin 16384) : BitVec 32 := toks m d (ValueIdx.ix2 ⟨n.val % 1024, Nat.mod_lt _ (by decide)⟩ ⟨n.val / 1024, by have := n.isLt; omega⟩)

theorem Va_v1_eq : bv (Va m d) main_v1 = shapeCast S16384 (transpose S16x1024 [1, 0] (toks m d) transposes_S1024x16_S16x1024_1_0) shapeCasts_S16x1024_S16384 := by
  unfold Va bv toks bv; after_results; rfl

theorem Va_v1 (i : S16384.Idx) : bv (Va m d) main_v1 i = tokAt m d (i 0) := by
  rw [Va_v1_eq]
  rw [shapeCast_apply (s := S16x1024) (t := S16384) _ _ i (ValueIdx.ix2 ⟨(i 0).val / 1024, by have := (i 0).isLt; simp at this; omega⟩ ⟨(i 0).val % 1024, Nat.mod_lt _ (by decide)⟩)
    (by rw [Shape.rowMajor_val_two, Shape.rowMajor_val_one]; simp; omega)]
  unfold tokAt
  refine congrArg (toks m d) (funext fun a => ?_)
  match a with
  | 0 => rfl
  | 1 => rfl

theorem Va_v2_eq : bv (Va m d) main_v2 = extractStridedSlice S12288 ![0] (bv (Va m d) main_v1) slices_S16384_S12288_0 := by
  rw [Va_v1_eq]; unfold Va bv; after_results; rfl

theorem Va_v2 (j : S12288.Idx) : bv (Va m d) main_v2 j = tokAt m d ⟨(j 0).val, by have := (j 0).isLt; simp at this; omega⟩ := by
  rw [Va_v2_eq]
  refine (Va_v1 m d _).trans ?_
  congr 1
  exact Fin.ext (by simp)

theorem Vc_v5_eq : bv (Vc m d) main_v5 = extractStridedSlice S4096 ![12288] (bv (Vb m d) main_v1) slices_S16384_S4096_12288 := by
  unfold Vc bv; after_results

theorem Vc_v5 (j : S4096.Idx) : bv (Vc m d) main_v5 j = tokAt m d ⟨12288 + (j 0).val, by have := (j 0).isLt; simp at this; omega⟩ := by
  rw [Vc_v5_eq, Vb_keep m d main_v1 (by decide)]
  refine (Va_v1 m d _).trans ?_
  congr 1

/-- Every token names a row of the table. -/
def PreOK : Prop := ∀ (d : Dev nD) (i : S1024x16.Idx), (toks m d i).toNat < 256

variable {m} in
theorem PreOK.ok0 (h : PreOK m) : Call0.Ok fun d => Va m d := fun d j => by rw [Va_v2]; exact h d _
variable {m} in
theorem PreOK.ok1 (h : PreOK m) : Call1.Ok fun d => Vc m d := fun d j => by rw [Vc_v5]; exact h d _

/-- A word between 0 and 255, as signed words compare, is below 256. -/
theorem word_lt (v : BitVec 32) (e : IntOp.andi (IntOp.cmpi .sge v 0#32) (IntOp.cmpi .slt v 256#32) = 1#1) : v.toNat < 256 := by
  have hand (p q : Bool) : IntOp.andi (BitVec.ofBool p) (BitVec.ofBool q) = BitVec.ofBool (p && q) := by
    cases p <;> cases q <;> decide
  have hone (p : Bool) : (BitVec.ofBool p = 1#1) ↔ p = true := by cases p <;> decide
  simp only [IntOp.cmpi, hand, hone, Bool.and_eq_true, BitVec.sle_eq_decide, BitVec.slt_eq_decide,
    decide_eq_true_eq, BitVec.toInt_eq_toNat_cond, BitVec.toNat_ofNat, Nat.reducePow, Nat.reduceMod] at e
  omega

/-- The precondition on tokens alone. -/
theorem toks_lt {a1 a2 a3 a4 a5 a6 a7 a8 a9 a10 a11 a12 a13 a14 a15 a16 a17} {x : IVec S1024x16 32}
    (e : Cert.Pre_idx_in_vocab.fn (F := F) x a1 a2 a3 a4 a5 a6 a7 a8 a9 a10 a11 a12 a13 a14 a15 a16 a17 = fun _ => 1#1) (i : S1024x16.Idx) : (x i).toNat < 256 := by
  have e' := congrFun e (fun a => a.elim0)
  simp only [Cert.Pre_idx_in_vocab.fn] at e'
  have h := Host.reduce_andi_all _ _ _ _ _ e' i
  simp only [andi, cmpi, broadcastInDim, constantI] at h
  exact word_lt _ h

/-- A TensorCore buffer of the device's memory is among those the run ends with. -/
theorem final (r : Ref sig .tc) (hr : Proc.devRef (τ := τ) .tc r ∈ Pipeline.ucRefs τ sig) {s : PUnit × MemSt nD τ sig (Elt F)} (h : QC m s) :
    s.2.mem ((d.tc : Thread nD τ).loc r) = bv (Vh m d) r := h.1 d _ hr

/-- The arguments end as they began. -/
theorem args_keep {s : PUnit × MemSt nD τ sig (Elt F)} (h : QC m s) (r : Ref sig .tc)
    (hr : r ∈ [main_arg0, main_arg1, main_arg2, main_arg3, main_arg4, main_arg5, main_arg6, main_arg7, main_arg8, main_arg9, main_arg10, main_arg11, main_arg12,
      main_arg13, main_arg14, main_arg15, main_arg16, main_arg17]) : s.2.mem ((d.tc : Thread nD τ).loc r) = m ((d.tc : Thread nD τ).loc r) := by
  simp only [List.mem_cons, List.not_mem_nil, or_false] at hr
  rcases hr with rfl | rfl | rfl | rfl | rfl | rfl | rfl | rfl | rfl | rfl | rfl | rfl | rfl | rfl | rfl | rfl | rfl | rfl <;>
    exact (final m d _ (by decide) h).trans (Vh_launch m d _ (by decide) (by decide) (by decide) (by decide) (by decide) (by decide) (by decide) (by decide))

theorem args_all {s : PUnit × MemSt nD τ sig (Elt F)} (h : QC m s) :
    s.2.mem ((d.tc : Thread nD τ).loc main_arg0) = m ((d.tc : Thread nD τ).loc main_arg0)
      ∧ s.2.mem ((d.tc : Thread nD τ).loc main_arg1) = m ((d.tc : Thread nD τ).loc main_arg1)
      ∧ s.2.mem ((d.tc : Thread nD τ).loc main_arg2) = m ((d.tc : Thread nD τ).loc main_arg2)
      ∧ s.2.mem ((d.tc : Thread nD τ).loc main_arg3) = m ((d.tc : Thread nD τ).loc main_arg3)
      ∧ s.2.mem ((d.tc : Thread nD τ).loc main_arg4) = m ((d.tc : Thread nD τ).loc main_arg4)
      ∧ s.2.mem ((d.tc : Thread nD τ).loc main_arg5) = m ((d.tc : Thread nD τ).loc main_arg5)
      ∧ s.2.mem ((d.tc : Thread nD τ).loc main_arg6) = m ((d.tc : Thread nD τ).loc main_arg6)
      ∧ s.2.mem ((d.tc : Thread nD τ).loc main_arg7) = m ((d.tc : Thread nD τ).loc main_arg7)
      ∧ s.2.mem ((d.tc : Thread nD τ).loc main_arg8) = m ((d.tc : Thread nD τ).loc main_arg8)
      ∧ s.2.mem ((d.tc : Thread nD τ).loc main_arg9) = m ((d.tc : Thread nD τ).loc main_arg9)
      ∧ s.2.mem ((d.tc : Thread nD τ).loc main_arg10) = m ((d.tc : Thread nD τ).loc main_arg10)
      ∧ s.2.mem ((d.tc : Thread nD τ).loc main_arg11) = m ((d.tc : Thread nD τ).loc main_arg11)
      ∧ s.2.mem ((d.tc : Thread nD τ).loc main_arg12) = m ((d.tc : Thread nD τ).loc main_arg12)
      ∧ s.2.mem ((d.tc : Thread nD τ).loc main_arg13) = m ((d.tc : Thread nD τ).loc main_arg13)
      ∧ s.2.mem ((d.tc : Thread nD τ).loc main_arg14) = m ((d.tc : Thread nD τ).loc main_arg14)
      ∧ s.2.mem ((d.tc : Thread nD τ).loc main_arg15) = m ((d.tc : Thread nD τ).loc main_arg15)
      ∧ s.2.mem ((d.tc : Thread nD τ).loc main_arg16) = m ((d.tc : Thread nD τ).loc main_arg16)
      ∧ s.2.mem ((d.tc : Thread nD τ).loc main_arg17) = m ((d.tc : Thread nD τ).loc main_arg17) :=
  ⟨args_keep m d h _ (by decide), args_keep m d h _ (by decide), args_keep m d h _ (by decide), args_keep m d h _ (by decide), args_keep m d h _ (by decide), args_keep m d h _ (by decide), args_keep m d h _ (by decide), args_keep m d h _ (by decide), args_keep m d h _ (by decide), args_keep m d h _ (by decide), args_keep m d h _ (by decide), args_keep m d h _ (by decide), args_keep m d h _ (by decide), args_keep m d h _ (by decide), args_keep m d h _ (by decide), args_keep m d h _ (by decide), args_keep m d h _ (by decide), args_keep m d h _ (by decide)⟩

/-- The frame of the program over any float values, under the precondition on its arguments. -/
def FrameAt (F : FTy → Type) [FloatOps F] : Prop :=
  ∀ (m : (ℓ : Loc nD τ sig) → Buf (Elt F) ℓ) (g : Dev nD → PrngReg),
    (∀ c : Dev nD, Cert.Pre_idx_in_vocab.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) = (fun _ => 1#1)) →
    θ_run (Cert.KernelIdeal.defs (F := F)) (Cert.KernelIdeal.threads (F := F)) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0)

theorem frameAt [∀ e, Nonempty (Elt F e)] : FrameAt F := fun m ρ hpre =>
  have hok : PreOK m := fun d i => toks_lt (hpre d) i
  (θ_run Cert.KernelIdeal.defs _ _).mono (fun _ h => ⟨fun c => args_all m c h, h.2⟩) (run_main m ρ hok.ok0 hok.ok1)

theorem frame_KI : Cert.quiescent_KernelIdeal := frameAt (F := Ideal)

/-- The two programs have one text. -/
theorem one_text : Cert.quiescent_Kernel = FrameAt Bits := by sl_kernel_rfl

theorem frame_K : Cert.quiescent_Kernel := one_text.mpr (frameAt (F := Bits))

theorem frame_RI : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Sc

end
-- ==== Proof.ValueConv.lean ====
/-
  The pooled features at the extended reals: the convolution as one product with the unfolded matrix, its factors scaled by
  eight on both sides and the maximum by a 64th, is the sum over the filter's taps of products with the shifted rows.
-/
module

public import proofs.«01_k».proof.Proof.ConvDefs
public import Idealize.ShloMosaic.PureOps.Ideal.Laws
public import Idealize.ShloMosaic.Lib.IdealHost
public import Idealize.ShloMosaic.Lib.Pointwise
public import Idealize.ShloMosaic.Lib.ValueLayout
public import Idealize.ShloMosaic.Lib.MatmulPlain
public import Idealize.ShloMosaic.Lib.ValueIdx

@[expose] public section

set_option maxRecDepth 16384

noncomputable section

namespace Cert.Proof.Sc

open Cert.KernelIdeal Cert.KernelIdeal.Gen
open Idealize.ShloMosaic Idealize.ShloMosaic.TcCoe

/-! ## Sums and maxima of extended reals -/

/-- The word of the filters' factor is eight, -/
theorem bits_eight : Ideal.ofBits .f32 0x41000000#32 = ((8 : ℝ) : EReal) := by
  simp [Ideal.ofBits, Ideal.ieee, -EReal.coe_mul]; norm_num

/-- the word of the scores' factor is a sixty-fourth, -/
theorem bits_64th : Ideal.ofBits .f32 0x3C800000#32 = ((1 / 64 : ℝ) : EReal) := by
  simp [Ideal.ofBits, Ideal.ieee, -EReal.coe_mul]; norm_num

/-- and the maximum starts from minus infinity. -/
theorem bits_bot : Ideal.ofBits .f32 0xFF800000#32 = ⊥ := by simp [Ideal.ofBits, Ideal.ieee]

/-- A positive real factor distributes over a sum. -/
theorem sum_mul_pos {ι : Type} (s : Finset ι) (f : ι → EReal) (c : ℝ) (hc : 0 ≤ c) : (∑ k ∈ s, f k) * (c : EReal) = ∑ k ∈ s, f k * (c : EReal) := by
  classical
  induction s using Finset.induction_on with
  | empty => simp
  | insert a s ha ih =>
    rw [Finset.sum_insert ha, Finset.sum_insert ha, ← ih,
      EReal.right_distrib_of_nonneg_of_ne_top (EReal.coe_nonneg.2 hc) (EReal.coe_ne_top c)]

/-- Both factors eight times as large, the product a 64th: nothing changes. -/
theorem scaled (x y : EReal) : x * ((8 : ℝ) : EReal) * (y * ((8 : ℝ) : EReal)) * ((1 / 64 : ℝ) : EReal) = x * y := by
  rw [mul_mul_mul_comm, mul_assoc (x * y), ← EReal.coe_mul, ← EReal.coe_mul]
  norm_num

/-- The pooled feature of the scores `S` with bias `b`. -/
def featOf (L : ℕ) (S : Fin L → EReal) (b : EReal) : EReal := Finset.univ.fold max ⊥ fun t => max (S t + b) 0

/-- Scaling, bias and cut may be applied to the maximum instead of to every score. -/
theorem featOf_eq (L : ℕ) (hL : 0 < L) (S : Fin L → EReal) (b : EReal) (c : ℝ) (hc : 0 < c) :
    max ((Finset.univ.fold max ⊥ S) * (c : EReal) + b) 0 = featOf L (fun t => S t * (c : EReal)) b := by
  have hmono : Monotone fun x : EReal => max (x * (c : EReal) + b) 0 := fun x y h =>
    max_le_max (add_le_add (mul_le_mul_of_nonneg_right h (EReal.coe_nonneg.2 hc.le)) le_rfl) le_rfl
  have hbot : max (⊥ * (c : EReal) + b) 0 = 0 := by
    rw [EReal.bot_mul_coe_of_pos hc, EReal.bot_add]; exact max_eq_right bot_le
  have h1 : ∀ s : Finset (Fin L), max ((s.fold max ⊥ S) * (c : EReal) + b) 0 = s.fold max 0 fun t => max (S t * (c : EReal) + b) 0 := by
    intro s
    classical
    induction s using Finset.induction_on with
    | empty => simpa using hbot
    | insert a s ha ih =>
      rw [Finset.fold_insert ha, Finset.fold_insert ha, ← ih]
      exact hmono.map_max
  rw [h1]
  unfold featOf
  have h2 : ∀ s : Finset (Fin L), s.fold max 0 (fun t => max (S t * (c : EReal) + b) 0) = max 0 (s.fold max ⊥ fun t => max (S t * (c : EReal) + b) 0) := by
    intro s
    classical
    induction s using Finset.induction_on with
    | empty => simp
    | insert a s ha ih => rw [Finset.fold_insert ha, Finset.fold_insert ha, ih, max_left_comm]
  rw [h2]
  refine max_eq_right ?_
  exact (Finset.le_fold_max (0 : EReal)).2 (.inr ⟨⟨0, hL⟩, Finset.mem_univ _, le_max_right _ _⟩)

/-- A sum over the columns of `n` bands of 128 is the sum over the bands of the sums over their columns. -/
theorem sum_bands (n : ℕ) (f : ℕ → ℕ → EReal) : (∑ k : Fin (n * 128), f (k.val / 128) (k.val % 128)) = ∑ dt : Fin n, ∑ e : Fin 128, f dt.val e.val := by
  rw [← Fintype.sum_prod_type' (f := fun (dt : Fin n) (e : Fin 128) => f dt.val e.val)]
  refine Fintype.sum_equiv finProdFinEquiv.symm _ _ fun k => ?_
  rfl

/-! ## The kernel's features -/

/-- A row of the scaled block. -/
theorem pay2_apply (v0 : FVec Ideal S4x1024x128 .f32) (q : Fin 4) (t : Fin 1024) (e : Fin 128) (r : Fin 4096) (hr : r.val = q.val * 1024 + t.val) :
    k2_pay2 (F := Ideal) v0 (ValueIdx.ix2 r e) = v0 (ValueIdx.ix3 q t e) * ((8 : ℝ) : EReal) := by
  rw [← bits_eight]
  unfold k2_pay2
  show shapeCast S4096x128 (shapeCast S4x1024x128 v0 _) _ (ValueIdx.ix2 r e) * _ = _
  rw [shapeCast_self, shapeCast_apply (s := S4x1024x128) (t := S4096x128) _ _ (ValueIdx.ix2 r e) (ValueIdx.ix3 q t e)
    (by rw [Shape.rowMajor_val_two, Shape.rowMajor_val_three]; show (q.val * 1024 + t.val) * 128 + e.val = r.val * 128 + e.val; rw [hr])]
  rfl

/-- A row of the unfolded matrix whose taps stay inside its path. -/
theorem xcol_apply (v0 : FVec Ideal S4x1024x128 .f32) (q : Fin 4) (t k : ℕ) (r : Fin 4096) (hr : r.val = q.val * 1024 + t) (hk : k < 640)
    (h : t + k / 128 < 1024) :
    xcol (k2_pay2 (F := Ideal) v0) (ValueIdx.ix2 r ⟨k, hk⟩) = v0 (ValueIdx.ix3 q ⟨t + k / 128, h⟩ ⟨k % 128, Nat.mod_lt _ (by decide)⟩) * ((8 : ℝ) : EReal) := by
  have hq := q.isLt
  unfold xcol
  rw [dif_pos (show r.val + k / 128 < 4096 by omega)]
  exact pay2_apply v0 q ⟨t + k / 128, h⟩ _ _ (by show r.val + k / 128 = _; simp [hr]; omega)

/-- The largest of `n` scores, scaled, with bias and cut. -/
theorem pool_apply (n o : ℕ) (hs) (hr) (S : FVec Ideal S4096x256 .f32) (b : FVec Ideal S256 .f32) (c : Fin 256) (ho : o + n ≤ 4096) (hn : 0 < n) :
    pool (F := Ideal) n o hs hr S b (ValueIdx.ix1 c) = featOf n (fun t => S (ValueIdx.ix2 ⟨o + t.val, by omega⟩ c) * ((1 / 64 : ℝ) : EReal)) (b (ValueIdx.ix1 c)) := by
  rw [← featOf_eq n hn _ _ _ (by norm_num), ← bits_64th, ← bits_bot]
  have e := Ideal.multiReduction_maximumf_single (a := (0 : Fin 2)) (extractStridedSlice ⟨2, ![n, 256]⟩ ![o, 0] S hs) 0xFF800000#32 hr (.inl rfl) rfl
    (ValueIdx.ix1 c)
  refine (congrArg (fun z : EReal => max (z * Ideal.ofBits .f32 0x3C800000#32 + b (ValueIdx.ix1 c)) (Ideal.ofBits .f32 0x00000000#32)) e).trans ?_
  rw [Ideal.ofBits_zero_f32]
  refine congrArg (fun z : EReal => max (z * Ideal.ofBits .f32 0x3C800000#32 + b (ValueIdx.ix1 c)) 0) ?_
  refine congrArg (fun f => Finset.univ.fold max (Ideal.ofBits .f32 0xFF800000#32) f) (funext fun t => ?_)
  show S _ = S _
  refine congrArg S (funext fun a => ?_)
  match a with
  | 0 => exact Fin.ext (by simp [Shape.Reduces.lift_val, Shape.Reduces.liftVal])
  | 1 => exact Fin.ext (by simp [Shape.Reduces.lift_val, Shape.Reduces.liftVal])

/-- The pooled feature of one sequence of rows `E` under the filter `W` of width `n` with `L` places. -/
def feat (n L : ℕ) (E W : ℕ → ℕ → EReal) (b : EReal) : EReal :=
  featOf L (fun t => ∑ dt : Fin n, ∑ e : Fin 128, E (t.val + dt.val) e.val * W dt.val e.val) b

/-- One scaled row of the unfolded matrix against one scaled filter is the filter over the rows from there on. -/
theorem score_eq (n : ℕ) (hn : n * 128 ≤ 640) (v0 : FVec Ideal S4x1024x128 .f32) (q : Fin 4) (t : ℕ) (r : Fin 4096) (hr : r.val = q.val * 1024 + t)
    (ht : t + n ≤ 1024) (E : ℕ → ℕ → EReal) (hE : ∀ (s : Fin 1024) (e : Fin 128), v0 (ValueIdx.ix3 q s e) = E s.val e.val)
    (w : Fin (n * 128) → EReal) (W : ℕ → ℕ → EReal) (hw : ∀ k, w k = W (k.val / 128) (k.val % 128) * ((8 : ℝ) : EReal)) :
    (∑ k : Fin (n * 128), xcol (k2_pay2 (F := Ideal) v0) (ValueIdx.ix2 r ⟨k.val, by omega⟩) * w k) * ((1 / 64 : ℝ) : EReal)
      = ∑ dt : Fin n, ∑ e : Fin 128, E (t + dt.val) e.val * W dt.val e.val := by
  rw [sum_mul_pos _ _ _ (by norm_num), ← sum_bands n fun dt e => E (t + dt) e * W dt e]
  refine Finset.sum_congr rfl fun k _ => ?_
  have hk : k.val / 128 < n := by have := k.isLt; omega
  rw [xcol_apply v0 q t k.val r hr (by omega) (by omega), hE, hw, scaled]

/-- The three products at a row and a channel. -/
theorem score5_apply (X : FVec Ideal S4096x640 .fp8e4m3) (w : FVec Ideal S640x256 .fp8e4m3) (r : Fin 4096) (c : Fin 256) :
    k2_pay13 (F := Ideal) X w (ValueIdx.ix2 r c) = ∑ k : Fin (5 * 128), X (ValueIdx.ix2 r ⟨k.val, by omega⟩) * w (ValueIdx.ix2 ⟨k.val, by omega⟩ c) := by
  unfold k2_pay13
  refine (Ideal.matmul_plain_apply (M := 4096) (K := 640) (N := 256) none X (shapeCast S640x256 w shapeCasts_S640x256_S640x256)
    (constant S4096x256 .f32 0x00000000#32) r c).trans ?_
  rw [shapeCast_self, ValueIdx.constant_apply, Ideal.ofBits_zero_f32, zero_add]

/-- A score of the middle filter as a sum over its taps and channels. -/
theorem score4_apply (X : FVec Ideal S4096x640 .fp8e4m3) (w : FVec Ideal S512x256 .fp8e4m3) (r : Fin 4096) (c : Fin 256) :
    k2_pay20 (F := Ideal) X w (ValueIdx.ix2 r c) = ∑ k : Fin (4 * 128), X (ValueIdx.ix2 r ⟨k.val, by omega⟩) * w (ValueIdx.ix2 ⟨k.val, by omega⟩ c) := by
  unfold k2_pay20
  refine (Ideal.matmul_plain_apply (M := 4096) (K := 512) (N := 256) none _ (shapeCast S512x256 w shapeCasts_S512x256_S512x256)
    (constant S4096x256 .f32 0x00000000#32) r c).trans ?_
  rw [shapeCast_self, ValueIdx.constant_apply, Ideal.ofBits_zero_f32, zero_add]
  refine Finset.sum_congr rfl fun k _ => congrArg (fun z : EReal => z * _) (congrArg X (funext fun a => ?_))
  match a with
  | 0 => exact Fin.ext (Nat.zero_add _)
  | 1 => exact Fin.ext (Nat.zero_add _)

/-- A score of the narrowest filter as a sum over its taps and channels. -/
theorem score3_apply (X : FVec Ideal S4096x640 .fp8e4m3) (w : FVec Ideal S384x256 .fp8e4m3) (r : Fin 4096) (c : Fin 256) :
    k2_pay28 (F := Ideal) (k2_pay27 X) w (ValueIdx.ix2 r c) = ∑ k : Fin (3 * 128), X (ValueIdx.ix2 r ⟨k.val, by omega⟩) * w (ValueIdx.ix2 ⟨k.val, by omega⟩ c) := by
  unfold k2_pay28 k2_pay27
  refine (Ideal.matmul_plain_apply (M := 4096) (K := 384) (N := 256) none _ (shapeCast S384x256 w shapeCasts_S384x256_S384x256)
    (constant S4096x256 .f32 0x00000000#32) r c).trans ?_
  rw [shapeCast_self, ValueIdx.constant_apply, Ideal.ofBits_zero_f32, zero_add]
  refine Finset.sum_congr rfl fun k _ => congrArg (fun z : EReal => z * _) (congrArg X (funext fun a => ?_))
  match a with
  | 0 => exact Fin.ext (Nat.zero_add _)
  | 1 => exact Fin.ext (Nat.zero_add _)

/-- The bias of filter `j` at a channel. -/
theorem biasAt_apply (b : FVec Ideal S1x768 .f32) (j : ℕ) (hj : j < 3) (inb) (c : Fin 256) :
    biasAt (F := Ideal) b j inb (ValueIdx.ix1 c) = b (ValueIdx.ix2 0 ⟨256 * j + c.val, by omega⟩) := by
  unfold biasAt
  rw [shapeCast_apply (s := S1x256) (t := S256) _ _ (ValueIdx.ix1 c) (ValueIdx.ix2 0 c)
    (by rw [Shape.rowMajor_val_two, Shape.rowMajor_val_one]; show 0 * 256 + c.val = c.val; omega)]
  refine congrArg b (funext fun a => ?_)
  match a with
  | 0 => rfl
  | 1 => exact Fin.ext (show 256 * j + 1 * c.val = 256 * j + c.val by omega)

section Feats

variable (v0 : FVec Ideal S4x1024x128 .f32) (w5 : FVec Ideal S640x256 .fp8e4m3) (w4 : FVec Ideal S512x256 .fp8e4m3) (w3 : FVec Ideal S384x256 .fp8e4m3)
  (b : FVec Ideal S1x768 .f32) (E : Fin 4 → ℕ → ℕ → EReal) (hE : ∀ q (s : Fin 1024) (e : Fin 128), v0 (ValueIdx.ix3 q s e) = E q s.val e.val)
  (W5 W4 W3 : Fin 256 → ℕ → ℕ → EReal)
  (h5 : ∀ (k : Fin 640) c, w5 (ValueIdx.ix2 k c) = W5 c (k.val / 128) (k.val % 128) * ((8 : ℝ) : EReal))
  (h4 : ∀ (k : Fin 512) c, w4 (ValueIdx.ix2 k c) = W4 c (k.val / 128) (k.val % 128) * ((8 : ℝ) : EReal))
  (h3 : ∀ (k : Fin 384) c, w3 (ValueIdx.ix2 k c) = W3 c (k.val / 128) (k.val % 128) * ((8 : ℝ) : EReal))

include hE h5 in
/-- The features of the widest filter, -/
theorem convOut_five (q : Fin 4) (c : Fin 256) :
    convOut (F := Ideal) w5 w4 w3 b v0 (ValueIdx.ix3 q 0 c) = feat 5 1020 (E q) (W5 c) (b (ValueIdx.ix2 0 ⟨c.val, by omega⟩)) := by
  show featv (xcol (k2_pay2 (F := Ideal) v0)) w5 w4 w3 b q 0 (ValueIdx.ix1 c) = _
  have key : ∀ (q : Fin 4) (o : ℕ) (ho : o = q.val * 1024) (hs) (hr), pool (F := Ideal) 1020 o hs hr (k2_pay13 (xcol (k2_pay2 (F := Ideal) v0)) w5) (biasAt b 0 inb_S1x768_S1x256_0_0) (ValueIdx.ix1 c)
      = feat 5 1020 (E q) (W5 c) (b (ValueIdx.ix2 0 ⟨c.val, by omega⟩)) := by
    intro q o ho hs hr
    rw [pool_apply 1020 o hs hr _ _ c (by omega) (by decide), biasAt_apply b 0 (by decide)]
    unfold feat
    congr 1
    · funext t
      rw [score5_apply]
      exact score_eq 5 (by decide) v0 q t.val ⟨o + t.val, by omega⟩ (by simp [ho]) (by omega) (E q) (hE q) _ (W5 c) (fun k => h5 ⟨k.val, by omega⟩ c)
    · exact congrArg b (congrArg (ValueIdx.ix2 0) (Fin.ext (by simp)))
  match q with
  | 0 => exact key 0 0 rfl _ _
  | 1 => exact key 1 1024 rfl _ _
  | 2 => exact key 2 2048 rfl _ _
  | 3 => exact key 3 3072 rfl _ _

include hE h4 in
/-- of the middle one, -/
theorem convOut_four (q : Fin 4) (c : Fin 256) :
    convOut (F := Ideal) w5 w4 w3 b v0 (ValueIdx.ix3 q 1 c) = feat 4 1021 (E q) (W4 c) (b (ValueIdx.ix2 0 ⟨256 + c.val, by omega⟩)) := by
  show featv (xcol (k2_pay2 (F := Ideal) v0)) w5 w4 w3 b q 1 (ValueIdx.ix1 c) = _
  have key : ∀ (q : Fin 4) (o : ℕ) (ho : o = q.val * 1024) (hs) (hr), pool (F := Ideal) 1021 o hs hr (k2_pay20 (xcol (k2_pay2 (F := Ideal) v0)) w4) (biasAt b 1 inb_S1x768_S1x256_0_256) (ValueIdx.ix1 c)
      = feat 4 1021 (E q) (W4 c) (b (ValueIdx.ix2 0 ⟨256 + c.val, by omega⟩)) := by
    intro q o ho hs hr
    rw [pool_apply 1021 o hs hr _ _ c (by omega) (by decide), biasAt_apply b 1 (by decide)]
    unfold feat
    congr 1
    funext t
    rw [score4_apply]
    exact score_eq 4 (by decide) v0 q t.val ⟨o + t.val, by omega⟩ (by simp [ho]) (by omega) (E q) (hE q) _ (W4 c) (fun k => h4 ⟨k.val, by omega⟩ c)
  match q with
  | 0 => exact key 0 0 rfl _ _
  | 1 => exact key 1 1024 rfl _ _
  | 2 => exact key 2 2048 rfl _ _
  | 3 => exact key 3 3072 rfl _ _

include hE h3 in
/-- and of the narrowest. -/
theorem convOut_three (q : Fin 4) (c : Fin 256) :
    convOut (F := Ideal) w5 w4 w3 b v0 (ValueIdx.ix3 q 2 c) = feat 3 1022 (E q) (W3 c) (b (ValueIdx.ix2 0 ⟨512 + c.val, by omega⟩)) := by
  show featv (xcol (k2_pay2 (F := Ideal) v0)) w5 w4 w3 b q 2 (ValueIdx.ix1 c) = _
  have key : ∀ (q : Fin 4) (o : ℕ) (ho : o = q.val * 1024) (hs) (hr), pool (F := Ideal) 1022 o hs hr (k2_pay28 (k2_pay27 (xcol (k2_pay2 (F := Ideal) v0))) w3) (biasAt b 2 inb_S1x768_S1x256_0_512) (ValueIdx.ix1 c)
      = feat 3 1022 (E q) (W3 c) (b (ValueIdx.ix2 0 ⟨512 + c.val, by omega⟩)) := by
    intro q o ho hs hr
    rw [pool_apply 1022 o hs hr _ _ c (by omega) (by decide), biasAt_apply b 2 (by decide)]
    unfold feat
    congr 1
    funext t
    rw [score3_apply]
    exact score_eq 3 (by decide) v0 q t.val ⟨o + t.val, by omega⟩ (by simp [ho]) (by omega) (E q) (hE q) _ (W3 c) (fun k => h3 ⟨k.val, by omega⟩ c)
  match q with
  | 0 => exact key 0 0 rfl _ _
  | 1 => exact key 1 1024 rfl _ _
  | 2 => exact key 2 2048 rfl _ _
  | 3 => exact key 3 3072 rfl _ _

end Feats

end Cert.Proof.Sc

end
-- ==== Proof.ValueRef.lean ====
/-
  The reference's recurrence, classifier and normalisation as functions of the pooled features and the weights, and the
  reference's result as those functions of its arguments.
-/
module

public import proofs.«01_k».proof.Proof.Gen.ReferenceIdeal.Run
public import Idealize.ShloMosaic.PureOps.Ideal.Laws
public import Idealize.ShloMosaic.Lib.IdealHost
public import Idealize.ShloMosaic.Lib.Pointwise

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.SL.Sem Idealize.ShloMosaic.StableHlo

/-- Zero everywhere. -/
def zeros : FVec Ideal S16x256 .f32 := broadcastInDim S16x256 ![] bcast_S_S16x256 (constant S_ .f32 0x00000000#32)

/-- The logistic function of every entry. -/
def sgm (v : FVec Ideal S16x256 .f32) : FVec Ideal S16x256 .f32 :=
  Host.divf (broadcastInDim S16x256 ![] bcast_S_S16x256 (constant S_ .f32 0x3F800000#32))
    (addf (broadcastInDim S16x256 ![] bcast_S_S16x256 (constant S_ .f32 0x3F800000#32)) (Host.exp (Host.negf v)))

/-- The four gates of a step, side by side. -/
def gates (x h : FVec Ideal S16x256 .f32) (wi wh : FVec Ideal S1024x256 .f32) (b1 b2 : FVec Ideal S1024 .f32) : FVec Ideal S16x1024 .f32 :=
  addf (addf (addf (Host.dotGeneral dot_S16x256_S256x1024_S16x1024_1_0_0_1_n_n none x (transpose S256x1024 [1, 0] wi transposes_S1024x256_S256x1024_1_0))
    (Host.dotGeneral dot_S16x256_S256x1024_S16x1024_1_0_0_1_n_n none h (transpose S256x1024 [1, 0] wh transposes_S1024x256_S256x1024_1_0)))
    (broadcastInDim S16x1024 ![0, 1] bcast_S1x1024_S16x1024_0_1 (broadcastInDim S1x1024 ![1] bcast_S1024_S1x1024_1 b1)))
    (broadcastInDim S16x1024 ![0, 1] bcast_S1x1024_S16x1024_0_1 (broadcastInDim S1x1024 ![1] bcast_S1024_S1x1024_1 b2))

/-- The next cell state. -/
def cell (g : FVec Ideal S16x1024 .f32) (c : FVec Ideal S16x256 .f32) : FVec Ideal S16x256 .f32 :=
  addf (mulf (sgm (extractStridedSlice S16x256 ![0, 256] g slices_S16x1024_S16x256_0_256)) c)
    (mulf (sgm (extractStridedSlice S16x256 ![0, 0] g slices_S16x1024_S16x256_0_0)) (Host.tanh (extractStridedSlice S16x256 ![0, 512] g slices_S16x1024_S16x256_0_512)))

/-- The next hidden state. -/
def hid (g : FVec Ideal S16x1024 .f32) (c : FVec Ideal S16x256 .f32) : FVec Ideal S16x256 .f32 :=
  mulf (sgm (extractStridedSlice S16x256 ![0, 768] g slices_S16x1024_S16x256_0_768)) (Host.tanh c)

/-- The classifier. -/
def logits (hf hb : FVec Ideal S16x256 .f32) (pw : FVec Ideal S20x512 .f32) (pb : FVec Ideal S20 .f32) : FVec Ideal S16x20 .f32 :=
  addf (Host.dotGeneral dot_S16x512_S512x20_S16x20_1_0_0_1_n_n none (concatenate S16x512 1 [⟨S16x256, hf⟩, ⟨S16x256, hb⟩] concatenates_S16x256_S16x256_S16x512_d1)
    (transpose S512x20 [1, 0] pw transposes_S20x512_S512x20_1_0))
    (broadcastInDim S16x20 ![0, 1] bcast_S1x20_S16x20_0_1 (broadcastInDim S1x20 ![1] bcast_S20_S1x20_1 pb))

/-- Every row less its largest entry, -/
def shifted (z : FVec Ideal S16x20 .f32) : FVec Ideal S16x20 .f32 :=
  subf z (broadcastInDim S16x20 ![0, 1] bcast_S16x1_S16x20_0_1 (broadcastInDim S16x1 ![0] bcast_S16_S16x1_0
    (maximumf (broadcastInDim S16 ![] bcast_S_S16 (constant S_ .f32 0xFF800000#32)) (Host.reduce FloatOps.maximumf z (constant S_ .f32 0xFF800000#32) reducesTo_S16x20_S16_d1 h_S_))))

/-- The two forward steps' cell states and the last hidden state, from the three features. -/
def fwd (x0 x1 x2 : FVec Ideal S16x256 .f32) (wi wh : FVec Ideal S1024x256 .f32) (b1 b2 : FVec Ideal S1024 .f32) : FVec Ideal S16x256 .f32 :=
  let g1 := gates x0 zeros wi wh b1 b2
  let c1 := cell g1 zeros
  let g2 := gates x1 (hid g1 c1) wi wh b1 b2
  let c2 := cell g2 c1
  let g3 := gates x2 (hid g2 c2) wi wh b1 b2
  hid g3 (cell g3 c2)

/-- The hidden state of the backward step. -/
def bwd (x : FVec Ideal S16x256 .f32) (wi wh : FVec Ideal S1024x256 .f32) (b1 b2 : FVec Ideal S1024 .f32) : FVec Ideal S16x256 .f32 :=
  hid (gates x zeros wi wh b1 b2) (cell (gates x zeros wi wh b1 b2) zeros)

/-- One tap of the widest filter. -/
def tap5 (o : Fin 3 → ℕ) (p : Fin 4 → ℕ) (h1 : S16x1024x128.Slices o S16x1020x128) (h2 : S256x1x128x5.Slices p S256x1x128x1) (emb : FVec Ideal S16x1024x128 .f32)
    (w : FVec Ideal S256x1x128x5 .f32) : FVec Ideal S16x1020x256 .f32 :=
  Host.dotGeneral dot_S16x1020x128_S256x128_S16x1020x256_2_1_01_0_n_n none (extractStridedSlice S16x1020x128 o emb h1)
    (shapeCast _ (extractStridedSlice S256x1x128x1 p w h2) shapeCasts_S256x1x128x1_S256x128)

/-- Its scores: the taps, the bias, the cut. -/
def conv5 (emb : FVec Ideal S16x1024x128 .f32) (w : FVec Ideal S256x1x128x5 .f32) (b : FVec Ideal S256 .f32) : FVec Ideal S16x1020x256 .f32 :=
  maximumf (addf (addf (addf (addf (addf (addf (broadcastInDim S16x1020x256 ![] bcast_S_S16x1020x256 (constant S_ .f32 0x00000000#32))
    (tap5 ![0, 0, 0] ![0, 0, 0, 0] slices_S16x1024x128_S16x1020x128_0_0_0 slices_S256x1x128x5_S256x1x128x1_0_0_0_0 emb w))
    (tap5 ![0, 1, 0] ![0, 0, 0, 1] slices_S16x1024x128_S16x1020x128_0_1_0 slices_S256x1x128x5_S256x1x128x1_0_0_0_1 emb w))
    (tap5 ![0, 2, 0] ![0, 0, 0, 2] slices_S16x1024x128_S16x1020x128_0_2_0 slices_S256x1x128x5_S256x1x128x1_0_0_0_2 emb w))
    (tap5 ![0, 3, 0] ![0, 0, 0, 3] slices_S16x1024x128_S16x1020x128_0_3_0 slices_S256x1x128x5_S256x1x128x1_0_0_0_3 emb w))
    (tap5 ![0, 4, 0] ![0, 0, 0, 4] slices_S16x1024x128_S16x1020x128_0_4_0 slices_S256x1x128x5_S256x1x128x1_0_0_0_4 emb w))
    (broadcastInDim S16x1020x256 ![0, 1, 2] bcast_S1x1x256_S16x1020x256_0_1_2 (broadcastInDim S1x1x256 ![2] bcast_S256_S1x1x256_2 b)))
    (broadcastInDim S16x1020x256 ![] bcast_S_S16x1020x256 (constant S_ .f32 0x00000000#32))

/-- Its features. -/
def pool5 (emb : FVec Ideal S16x1024x128 .f32) (w : FVec Ideal S256x1x128x5 .f32) (b : FVec Ideal S256 .f32) : FVec Ideal S16x256 .f32 :=
  Host.reduce FloatOps.maximumf (conv5 emb w b) (constant S_ .f32 0xFF800000#32) reducesTo_S16x1020x256_S16x256_d1 h_S_

/-- One tap of the middle filter. -/
def tap4 (o : Fin 3 → ℕ) (p : Fin 4 → ℕ) (h1 : S16x1024x128.Slices o S16x1021x128) (h2 : S256x1x128x4.Slices p S256x1x128x1) (emb : FVec Ideal S16x1024x128 .f32)
    (w : FVec Ideal S256x1x128x4 .f32) : FVec Ideal S16x1021x256 .f32 :=
  Host.dotGeneral dot_S16x1021x128_S256x128_S16x1021x256_2_1_01_0_n_n none (extractStridedSlice S16x1021x128 o emb h1)
    (shapeCast _ (extractStridedSlice S256x1x128x1 p w h2) shapeCasts_S256x1x128x1_S256x128)

/-- Its scores: the taps, the bias, the cut. -/
def conv4 (emb : FVec Ideal S16x1024x128 .f32) (w : FVec Ideal S256x1x128x4 .f32) (b : FVec Ideal S256 .f32) : FVec Ideal S16x1021x256 .f32 :=
  maximumf (addf (addf (addf (addf (addf (broadcastInDim S16x1021x256 ![] bcast_S_S16x1021x256 (constant S_ .f32 0x00000000#32))
    (tap4 ![0, 0, 0] ![0, 0, 0, 0] slices_S16x1024x128_S16x1021x128_0_0_0 slices_S256x1x128x4_S256x1x128x1_0_0_0_0 emb w))
    (tap4 ![0, 1, 0] ![0, 0, 0, 1] slices_S16x1024x128_S16x1021x128_0_1_0 slices_S256x1x128x4_S256x1x128x1_0_0_0_1 emb w))
    (tap4 ![0, 2, 0] ![0, 0, 0, 2] slices_S16x1024x128_S16x1021x128_0_2_0 slices_S256x1x128x4_S256x1x128x1_0_0_0_2 emb w))
    (tap4 ![0, 3, 0] ![0, 0, 0, 3] slices_S16x1024x128_S16x1021x128_0_3_0 slices_S256x1x128x4_S256x1x128x1_0_0_0_3 emb w))
    (broadcastInDim S16x1021x256 ![0, 1, 2] bcast_S1x1x256_S16x1021x256_0_1_2 (broadcastInDim S1x1x256 ![2] bcast_S256_S1x1x256_2 b)))
    (broadcastInDim S16x1021x256 ![] bcast_S_S16x1021x256 (constant S_ .f32 0x00000000#32))

/-- Its features. -/
def pool4 (emb : FVec Ideal S16x1024x128 .f32) (w : FVec Ideal S256x1x128x4 .f32) (b : FVec Ideal S256 .f32) : FVec Ideal S16x256 .f32 :=
  Host.reduce FloatOps.maximumf (conv4 emb w b) (constant S_ .f32 0xFF800000#32) reducesTo_S16x1021x256_S16x256_d1 h_S_

/-- One tap of the narrowest filter. -/
def tap3 (o : Fin 3 → ℕ) (p : Fin 4 → ℕ) (h1 : S16x1024x128.Slices o S16x1022x128) (h2 : S256x1x128x3.Slices p S256x1x128x1) (emb : FVec Ideal S16x1024x128 .f32)
    (w : FVec Ideal S256x1x128x3 .f32) : FVec Ideal S16x1022x256 .f32 :=
  Host.dotGeneral dot_S16x1022x128_S256x128_S16x1022x256_2_1_01_0_n_n none (extractStridedSlice S16x1022x128 o emb h1)
    (shapeCast _ (extractStridedSlice S256x1x128x1 p w h2) shapeCasts_S256x1x128x1_S256x128)

/-- Its scores: the taps, the bias, the cut. -/
def conv3 (emb : FVec Ideal S16x1024x128 .f32) (w : FVec Ideal S256x1x128x3 .f32) (b : FVec Ideal S256 .f32) : FVec Ideal S16x1022x256 .f32 :=
  maximumf (addf (addf (addf (addf (broadcastInDim S16x1022x256 ![] bcast_S_S16x1022x256 (constant S_ .f32 0x00000000#32))
    (tap3 ![0, 0, 0] ![0, 0, 0, 0] slices_S16x1024x128_S16x1022x128_0_0_0 slices_S256x1x128x3_S256x1x128x1_0_0_0_0 emb w))
    (tap3 ![0, 1, 0] ![0, 0, 0, 1] slices_S16x1024x128_S16x1022x128_0_1_0 slices_S256x1x128x3_S256x1x128x1_0_0_0_1 emb w))
    (tap3 ![0, 2, 0] ![0, 0, 0, 2] slices_S16x1024x128_S16x1022x128_0_2_0 slices_S256x1x128x3_S256x1x128x1_0_0_0_2 emb w))
    (broadcastInDim S16x1022x256 ![0, 1, 2] bcast_S1x1x256_S16x1022x256_0_1_2 (broadcastInDim S1x1x256 ![2] bcast_S256_S1x1x256_2 b)))
    (broadcastInDim S16x1022x256 ![] bcast_S_S16x1022x256 (constant S_ .f32 0x00000000#32))

/-- Its features. -/
def pool3 (emb : FVec Ideal S16x1024x128 .f32) (w : FVec Ideal S256x1x128x3 .f32) (b : FVec Ideal S256 .f32) : FVec Ideal S16x256 .f32 :=
  Host.reduce FloatOps.maximumf (conv3 emb w b) (constant S_ .f32 0xFF800000#32) reducesTo_S16x1022x256_S16x256_d1 h_S_

/-- and less the logarithm of the sum of its exponentials. -/
def lsm (z : FVec Ideal S16x20 .f32) : FVec Ideal S16x20 .f32 :=
  subf (shifted z) (broadcastInDim S16x20 ![0, 1] bcast_S16x1_S16x20_0_1 (Host.log (broadcastInDim S16x1 ![0] bcast_S16_S16x1_0
    (Host.reduceAdd (Host.exp (shifted z)) (constant S_ .f32 0x00000000#32) reducesTo_S16x20_S16_d1 h_S_))))

variable (V : Valuation τ sig (Elt Ideal))

/-- What the buffer `r` holds. -/
abbrev ar (r : Ref sig .tc) : (Proc.devRef (τ := τ) .tc r).ty.Contents (Elt Ideal) := V (Proc.devRef .tc r)

/-- The narrowest filter's feature is pooled once and read three times. -/
theorem v79_eq : res_main_v79 V = pool3 (res_main_v1 V) (ar V main_arg6) (ar V main_arg7) := rfl

/-- The gates of the first forward step, -/
theorem v92_eq : res_main_v92 V = gates (pool5 (res_main_v1 V) (ar V main_arg2) (ar V main_arg3)) zeros (ar V main_arg8) (ar V main_arg9) (ar V main_arg10) (ar V main_arg11) := rfl

/-- its cell state, -/
theorem v118_eq : res_main_v118 V = cell (res_main_v92 V) zeros := rfl

/-- the gates of the second step, -/
theorem v131_eq : res_main_v131 V = gates (pool4 (res_main_v1 V) (ar V main_arg4) (ar V main_arg5)) (hid (res_main_v92 V) (res_main_v118 V)) (ar V main_arg8) (ar V main_arg9) (ar V main_arg10) (ar V main_arg11) := rfl

/-- its cell state, -/
theorem v157_eq : res_main_v157 V = cell (res_main_v131 V) (res_main_v118 V) := rfl

/-- the gates of the third step, -/
theorem v170_eq : res_main_v170 V = gates (res_main_v79 V) (hid (res_main_v131 V) (res_main_v157 V)) (ar V main_arg8) (ar V main_arg9) (ar V main_arg10) (ar V main_arg11) := rfl

/-- the gates of the backward step, -/
theorem v211_eq : res_main_v211 V = gates (res_main_v79 V) zeros (ar V main_arg12) (ar V main_arg13) (ar V main_arg14) (ar V main_arg15) := rfl

/-- and the logits. -/
theorem v245_eq : res_main_v245 V = logits (hid (res_main_v170 V) (cell (res_main_v170 V) (res_main_v157 V)))
    (hid (res_main_v211 V) (cell (res_main_v211 V) zeros)) (ar V main_arg16) (ar V main_arg17) := rfl

/-- The reference's result. -/
def result : FVec Ideal S16x20 .f32 :=
  lsm (logits (fwd (pool5 (res_main_v1 V) (ar V main_arg2) (ar V main_arg3)) (pool4 (res_main_v1 V) (ar V main_arg4) (ar V main_arg5))
      (pool3 (res_main_v1 V) (ar V main_arg6) (ar V main_arg7)) (ar V main_arg8) (ar V main_arg9) (ar V main_arg10) (ar V main_arg11))
    (bwd (pool3 (res_main_v1 V) (ar V main_arg6) (ar V main_arg7)) (ar V main_arg12) (ar V main_arg13) (ar V main_arg14) (ar V main_arg15))
    (ar V main_arg16) (ar V main_arg17))

/-- What the reference's run leaves, through the functions above. -/
theorem result_eq : subf (res_main_call4_v5 V) (broadcastInDim S16x20 ![0, 1] bcast_S16x1_S16x20_0_1 (Host.log (broadcastInDim S16x1 ![0] bcast_S16_S16x1_0
    (Host.reduceAdd (Host.exp (res_main_call4_v5 V)) (constant S_ .f32 0x00000000#32) reducesTo_S16x20_S16_d1 h_S_)))) = result V := by
  have e : res_main_call4_v5 V = shifted (res_main_v245 V) := rfl
  rw [e, v245_eq, v211_eq, v170_eq, v157_eq, v131_eq, v118_eq, v92_eq, v79_eq]
  rfl

end Cert.Proof.Ref

end
-- ==== Proof.ValueFeat.lean ====
/-
  The reference's pooled features, entry by entry, and its gathered rows.
-/
module

public import proofs.«01_k».proof.Proof.ValueConv
public import proofs.«01_k».proof.Proof.ValueRef
public import Idealize.ShloMosaic.Lib.ReduceAll

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.SL.Sem Idealize.ShloMosaic.StableHlo
open Cert.Proof.Sc (feat featOf bits_bot)

/-- The filter `w`'s entry of a channel, a tap and a component. -/
def flt {n : ℕ} [NeZero n] (w : FVec Ideal ⟨4, ![256, 1, 128, n]⟩ .f32) (c : Fin 256) (dt e : ℕ) : EReal :=
  w (ValueIdx.ix4 c 0 (Fin.ofNat 128 e) (Fin.ofNat n dt))

/-- A filter's tap at numbers in range. -/
theorem flt_val {n : ℕ} [NeZero n] (w : FVec Ideal ⟨4, ![256, 1, 128, n]⟩ .f32) (c : Fin 256) (dt : Fin n) (e : Fin 128) :
    flt w c dt.val e.val = w (ValueIdx.ix4 c 0 e dt) := by
  unfold flt
  rw [show Fin.ofNat 128 e.val = e from Fin.ext (Nat.mod_eq_of_lt e.isLt), show Fin.ofNat n dt.val = dt from Fin.ext (Nat.mod_eq_of_lt dt.isLt)]

/-- A score of the widest filter. -/
theorem conv5_apply (emb : FVec Ideal S16x1024x128 .f32) (w : FVec Ideal S256x1x128x5 .f32) (b : FVec Ideal S256 .f32)
    (E : ℕ → ℕ → EReal) (r : Fin 16) (hE : ∀ (t : Fin 1024) (e : Fin 128), emb (ValueIdx.ix3 r t e) = E t.val e.val) (t : Fin 1020) (c : Fin 256) :
    conv5 emb w b (ValueIdx.ix3 r t c) = max ((∑ dt : Fin 5, ∑ e : Fin 128, E (t.val + dt.val) e.val * flt w c dt.val e.val) + b (ValueIdx.ix1 c)) 0 := by
  simp only [flt_val]
  rw [← ix3_eq_valueIdx]
  pointwise [conv5, tap5]
  simp only [ix3_eq_valueIdx, ix4_eq_valueIdx, ix1_eq_valueIdx, hE]
  rw [Fin.sum_univ_five]
  simp [Nat.add_comm]

/-- A feature of the widest filter. -/
theorem pool5_apply (emb : FVec Ideal S16x1024x128 .f32) (w : FVec Ideal S256x1x128x5 .f32) (b : FVec Ideal S256 .f32)
    (E : ℕ → ℕ → EReal) (r : Fin 16) (hE : ∀ (t : Fin 1024) (e : Fin 128), emb (ValueIdx.ix3 r t e) = E t.val e.val) (c : Fin 256) :
    pool5 emb w b (ValueIdx.ix2 r c) = feat 5 1020 E (flt w c) (b (ValueIdx.ix1 c)) := by
  unfold pool5
  rw [Host.reduce_eq_fold_single _ _ _ _ (by decide)]
  unfold feat featOf
  rw [← bits_bot]
  refine congrArg (fun f => Finset.univ.fold max (Ideal.ofBits .f32 0xFF800000#32) f) (funext fun t => ?_)
  refine Eq.trans (congrArg (conv5 emb w b) (funext fun a => ?_)) (conv5_apply emb w b E r hE t c)
  match a with
  | 0 => exact Fin.ext (by simp [Shape.Reduces.lift_val, Shape.Reduces.liftVal])
  | 1 => exact Fin.ext (by simp [Shape.Reduces.lift_val, Shape.Reduces.liftVal])
  | 2 => exact Fin.ext (by simp [Shape.Reduces.lift_val, Shape.Reduces.liftVal])

/-- A score of the middle filter. -/
theorem conv4_apply (emb : FVec Ideal S16x1024x128 .f32) (w : FVec Ideal S256x1x128x4 .f32) (b : FVec Ideal S256 .f32)
    (E : ℕ → ℕ → EReal) (r : Fin 16) (hE : ∀ (t : Fin 1024) (e : Fin 128), emb (ValueIdx.ix3 r t e) = E t.val e.val) (t : Fin 1021) (c : Fin 256) :
    conv4 emb w b (ValueIdx.ix3 r t c) = max ((∑ dt : Fin 4, ∑ e : Fin 128, E (t.val + dt.val) e.val * flt w c dt.val e.val) + b (ValueIdx.ix1 c)) 0 := by
  simp only [flt_val]
  rw [← ix3_eq_valueIdx]
  pointwise [conv4, tap4]
  simp only [ix3_eq_valueIdx, ix4_eq_valueIdx, ix1_eq_valueIdx, hE]
  rw [Fin.sum_univ_four]
  simp [Nat.add_comm]

/-- A feature of the middle filter. -/
theorem pool4_apply (emb : FVec Ideal S16x1024x128 .f32) (w : FVec Ideal S256x1x128x4 .f32) (b : FVec Ideal S256 .f32)
    (E : ℕ → ℕ → EReal) (r : Fin 16) (hE : ∀ (t : Fin 1024) (e : Fin 128), emb (ValueIdx.ix3 r t e) = E t.val e.val) (c : Fin 256) :
    pool4 emb w b (ValueIdx.ix2 r c) = feat 4 1021 E (flt w c) (b (ValueIdx.ix1 c)) := by
  unfold pool4
  rw [Host.reduce_eq_fold_single _ _ _ _ (by decide)]
  unfold feat featOf
  rw [← bits_bot]
  refine congrArg (fun f => Finset.univ.fold max (Ideal.ofBits .f32 0xFF800000#32) f) (funext fun t => ?_)
  refine Eq.trans (congrArg (conv4 emb w b) (funext fun a => ?_)) (conv4_apply emb w b E r hE t c)
  match a with
  | 0 => exact Fin.ext (by simp [Shape.Reduces.lift_val, Shape.Reduces.liftVal])
  | 1 => exact Fin.ext (by simp [Shape.Reduces.lift_val, Shape.Reduces.liftVal])
  | 2 => exact Fin.ext (by simp [Shape.Reduces.lift_val, Shape.Reduces.liftVal])

/-- A score of the narrowest filter. -/
theorem conv3_apply (emb : FVec Ideal S16x1024x128 .f32) (w : FVec Ideal S256x1x128x3 .f32) (b : FVec Ideal S256 .f32)
    (E : ℕ → ℕ → EReal) (r : Fin 16) (hE : ∀ (t : Fin 1024) (e : Fin 128), emb (ValueIdx.ix3 r t e) = E t.val e.val) (t : Fin 1022) (c : Fin 256) :
    conv3 emb w b (ValueIdx.ix3 r t c) = max ((∑ dt : Fin 3, ∑ e : Fin 128, E (t.val + dt.val) e.val * flt w c dt.val e.val) + b (ValueIdx.ix1 c)) 0 := by
  simp only [flt_val]
  rw [← ix3_eq_valueIdx]
  pointwise [conv3, tap3]
  simp only [ix3_eq_valueIdx, ix4_eq_valueIdx, ix1_eq_valueIdx, hE]
  rw [Fin.sum_univ_three]
  simp [Nat.add_comm]

/-- A feature of the narrowest filter. -/
theorem pool3_apply (emb : FVec Ideal S16x1024x128 .f32) (w : FVec Ideal S256x1x128x3 .f32) (b : FVec Ideal S256 .f32)
    (E : ℕ → ℕ → EReal) (r : Fin 16) (hE : ∀ (t : Fin 1024) (e : Fin 128), emb (ValueIdx.ix3 r t e) = E t.val e.val) (c : Fin 256) :
    pool3 emb w b (ValueIdx.ix2 r c) = feat 3 1022 E (flt w c) (b (ValueIdx.ix1 c)) := by
  unfold pool3
  rw [Host.reduce_eq_fold_single _ _ _ _ (by decide)]
  unfold feat featOf
  rw [← bits_bot]
  refine congrArg (fun f => Finset.univ.fold max (Ideal.ofBits .f32 0xFF800000#32) f) (funext fun t => ?_)
  refine Eq.trans (congrArg (conv3 emb w b) (funext fun a => ?_)) (conv3_apply emb w b E r hE t c)
  match a with
  | 0 => exact Fin.ext (by simp [Shape.Reduces.lift_val, Shape.Reduces.liftVal])
  | 1 => exact Fin.ext (by simp [Shape.Reduces.lift_val, Shape.Reduces.liftVal])
  | 2 => exact Fin.ext (by simp [Shape.Reduces.lift_val, Shape.Reduces.liftVal])

/-- The row of the table that a token names. -/
def rowAt (tok : IVec S1024x16 32) (tbl : FVec Ideal S256x128 .f32) (r : Fin 16) (t e : ℕ) : EReal :=
  tbl (ValueIdx.ix2 ⟨(tok (ValueIdx.ix2 (Fin.ofNat 1024 t) r)).toNat % 256, Nat.mod_lt _ (by decide)⟩ (Fin.ofNat 128 e))

/-- A word below 256 compares as the number it is. -/
theorem word_small (v : BitVec 32) (h : v.toNat < 256) : IntOp.cmpi .slt v 0#32 = 0#1 ∧ IntOp.cmpi .sge v 0#32 = 1#1 ∧ IntOp.cmpi .sle v 255#32 = 1#1
    ∧ v.toInt.toNat = v.toNat := by
  have e : v.toInt = v.toNat := by rw [BitVec.toInt_eq_toNat_cond]; split <;> omega
  have z : (0#32 : BitVec 32).toInt = 0 := by decide
  have y : (255#32 : BitVec 32).toInt = 255 := by decide
  refine ⟨?_, ?_, ?_, by omega⟩ <;> simp only [IntOp.cmpi, BitVec.sle_eq_decide, BitVec.slt_eq_decide, e, z, y]
  · rw [decide_eq_false (by omega)]; rfl
  · rw [decide_eq_true (by omega)]; rfl
  · rw [decide_eq_true (by omega)]; rfl

/-- The gather of rows of a table of 256 rows, one per token: the token's row, read signed and clamped. -/
theorem rows_apply (x : FVec Ideal S256x128 .f32) (idx : IVec S1024x16x1 32) (t : Fin 1024) (r : Fin 16) (e : Fin 128) :
    Host.gather gather_S256x128_S1024x16x1_S1024x16x128_2_0_n_n_0_2_1128 x idx (ValueIdx.ix3 t r e)
      = x (ValueIdx.ix2 ⟨min (idx (ValueIdx.ix3 t r 0)).toInt.toNat 255, by omega⟩ e) := by
  unfold Host.gather
  refine congrArg x (funext fun a => Fin.ext ?_)
  show gather_S256x128_S1024x16x1_S1024x16x128_2_0_n_n_0_2_1128.start (ValueIdx.ix3 t r e) idx a
    + gather_S256x128_S1024x16x1_S1024x16x128_2_0_n_n_0_2_1128.batchCoord (ValueIdx.ix3 t r e) a
    + gather_S256x128_S1024x16x1_S1024x16x128_2_0_n_n_0_2_1128.offCoord (ValueIdx.ix3 t r e) a = _
  rw [GatherDims.batchCoord_eq_zero _ _ _ List.not_mem_nil, Nat.add_zero]
  match a with
  | 0 =>
    rw [GatherDims.offCoord_eq_zero _ _ _ (fun h => ((GatherDims.mem_sKept _ _).mp h).1 (List.mem_singleton.mpr rfl)), Nat.add_zero]
    unfold GatherDims.start
    rw [dif_pos (show (0 : Fin 2) ∈ gather_S256x128_S1024x16x1_S1024x16x128_2_0_n_n_0_2_1128.startIndexMap from List.mem_singleton.mpr rfl)]
    have hsi : gather_S256x128_S1024x16x1_S1024x16x128_2_0_n_n_0_2_1128.siIdx (ValueIdx.ix3 t r e)
        ⟨List.idxOf (0 : Fin 2) gather_S256x128_S1024x16x1_S1024x16x128_2_0_n_n_0_2_1128.startIndexMap,
          List.idxOf_lt_length_iff.2 (List.mem_singleton.mpr rfl)⟩ = ValueIdx.ix3 t r 0 := by
      funext b; refine Fin.ext ?_
      match b with
      | ⟨0, _⟩ => rfl
      | ⟨1, _⟩ => rfl
      | ⟨2, _⟩ => rfl
    rw [hsi]
    rfl
  | 1 =>
    unfold GatherDims.start
    rw [dif_neg (show (1 : Fin 2) ∉ gather_S256x128_S1024x16x1_S1024x16x128_2_0_n_n_0_2_1128.startIndexMap by decide), Nat.zero_add]
    rfl

variable (V : Valuation τ sig (Elt Ideal))

/-- The list of rows is the tokens'. -/
theorem list_apply (hv : ∀ i, (ar V main_arg0 i : BitVec 32).toNat < 256) (i : S1024x16x1.Idx) :
    res_main_call0_v5 V i = ar V main_arg0 (ValueIdx.ix2 (i 0) (i 1)) := by
  show Scalar.select (IntOp.cmpi .slt (ar V main_arg0 _) 0#32) _ _ = _
  rw [(word_small _ (hv _)).1]
  refine congrArg (ar V main_arg0) (funext fun a => ?_)
  match a with
  | 0 => rfl
  | 1 => rfl

/-- Every token in the vocabulary: the gathered rows are the table's. -/
theorem emb_apply (hv : ∀ i, (ar V main_arg0 i : BitVec 32).toNat < 256) (r : Fin 16) (t : Fin 1024) (e : Fin 128) :
    res_main_v1 V (ValueIdx.ix3 r t e) = rowAt (ar V main_arg0) (ar V main_arg1) r t.val e.val := by
  have hl := list_apply V hv
  unfold res_main_v1
  have key : ∀ x : FVec Ideal S1024x16x128 .f32, transpose S16x1024x128 [1, 0, 2] x transposes_S1024x16x128_S16x1024x128_1_0_2 (ValueIdx.ix3 r t e)
      = x (ValueIdx.ix3 t r e) := fun x => by rw [← ix3_eq_valueIdx, ← ix3_eq_valueIdx]; pointwise []
  rw [key]
  show Scalar.select (Host.reduce IntOp.andi _ _ reducesTo_S1024x16x1_S1024x16_d2 h_S_ _) (Host.gather _ _ _ _) _ = _
  rw [Host.reduce_andi_one _ _ _ _ _ rfl (fun i => by
    show IntOp.andi (IntOp.cmpi .sge (res_main_call0_v5 V i) 0#32) (IntOp.cmpi .sle (res_main_call0_v5 V i) 255#32) = 1#1
    rw [hl i, (word_small _ (hv _)).2.1, (word_small _ (hv _)).2.2.1]; rfl)]
  show Host.gather _ _ _ _ = _
  rw [rows_apply]
  have hw := hv (ValueIdx.ix2 t r)
  unfold rowAt
  refine congrArg (ar V main_arg1) (congrArg₂ ValueIdx.ix2 (Fin.ext ?_) (Fin.ext (Nat.mod_eq_of_lt e.isLt).symm))
  have ht : Fin.ofNat 1024 t.val = t := Fin.ext (Nat.mod_eq_of_lt t.isLt)
  show min (res_main_call0_v5 V (ValueIdx.ix3 t r 0)).toInt.toNat 255 = (ar V main_arg0 (ValueIdx.ix2 (Fin.ofNat 1024 t.val) r) : BitVec 32).toNat % 256
  have hl' : res_main_call0_v5 V (ValueIdx.ix3 t r 0) = ar V main_arg0 (ValueIdx.ix2 t r) := hl _
  rw [ht, hl', (word_small _ hw).2.2.2, Nat.mod_eq_of_lt hw]
  omega

end Cert.Proof.Ref

end
-- ==== Proof.ValueRec.lean ====
/-
  The second pallas_call's recurrence, classifier and normalisation are the reference's.
-/
module

public import proofs.«01_k».proof.Proof.Conv3Body
public import proofs.«01_k».proof.Proof.ValueFeat
public import Idealize.ShloMosaic.Lib.KernelVsHost

@[expose] public section

set_option maxRecDepth 16384

noncomputable section

namespace Cert.Proof.Sc

open Cert.KernelIdeal Cert.KernelIdeal.Gen
open Idealize.ShloMosaic Idealize.ShloMosaic.TcCoe

/-- The features of all paths at one step, the first twelve above the last four. -/
def stack (a : Vec Ideal S12x1x256 .f32) (b : Vec Ideal S4x1x256 .f32) : FVec Ideal S16x256 .f32 :=
  concatenate S16x256 0 [⟨S12x256, shapeCast S12x256 a shapeCasts_S12x1x256_S12x256⟩, ⟨S4x256, shapeCast S4x256 b shapeCasts_S4x1x256_S4x256⟩]
    concatenates_S12x256_S4x256_S16x256_d0

/-- The gates as the kernel computes them. -/
def kgates (x h : FVec Ideal S16x256 .f32) (wi wh : FVec Ideal S256x1024 .bf16) (b : FVec Ideal S1x1024 .f32) : FVec Ideal S16x1024 .f32 :=
  addf (addf (matmul dot_S16x256_S256x1024_S16x1024_1_0_0_1_n_n none (truncf .bf16 x bitsLt_bf16_f32) (shapeCast S256x1024 wi shapeCasts_S256x1024_S256x1024)
      (constant S16x1024 .f32 0x00000000#32))
    (matmul dot_S16x256_S256x1024_S16x1024_1_0_0_1_n_n none (truncf .bf16 h bitsLt_bf16_f32) (shapeCast S256x1024 wh shapeCasts_S256x1024_S256x1024)
      (constant S16x1024 .f32 0x00000000#32)))
    (broadcastTo S16x1024 (shapeCast S1x1024 (shapeCast S1024 b shapeCasts_S1x1024_S1024) shapeCasts_S1024_S1x1024) broadcasts_S1x1024_S16x1024)

/-- The gates of the backward step, whose state is zero, as the kernel computes them. -/
def kgates0 (x : FVec Ideal S16x256 .f32) (wi : FVec Ideal S256x1024 .bf16) (b : FVec Ideal S1x1024 .f32) : FVec Ideal S16x1024 .f32 :=
  addf (matmul dot_S16x256_S256x1024_S16x1024_1_0_0_1_n_n none (truncf .bf16 x bitsLt_bf16_f32) (shapeCast S256x1024 wi shapeCasts_S256x1024_S256x1024)
      (constant S16x1024 .f32 0x00000000#32))
    (broadcastTo S16x1024 (shapeCast S1x1024 (shapeCast S1024 b shapeCasts_S1x1024_S1024) shapeCasts_S1024_S1x1024) broadcasts_S1x1024_S16x1024)

/-- The cell state and the hidden state as the kernel computes them. -/
def kcell (g : FVec Ideal S16x1024 .f32) (c : FVec Ideal S16x256 .f32) : FVec Ideal S16x256 .f32 :=
  addf (mulf (logistic (extractStridedSlice S16x256 ![0, 256] g slices_S16x1024_o0_256_S16x256)) c)
    (mulf (logistic (extractStridedSlice S16x256 ![0, 0] g slices_S16x1024_o0_0_S16x256)) (tanh (extractStridedSlice S16x256 ![0, 512] g slices_S16x1024_o0_512_S16x256)))

/-- The cell state after a zero state, as the kernel computes it. -/
def kcell0 (g : FVec Ideal S16x1024 .f32) : FVec Ideal S16x256 .f32 :=
  mulf (logistic (extractStridedSlice S16x256 ![0, 0] g slices_S16x1024_o0_0_S16x256)) (tanh (extractStridedSlice S16x256 ![0, 512] g slices_S16x1024_o0_512_S16x256))

/-- The hidden state as the kernel computes it. -/
def khid (g : FVec Ideal S16x1024 .f32) (c : FVec Ideal S16x256 .f32) : FVec Ideal S16x256 .f32 :=
  mulf (logistic (extractStridedSlice S16x256 ![0, 768] g slices_S16x1024_o0_768_S16x256)) (tanh c)

/-- The zero state. -/
def kzeros : FVec Ideal S16x256 .f32 := broadcast S16x256 (Scalar.ofBits .f32 0x00000000#32)

/-- The kernel's text, step by step. -/
theorem recFn_eq (a0 : Vec Ideal S12x1x256 .f32) (b0 : Vec Ideal S4x1x256 .f32) (a1 : Vec Ideal S12x1x256 .f32) (b1 : Vec Ideal S4x1x256 .f32)
    (a2 : Vec Ideal S12x1x256 .f32) (b2 : Vec Ideal S4x1x256 .f32) (wi wh : Vec Ideal S256x1024 .bf16) (b : Vec Ideal S1x1024 .f32)
    (wib : Vec Ideal S256x1024 .bf16) (bb : Vec Ideal S1x1024 .f32) (pw : Vec Ideal S512x20 .bf16) (pb : Vec Ideal S1x20 .f32) :
    recFn (F := Ideal) a0 b0 a1 b1 a2 b2 wi wh b wib bb pw pb
      = let g1 := kgates (stack a0 b0) kzeros wi wh b
        let c1 := kcell g1 kzeros
        let g2 := kgates (stack a1 b1) (khid g1 c1) wi wh b
        let c2 := kcell g2 c1
        let g3 := kgates (stack a2 b2) (khid g2 c2) wi wh b
        let gb := kgates0 (stack a2 b2) wib bb
        k3_pay2 (F := Ideal) (truncf .bf16 (concatenate S16x512 1 [⟨S16x256, khid g3 (kcell g3 c2)⟩, ⟨S16x256, khid gb (kcell0 gb)⟩]
          concatenates_S16x256_S16x256_S16x512_d1) bitsLt_bf16_f32) pw pb := rfl

/-- The logistic function is the reference's quotient. -/
theorem logistic_eq (v : FVec Ideal S16x256 .f32) : logistic v = Ref.sgm v := by
  funext i
  show Ideal.div 1 (1 + Ideal.exp (-v i)) = Ideal.div (Ideal.ofBits .f32 0x3F800000#32) (Ideal.ofBits .f32 0x3F800000#32 + Ideal.exp (-v i))
  rw [Ideal.ofBits_one_f32]

/-- The zero states are one array, -/
theorem kzeros_eq : kzeros = Ref.zeros := rfl

/-- zero everywhere. -/
theorem zeros_apply (i : S16x256.Idx) : Ref.zeros i = 0 := Ideal.ofBits_zero_f32

/-- The hidden states are equal, -/
theorem khid_eq (g : FVec Ideal S16x1024 .f32) (c : FVec Ideal S16x256 .f32) : khid g c = Ref.hid g c := by
  unfold khid; rw [logistic_eq]; rfl

/-- the cell states too, -/
theorem kcell_eq (g : FVec Ideal S16x1024 .f32) (c : FVec Ideal S16x256 .f32) : kcell g c = Ref.cell g c := by
  unfold kcell; rw [logistic_eq, logistic_eq]; rfl

/-- and the kernel's short form of a step from zero: the forget gate times zero is zero. -/
theorem kcell0_eq (g : FVec Ideal S16x1024 .f32) : kcell0 g = Ref.cell g Ref.zeros := by
  unfold kcell0; rw [logistic_eq]
  funext i
  show _ = _ * Ref.zeros i + _
  rw [zeros_apply, mul_zero, zero_add]; rfl

/-- The gates are the reference's: the two biases are added first. -/
theorem kgates_eq (x h : FVec Ideal S16x256 .f32) (wi wh : FVec Ideal S1024x256 .f32) (b1 b2 : FVec Ideal S1024 .f32) :
    kgates x h (truncf .bf16 (transpose S256x1024 [1, 0] wi transposes_S1024x256_S256x1024_1_0) bitsLt_bf16_f32)
      (truncf .bf16 (transpose S256x1024 [1, 0] wh transposes_S1024x256_S256x1024_1_0) bitsLt_bf16_f32) (shapeCast S1x1024 (addf b1 b2) shapeCasts_S1024_S1x1024)
      = Ref.gates x h wi wh b1 b2 := by
  funext i
  pointwise [kgates, Ref.gates]
  exact (add_assoc _ _ _).symm

/-- From a zero state the product with the recurrent weights is zero, so leaving it out changes nothing. -/
theorem kgates0_eq (x : FVec Ideal S16x256 .f32) (wi wh : FVec Ideal S1024x256 .f32) (b1 b2 : FVec Ideal S1024 .f32) :
    kgates0 x (truncf .bf16 (transpose S256x1024 [1, 0] wi transposes_S1024x256_S256x1024_1_0) bitsLt_bf16_f32) (shapeCast S1x1024 (addf b1 b2) shapeCasts_S1024_S1x1024)
      = Ref.gates x Ref.zeros wi wh b1 b2 := by
  funext i
  pointwise [kgates0, Ref.gates, Ref.zeros]
  simp only [zero_mul, Finset.sum_const_zero, add_zero]
  exact (add_assoc _ _ _).symm

/-- The classifier as the kernel computes it. -/
def klogits (hf hb : FVec Ideal S16x256 .f32) (pw : FVec Ideal S512x20 .bf16) (pb : FVec Ideal S1x20 .f32) : FVec Ideal S16x20 .f32 :=
  addf (matmul dot_S16x512_S512x20_S16x20_1_0_0_1_n_n none
      (truncf .bf16 (concatenate S16x512 1 [⟨S16x256, hf⟩, ⟨S16x256, hb⟩] concatenates_S16x256_S16x256_S16x512_d1) bitsLt_bf16_f32)
      (shapeCast S512x20 pw shapeCasts_S512x20_S512x20) (constant S16x20 .f32 0x00000000#32))
    (broadcastTo S16x20 (shapeCast S1x20 (shapeCast S20 pb shapeCasts_S1x20_S20) shapeCasts_S20_S1x20) broadcasts_S1x20_S16x20)

/-- Every row less its largest entry, and less the logarithm of its sum of exponentials, as the kernel computes them. -/
def kshifted (z : FVec Ideal S16x20 .f32) : FVec Ideal S16x20 .f32 :=
  subf z (broadcastTo S16x20 (shapeCast S16x1 (multiReduction .maximumf [1] S16 z 0xFF800000#32 reduces_S16x20_S16 (.inl rfl) rfl) shapeCasts_S16_S16x1)
    broadcasts_S16x1_S16x20)

/-- Less the logarithm of a row's sum of exponentials. -/
def klsm (s : FVec Ideal S16x20 .f32) : FVec Ideal S16x20 .f32 :=
  subf s (broadcastTo S16x20 (log (shapeCast S16x1 (multiReduction .add [1] S16 (exp s) 0x00000000#32 reduces_S16x20_S16 (.inl rfl) rfl) shapeCasts_S16_S16x1))
    broadcasts_S16x1_S16x20)

/-- The classifier's text in these functions. -/
theorem pay2_klsm (hf hb : FVec Ideal S16x256 .f32) (pw : FVec Ideal S512x20 .bf16) (pb : FVec Ideal S1x20 .f32) :
    k3_pay2 (F := Ideal) (truncf .bf16 (concatenate S16x512 1 [⟨S16x256, hf⟩, ⟨S16x256, hb⟩] concatenates_S16x256_S16x256_S16x512_d1) bitsLt_bf16_f32) pw pb
      = klsm (kshifted (klogits hf hb pw pb)) := rfl

/-- The logits are the reference's. -/
theorem klogits_eq (hf hb : FVec Ideal S16x256 .f32) (pw : FVec Ideal S20x512 .f32) (pb : FVec Ideal S20 .f32) :
    klogits hf hb (truncf .bf16 (transpose S512x20 [1, 0] pw transposes_S20x512_S512x20_1_0) bitsLt_bf16_f32) (shapeCast S1x20 pb shapeCasts_S20_S1x20)
      = Ref.logits hf hb pw pb := by
  funext i
  pointwise! [klogits, Ref.logits]

/-- One entry per row, laid along the row: the kernel's way and the reference's. -/
theorem column_eq (m : FVec Ideal S16 .f32) :
    broadcastTo S16x20 (shapeCast S16x1 m shapeCasts_S16_S16x1) broadcasts_S16x1_S16x20
      = broadcastInDim S16x20 ![0, 1] Cert.ReferenceIdeal.Gen.bcast_S16x1_S16x20_0_1
          (broadcastInDim S16x1 ![0] Cert.ReferenceIdeal.Gen.bcast_S16_S16x1_0 m) := by
  funext i
  pointwise! []

/-- The shifted rows are the reference's: a maximum from minus infinity is that maximum. -/
theorem kshifted_eq (z : FVec Ideal S16x20 .f32) : kshifted z = Ref.shifted z := by
  unfold kshifted Ref.shifted
  refine (congrArg (fun m => subf z (broadcastTo S16x20 (shapeCast S16x1 m shapeCasts_S16_S16x1) broadcasts_S16x1_S16x20))
    (hostReduce_maximumf_eq_multiReduction z 0xFF800000#32 Cert.ReferenceIdeal.Gen.reducesTo_S16x20_S16_d1 Cert.ReferenceIdeal.Gen.h_S_
      reduces_S16x20_S16 (.inl rfl) rfl).symm).trans ?_
  rw [column_eq]
  refine congrArg (fun m : FVec Ideal S16 .f32 => subf z (broadcastInDim S16x20 ![0, 1] Cert.ReferenceIdeal.Gen.bcast_S16x1_S16x20_0_1
          (broadcastInDim S16x1 ![0] Cert.ReferenceIdeal.Gen.bcast_S16_S16x1_0 m))) ?_
  funext i
  show _ = max (Ideal.ofBits .f32 0xFF800000#32) _
  rw [bits_bot]
  exact (max_eq_right bot_le).symm

/-- The normalised rows are the reference's. -/
theorem klsm_eq (z : FVec Ideal S16x20 .f32) : klsm (Ref.shifted z) = Ref.lsm z := by
  unfold klsm Ref.lsm
  refine (congrArg (fun m => subf (Ref.shifted z) (broadcastTo S16x20 (log (shapeCast S16x1 m shapeCasts_S16_S16x1)) broadcasts_S16x1_S16x20))
    (multiReduction_add_eq_hostReduceAdd (exp (Ref.shifted z)) 0x00000000#32 reduces_S16x20_S16 (.inl rfl) rfl
      (constant Cert.ReferenceIdeal.S_ .f32 0x00000000#32) Cert.ReferenceIdeal.Gen.reducesTo_S16x20_S16_d1 Cert.ReferenceIdeal.Gen.h_S_ Ideal.ofBits_zero_f32)).trans ?_
  funext i
  pointwise! []

/-- The classifier and the normalisation are the reference's. -/
theorem pay2_eq (hf hb : FVec Ideal S16x256 .f32) (pw : FVec Ideal S20x512 .f32) (pb : FVec Ideal S20 .f32) :
    k3_pay2 (F := Ideal) (truncf .bf16 (concatenate S16x512 1 [⟨S16x256, hf⟩, ⟨S16x256, hb⟩] concatenates_S16x256_S16x256_S16x512_d1) bitsLt_bf16_f32)
      (truncf .bf16 (transpose S512x20 [1, 0] pw transposes_S20x512_S512x20_1_0) bitsLt_bf16_f32) (shapeCast S1x20 pb shapeCasts_S20_S1x20)
      = Ref.lsm (Ref.logits hf hb pw pb) := by
  rw [pay2_klsm, klogits_eq, kshifted_eq, klsm_eq]

/-- The second pallas_call's body, on the weights as the program lays them out, is the reference's recurrence, classifier and normalisation. -/
theorem recFn_ref (a0 : Vec Ideal S12x1x256 .f32) (b0 : Vec Ideal S4x1x256 .f32) (a1 : Vec Ideal S12x1x256 .f32) (b1 : Vec Ideal S4x1x256 .f32)
    (a2 : Vec Ideal S12x1x256 .f32) (b2 : Vec Ideal S4x1x256 .f32) (wi wh : FVec Ideal S1024x256 .f32) (b b' : FVec Ideal S1024 .f32)
    (wib whb : FVec Ideal S1024x256 .f32) (bb bb' : FVec Ideal S1024 .f32) (pw : FVec Ideal S20x512 .f32) (pb : FVec Ideal S20 .f32) :
    recFn (F := Ideal) a0 b0 a1 b1 a2 b2 (truncf .bf16 (transpose S256x1024 [1, 0] wi transposes_S1024x256_S256x1024_1_0) bitsLt_bf16_f32)
      (truncf .bf16 (transpose S256x1024 [1, 0] wh transposes_S1024x256_S256x1024_1_0) bitsLt_bf16_f32) (shapeCast S1x1024 (addf b b') shapeCasts_S1024_S1x1024)
      (truncf .bf16 (transpose S256x1024 [1, 0] wib transposes_S1024x256_S256x1024_1_0) bitsLt_bf16_f32) (shapeCast S1x1024 (addf bb bb') shapeCasts_S1024_S1x1024)
      (truncf .bf16 (transpose S512x20 [1, 0] pw transposes_S20x512_S512x20_1_0) bitsLt_bf16_f32) (shapeCast S1x20 pb shapeCasts_S20_S1x20)
      = Ref.lsm (Ref.logits (Ref.fwd (stack a0 b0) (stack a1 b1) (stack a2 b2) wi wh b b') (Ref.bwd (stack a2 b2) wib whb bb bb') pw pb) := by
  rw [recFn_eq]
  dsimp only
  rw [pay2_eq, kgates0_eq _ wib whb]
  rw [kgates_eq, khid_eq, kcell_eq, kgates_eq, khid_eq, kcell_eq, kgates_eq, khid_eq, kcell_eq, khid_eq, kcell0_eq, kzeros_eq]
  rfl

/-- A stacked feature at an index. -/
theorem stack_lo (a : Vec Ideal S12x1x256 .f32) (b : Vec Ideal S4x1x256 .f32) (r : Fin 16) (c : Fin 256) (h : r.val < 12) :
    stack a b (ValueIdx.ix2 r c) = a (ValueIdx.ix3 ⟨r.val, h⟩ 0 c) := by
  refine (concatenate_pair_apply_left 0 _ _ concatenates_S12x256_S4x256_S16x256_d0 (ValueIdx.ix2 r c) rfl (ValueIdx.ix2 ⟨r.val, h⟩ c)
    (fun b => by match b with | 0 => rfl | 1 => rfl)).trans ?_
  rw [← ix2_eq_valueIdx, ← ix3_eq_valueIdx]
  pointwise! []

/-- The last four rows are the second part's. -/
theorem stack_hi (a : Vec Ideal S12x1x256 .f32) (b : Vec Ideal S4x1x256 .f32) (r : Fin 16) (c : Fin 256) (h : 12 ≤ r.val) :
    stack a b (ValueIdx.ix2 r c) = b (ValueIdx.ix3 ⟨r.val - 12, by omega⟩ 0 c) := by
  refine (concatenate_pair_apply_right 0 _ _ concatenates_S12x256_S4x256_S16x256_d0 (ValueIdx.ix2 r c) rfl rfl (ValueIdx.ix2 ⟨r.val - 12, by omega⟩ c)
    (fun b hb => by match b with | 0 => exact absurd rfl hb | 1 => rfl) (by show r.val - 12 + 12 = r.val; omega)).trans ?_
  rw [← ix2_eq_valueIdx, ← ix3_eq_valueIdx]
  pointwise! []

end Cert.Proof.Sc

end
-- ==== Proof.ValueArr.lean ====
/-
  What the arrays hold entering the two pallas_calls: the gathered rows of the table, the filters times eight, the biases.
-/
module

public import proofs.«01_k».proof.Proof.Frames
public import proofs.«01_k».proof.Proof.ValueRec

@[expose] public section

set_option maxRecDepth 16384

noncomputable section

namespace Cert.Proof.Sc

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (d : Dev nD)

/-- What an argument holds at the launch. -/
abbrev ag (r : Ref sig .tc) : (Proc.devRef (τ := τ) .tc r).ty.Contents (Elt Ideal) := bv (V0 m d) r

/-- An argument entering each stretch is as launched. -/
theorem Vd_ag (r : Ref sig .tc) (h3 : r ≠ main_v3) (h6 : r ≠ main_v6) (g0 : r ∉ hops0_W) (g1 : r ∉ hops1_W) : bv (Vd m d) r = ag m d r := by
  rw [Vd_keep m d r h6, Vc_keep m d r g1, Vb_keep m d r h3, Va_keep m d r g0]

/-- Nor does the first region change an argument. -/
theorem Vf_ag (r : Ref sig .tc) (h3 : r ≠ main_v3) (h6 : r ≠ main_v6) (h28 : r ≠ main_v28) (g0 : r ∉ hops0_W) (g1 : r ∉ hops1_W) (g2 : r ∉ hops2_W) :
    bv (Vf m d) r = ag m d r := by
  rw [Vf_keep m d r h28, Ve_keep m d r g2, Vd_ag m d r h3 h6 g0 g1]

/-! ## The rows -/

/-- A gathered row is the table's row that the token of its place names. -/
theorem gathered_row {n : ℕ} (ix : IVec (⟨1, ![n]⟩ : Shape) 32) (k : Fin n) (b : Fin 16) (s : Fin 1024) (e : Fin 128)
    (h : ix (ValueIdx.ix1 k) = toks m d (ValueIdx.ix2 s b)) :
    gathered (F := Ideal) (ag m d main_arg1) ix (ValueIdx.ix2 k e) = Ref.rowAt (toks m d) (ag m d main_arg1) b s.val e.val := by
  unfold gathered Ref.rowAt
  refine congrArg (ag m d main_arg1) (funext fun a => ?_)
  match a with
  | 0 =>
    refine Fin.ext ?_
    show (ix (ValueIdx.ix1 k)).toNat % 256 = (toks m d (ValueIdx.ix2 (Fin.ofNat 1024 s.val) b)).toNat % 256
    rw [h, show Fin.ofNat 1024 s.val = s from Fin.ext (Nat.mod_eq_of_lt s.isLt)]
  | 1 => exact Fin.ext (Nat.mod_eq_of_lt e.isLt).symm

/-- The first call's rows, one path after another, -/
theorem Vc_v4_eq : bv (Vc m d) main_v4 = shapeCast S12x1024x128 (bv (Vb m d) main_v3) shapeCasts_S12288x128_S12x1024x128 := by
  unfold Vc bv; after_results; rfl

/-- and the second call's. -/
theorem Ve_v7_eq : bv (Ve m d) main_v7 = shapeCast S4x1024x128 (bv (Vd m d) main_v6) shapeCasts_S4096x128_S4x1024x128 := by
  unfold Ve bv; after_results; rfl

/-- The first twelve paths' rows. -/
theorem Ve_v4 (b : Fin 12) (s : Fin 1024) (e : Fin 128) :
    bv (Ve m d) main_v4 (ValueIdx.ix3 b s e) = Ref.rowAt (toks m d) (ag m d main_arg1) ⟨b.val, by omega⟩ s.val e.val := by
  rw [Ve_keep m d main_v4 (by decide), Vd_keep m d main_v4 (by decide), Vc_v4_eq, Vb_self]
  have hk : b.val * 1024 + s.val < 12288 := by omega
  refine (shapeCast_apply (s := S12288x128) (t := S12x1024x128) _ _ (ValueIdx.ix3 b s e) (ValueIdx.ix2 ⟨b.val * 1024 + s.val, hk⟩ e)
    (by rw [Shape.rowMajor_val_two, Shape.rowMajor_val_three]; simp; try ring)).trans ?_
  show gathered (n := 12288) (bv (Va m d) main_arg1) (bv (Va m d) main_v2) _ = _
  rw [Va_keep m d main_arg1 (by decide)]
  refine gathered_row m d _ _ ⟨b.val, by omega⟩ s e ((Va_v2 m d _).trans ?_)
  unfold tokAt
  refine congrArg (toks m d) (funext fun a => ?_)
  match a with
  | 0 => exact Fin.ext (by show (b.val * 1024 + s.val) % 1024 = s.val; omega)
  | 1 => exact Fin.ext (by show (b.val * 1024 + s.val) / 1024 = b.val; omega)

/-- The last four paths' rows. -/
theorem Ve_v7 (b : Fin 4) (s : Fin 1024) (e : Fin 128) :
    bv (Ve m d) main_v7 (ValueIdx.ix3 b s e) = Ref.rowAt (toks m d) (ag m d main_arg1) ⟨12 + b.val, by omega⟩ s.val e.val := by
  rw [Ve_v7_eq, Vd_self]
  have hk : b.val * 1024 + s.val < 4096 := by omega
  refine (shapeCast_apply (s := S4096x128) (t := S4x1024x128) _ _ (ValueIdx.ix3 b s e) (ValueIdx.ix2 ⟨b.val * 1024 + s.val, hk⟩ e)
    (by rw [Shape.rowMajor_val_two, Shape.rowMajor_val_three]; simp; try ring)).trans ?_
  show gathered (n := 4096) (bv (Vc m d) main_arg1) (bv (Vc m d) main_v5) _ = _
  rw [Vc_keep m d main_arg1 (by decide), Vb_keep m d main_arg1 (by decide), Va_keep m d main_arg1 (by decide)]
  refine gathered_row m d _ _ ⟨12 + b.val, by omega⟩ s e ((Vc_v5 m d _).trans ?_)
  unfold tokAt
  refine congrArg (toks m d) (funext fun a => ?_)
  match a with
  | 0 => exact Fin.ext (by show (12288 + (b.val * 1024 + s.val)) % 1024 = s.val; omega)
  | 1 => exact Fin.ext (by show (12288 + (b.val * 1024 + s.val)) / 1024 = 12 + b.val; omega)

/-! ## The filters and the biases -/

/-- A filter laid out with its taps and channels in one axis, times eight. -/
theorem taps_apply {n : ℕ} [NeZero n] (w : FVec Ideal ⟨4, ![256, 1, 128, n]⟩ .f32) (h1 : (⟨4, ![256, 1, 128, n]⟩ : Shape).ShapeCasts ⟨3, ![256, 128, n]⟩)
    (h2 : (⟨3, ![256, 128, n]⟩ : Shape).Transposes [2, 1, 0] ⟨3, ![n, 128, 256]⟩) {M : ℕ} (hM : M = n * 128)
    (h3 : (⟨3, ![n, 128, 256]⟩ : Shape).ShapeCasts ⟨2, ![M, 256]⟩) (k : Fin M) (c : Fin 256) :
    shapeCast ⟨2, ![M, 256]⟩ (transpose ⟨3, ![n, 128, 256]⟩ [2, 1, 0] (shapeCast ⟨3, ![256, 128, n]⟩ w h1) h2) h3 (ValueIdx.ix2 k c)
      = Ref.flt w c (k.val / 128) (k.val % 128) := by
  have hk := k.isLt
  have hd : k.val / 128 < n := by omega
  refine (shapeCast_apply (s := ⟨3, ![n, 128, 256]⟩) (t := ⟨2, ![M, 256]⟩) _ _ (ValueIdx.ix2 k c)
    (ValueIdx.ix3 ⟨k.val / 128, hd⟩ ⟨k.val % 128, Nat.mod_lt _ (by decide)⟩ c)
    (by rw [Shape.rowMajor_val_two, Shape.rowMajor_val_three]; show (k.val / 128 * 128 + k.val % 128) * 256 + c.val = k.val * 256 + c.val; omega)).trans ?_
  have ht : transpose ⟨3, ![n, 128, 256]⟩ [2, 1, 0] (shapeCast ⟨3, ![256, 128, n]⟩ w h1) h2
      (ValueIdx.ix3 ⟨k.val / 128, hd⟩ ⟨k.val % 128, Nat.mod_lt _ (by decide)⟩ c)
      = shapeCast ⟨3, ![256, 128, n]⟩ w h1 (ValueIdx.ix3 c ⟨k.val % 128, Nat.mod_lt _ (by decide)⟩ ⟨k.val / 128, hd⟩) := by
    refine congrArg (shapeCast ⟨3, ![256, 128, n]⟩ w h1) (funext fun a => ?_)
    match a with
    | 0 => rfl
    | 1 => rfl
    | 2 => rfl
  refine ht.trans ?_
  refine (shapeCast_apply (s := ⟨4, ![256, 1, 128, n]⟩) (t := ⟨3, ![256, 128, n]⟩) _ _ _
    (ValueIdx.ix4 c 0 ⟨k.val % 128, Nat.mod_lt _ (by decide)⟩ ⟨k.val / 128, hd⟩)
    (by
      rw [Shape.rowMajor_val_three, Shape.rowMajor_val_four]
      show ((c.val * 1 + 0) * 128 + k.val % 128) * n + k.val / 128 = (c.val * 128 + k.val % 128) * n + k.val / 128
      rw [Nat.mul_one, Nat.add_zero])).trans ?_
  exact (Ref.flt_val w c ⟨k.val / 128, hd⟩ ⟨k.val % 128, Nat.mod_lt _ (by decide)⟩).symm

/-- The widest filter, times eight, -/
theorem Ve_v13 (k : Fin 640) (c : Fin 256) :
    bv (Ve m d) main_v13 (ValueIdx.ix2 k c) = Ref.flt (n := 5) (ag m d main_arg2) c (k.val / 128) (k.val % 128) * ((8 : ℝ) : EReal) := by
  have e : bv (Ve m d) main_v13 = Host.convertf (F := Ideal) .fp8e4m3 (mulf (shapeCast S640x256 (transpose S5x128x256 [2, 1, 0]
      (shapeCast S256x128x5 (bv (Vd m d) main_arg2) shapeCasts_S256x1x128x5_S256x128x5) transposes_S256x128x5_S5x128x256_2_1_0) shapeCasts_S5x128x256_S640x256)
      (broadcastInDim S640x256 ![] bcast_S_S640x256 (constant S_ .f32 0x41000000#32))) := by
    unfold Ve bv; after_results; rfl
  rw [e, Vd_ag m d main_arg2 (by decide) (by decide) (by decide) (by decide), ← bits_eight]
  exact congrArg (· * Ideal.ofBits .f32 0x41000000#32) (taps_apply (n := 5) (ag m d main_arg2) shapeCasts_S256x1x128x5_S256x128x5 transposes_S256x128x5_S5x128x256_2_1_0 rfl
    shapeCasts_S5x128x256_S640x256 k c)

/-- the middle one, -/
theorem Ve_v19 (k : Fin 512) (c : Fin 256) :
    bv (Ve m d) main_v19 (ValueIdx.ix2 k c) = Ref.flt (n := 4) (ag m d main_arg4) c (k.val / 128) (k.val % 128) * ((8 : ℝ) : EReal) := by
  have e : bv (Ve m d) main_v19 = Host.convertf (F := Ideal) .fp8e4m3 (mulf (shapeCast S512x256 (transpose S4x128x256 [2, 1, 0]
      (shapeCast S256x128x4 (bv (Vd m d) main_arg4) shapeCasts_S256x1x128x4_S256x128x4) transposes_S256x128x4_S4x128x256_2_1_0) shapeCasts_S4x128x256_S512x256)
      (broadcastInDim S512x256 ![] bcast_S_S512x256 (constant S_ .f32 0x41000000#32))) := by
    unfold Ve bv; after_results; rfl
  rw [e, Vd_ag m d main_arg4 (by decide) (by decide) (by decide) (by decide), ← bits_eight]
  exact congrArg (· * Ideal.ofBits .f32 0x41000000#32) (taps_apply (n := 4) (ag m d main_arg4) shapeCasts_S256x1x128x4_S256x128x4 transposes_S256x128x4_S4x128x256_2_1_0 rfl
    shapeCasts_S4x128x256_S512x256 k c)

/-- and the narrowest. -/
theorem Ve_v25 (k : Fin 384) (c : Fin 256) :
    bv (Ve m d) main_v25 (ValueIdx.ix2 k c) = Ref.flt (n := 3) (ag m d main_arg6) c (k.val / 128) (k.val % 128) * ((8 : ℝ) : EReal) := by
  have e : bv (Ve m d) main_v25 = Host.convertf (F := Ideal) .fp8e4m3 (mulf (shapeCast S384x256 (transpose S3x128x256 [2, 1, 0]
      (shapeCast S256x128x3 (bv (Vd m d) main_arg6) shapeCasts_S256x1x128x3_S256x128x3) transposes_S256x128x3_S3x128x256_2_1_0) shapeCasts_S3x128x256_S384x256)
      (broadcastInDim S384x256 ![] bcast_S_S384x256 (constant S_ .f32 0x41000000#32))) := by
    unfold Ve bv; after_results; rfl
  rw [e, Vd_ag m d main_arg6 (by decide) (by decide) (by decide) (by decide), ← bits_eight]
  exact congrArg (· * Ideal.ofBits .f32 0x41000000#32) (taps_apply (n := 3) (ag m d main_arg6) shapeCasts_S256x1x128x3_S256x128x3 transposes_S256x128x3_S3x128x256_2_1_0 rfl
    shapeCasts_S3x128x256_S384x256 k c)

/-- The three biases in one row. -/
theorem Ve_v27_eq : bv (Ve m d) main_v27 = shapeCast S1x768 (concatenate S768 0 [⟨S256, ag m d main_arg3⟩, ⟨S256, ag m d main_arg5⟩, ⟨S256, ag m d main_arg7⟩]
    concatenates_S256_S256_S256_S768_d0) shapeCasts_S768_S1x768 := by
  rw [← Vd_ag m d main_arg3 (by decide) (by decide) (by decide) (by decide), ← Vd_ag m d main_arg5 (by decide) (by decide) (by decide) (by decide),
    ← Vd_ag m d main_arg7 (by decide) (by decide) (by decide) (by decide)]
  unfold Ve bv; after_results; rfl

/-- A vector as one row, read. -/
theorem bias_row (x : FVec Ideal S768 .f32) (k : Fin 768) : shapeCast S1x768 x shapeCasts_S768_S1x768 (ValueIdx.ix2 0 k) = x (ValueIdx.ix1 k) :=
  shapeCast_apply (s := S768) (t := S1x768) _ _ _ _ (by rw [Shape.rowMajor_val_two, Shape.rowMajor_val_one]; simp)

/-- The bias of the widest filter, -/
theorem Ve_v27_five (c : Fin 256) : bv (Ve m d) main_v27 (ValueIdx.ix2 0 ⟨c.val, by omega⟩) = ag m d main_arg3 (ValueIdx.ix1 c) := by
  rw [Ve_v27_eq]
  refine (bias_row _ _).trans ?_
  exact concatenate_apply_piece (t := S768) 0 [⟨S256, ag m d main_arg3⟩, ⟨S256, ag m d main_arg5⟩, ⟨S256, ag m d main_arg7⟩] concatenates_S256_S256_S256_S768_d0 _ 0 (by simp) S256 (ag m d main_arg3) rfl rfl 0 rfl (ValueIdx.ix1 c)
    (fun b hb => by match b with | 0 => exact absurd rfl hb) (Nat.zero_add _)

/-- of the middle one, -/
theorem Ve_v27_four (c : Fin 256) : bv (Ve m d) main_v27 (ValueIdx.ix2 0 ⟨256 + c.val, by omega⟩) = ag m d main_arg5 (ValueIdx.ix1 c) := by
  rw [Ve_v27_eq]
  refine (bias_row _ _).trans ?_
  exact concatenate_apply_piece (t := S768) 0 [⟨S256, ag m d main_arg3⟩, ⟨S256, ag m d main_arg5⟩, ⟨S256, ag m d main_arg7⟩] concatenates_S256_S256_S256_S768_d0 _ 1 (by simp) S256 (ag m d main_arg5) rfl rfl 256 rfl (ValueIdx.ix1 c)
    (fun b hb => by match b with | 0 => exact absurd rfl hb) rfl

/-- and of the narrowest. -/
theorem Ve_v27_three (c : Fin 256) : bv (Ve m d) main_v27 (ValueIdx.ix2 0 ⟨512 + c.val, by omega⟩) = ag m d main_arg7 (ValueIdx.ix1 c) := by
  rw [Ve_v27_eq]
  refine (bias_row _ _).trans ?_
  exact concatenate_apply_piece (t := S768) 0 [⟨S256, ag m d main_arg3⟩, ⟨S256, ag m d main_arg5⟩, ⟨S256, ag m d main_arg7⟩] concatenates_S256_S256_S256_S768_d0 _ 2 (by simp) S256 (ag m d main_arg7) rfl rfl 512 rfl (ValueIdx.ix1 c)
    (fun b hb => by match b with | 0 => exact absurd rfl hb) rfl

/-! ## The recurrence's weights -/

/-- The forward input weights, transposed, -/
theorem Vg_v30 : bv (Vg m d) main_v30 = truncf (F := Ideal) .bf16 (transpose S256x1024 [1, 0] (ag m d main_arg8) transposes_S1024x256_S256x1024_1_0) bitsLt_bf16_f32 := by
  rw [← Vf_ag m d main_arg8 (by decide) (by decide) (by decide) (by decide) (by decide) (by decide)]; unfold Vg bv; after_results
/-- the forward recurrent weights, -/
theorem Vg_v32 : bv (Vg m d) main_v32 = truncf (F := Ideal) .bf16 (transpose S256x1024 [1, 0] (ag m d main_arg9) transposes_S1024x256_S256x1024_1_0) bitsLt_bf16_f32 := by
  rw [← Vf_ag m d main_arg9 (by decide) (by decide) (by decide) (by decide) (by decide) (by decide)]; unfold Vg bv; after_results
/-- the backward input weights, -/
theorem Vg_v36 : bv (Vg m d) main_v36 = truncf (F := Ideal) .bf16 (transpose S256x1024 [1, 0] (ag m d main_arg12) transposes_S1024x256_S256x1024_1_0) bitsLt_bf16_f32 := by
  rw [← Vf_ag m d main_arg12 (by decide) (by decide) (by decide) (by decide) (by decide) (by decide)]; unfold Vg bv; after_results
/-- the classifier's weights, -/
theorem Vg_v40 : bv (Vg m d) main_v40 = truncf (F := Ideal) .bf16 (transpose S512x20 [1, 0] (ag m d main_arg16) transposes_S20x512_S512x20_1_0) bitsLt_bf16_f32 := by
  rw [← Vf_ag m d main_arg16 (by decide) (by decide) (by decide) (by decide) (by decide) (by decide)]; unfold Vg bv; after_results
/-- the sum of the forward biases, -/
theorem Vg_v34 : bv (Vg m d) main_v34 = shapeCast S1x1024 (addf (F := Ideal) (s := S1024) (φ := .f32) (ag m d main_arg10) (ag m d main_arg11)) shapeCasts_S1024_S1x1024 := by
  rw [← Vf_ag m d main_arg10 (by decide) (by decide) (by decide) (by decide) (by decide) (by decide),
    ← Vf_ag m d main_arg11 (by decide) (by decide) (by decide) (by decide) (by decide) (by decide)]; unfold Vg bv; after_results; rfl
/-- the sum of the backward biases, -/
theorem Vg_v38 : bv (Vg m d) main_v38 = shapeCast S1x1024 (addf (F := Ideal) (s := S1024) (φ := .f32) (ag m d main_arg14) (ag m d main_arg15)) shapeCasts_S1024_S1x1024 := by
  rw [← Vf_ag m d main_arg14 (by decide) (by decide) (by decide) (by decide) (by decide) (by decide),
    ← Vf_ag m d main_arg15 (by decide) (by decide) (by decide) (by decide) (by decide) (by decide)]; unfold Vg bv; after_results; rfl
/-- and the classifier's bias. -/
theorem Vg_v41 : bv (Vg m d) main_v41 = shapeCast S1x20 (ag m d main_arg17) shapeCasts_S20_S1x20 := by
  rw [← Vf_ag m d main_arg17 (by decide) (by decide) (by decide) (by decide) (by decide) (by decide)]; unfold Vg bv; after_results; rfl

end Cert.Proof.Sc

end
-- ==== Proof.ValueRun.lean ====
/-
  What the two pallas_calls leave: the features of the first twelve paths, and the class scores, which are the reference's.
-/
module

public import proofs.«01_k».proof.Proof.ValueArr
public import Idealize.ShloMosaic.Lib.Pipeline.ValueKit

@[expose] public section

set_option maxRecDepth 16384

noncomputable section

namespace Cert.Proof.Sc

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (d : Dev nD)

/-- The three features of a path: the pooled scores of the filters of widths five, four and three over its rows. -/
def ftr (r : Fin 16) (j : Fin 3) (c : Fin 256) : EReal :=
  match j with
  | 0 => feat 5 1020 (Ref.rowAt (toks m d) (ag m d main_arg1) r) (Ref.flt (n := 5) (ag m d main_arg2) c) (ag m d main_arg3 (ValueIdx.ix1 c))
  | 1 => feat 4 1021 (Ref.rowAt (toks m d) (ag m d main_arg1) r) (Ref.flt (n := 4) (ag m d main_arg4) c) (ag m d main_arg5 (ValueIdx.ix1 c))
  | 2 => feat 3 1022 (Ref.rowAt (toks m d) (ag m d main_arg1) r) (Ref.flt (n := 3) (ag m d main_arg6) c) (ag m d main_arg7 (ValueIdx.ix1 c))

/-- The convolution's body on rows of four paths gives these paths' features. -/
theorem convOut_ftr (v0 : FVec Ideal S4x1024x128 .f32) (w5 : FVec Ideal S640x256 .fp8e4m3) (w4 : FVec Ideal S512x256 .fp8e4m3) (w3 : FVec Ideal S384x256 .fp8e4m3)
    (b : FVec Ideal S1x768 .f32) (h5 : w5 = bv (Ve m d) main_v13) (h4 : w4 = bv (Ve m d) main_v19) (h3 : w3 = bv (Ve m d) main_v25) (hb : b = bv (Ve m d) main_v27)
    (ρ : Fin 4 → Fin 16) (hE : ∀ q (s : Fin 1024) (e : Fin 128), v0 (ValueIdx.ix3 q s e) = Ref.rowAt (toks m d) (ag m d main_arg1) (ρ q) s.val e.val)
    (q : Fin 4) (j : Fin 3) (c : Fin 256) : convOut (F := Ideal) w5 w4 w3 b v0 (ValueIdx.ix3 q j c) = ftr m d (ρ q) j c := by
  subst h5 h4 h3 hb
  match j with
  | 0 =>
    refine (convOut_five v0 _ _ _ _ (fun q => Ref.rowAt (toks m d) (ag m d main_arg1) (ρ q)) hE (Ref.flt (n := 5) (ag m d main_arg2)) (Ve_v13 m d) q c).trans ?_
    rw [Ve_v27_five m d c]; rfl
  | 1 =>
    refine (convOut_four v0 _ _ _ _ (fun q => Ref.rowAt (toks m d) (ag m d main_arg1) (ρ q)) hE (Ref.flt (n := 4) (ag m d main_arg4)) (Ve_v19 m d) q c).trans ?_
    rw [Ve_v27_four m d c]; rfl
  | 2 =>
    refine (convOut_three v0 _ _ _ _ (fun q => Ref.rowAt (toks m d) (ag m d main_arg1) (ρ q)) hE (Ref.flt (n := 3) (ag m d main_arg6)) (Ve_v25 m d) q c).trans ?_
    rw [Ve_v27_three m d c]; rfl

/-! ## The first pallas_call -/

/-- Where window 0 of the first pallas_call stands at a grid point. -/
theorem ix2_0 : ∀ t : Fin cfg2.N, win2_0.index t = ![t.val, 0, 0] := (by decide +kernel : ∀ t : Fin grid2.N, _)
/-- Where window 1 of the first pallas_call stands at a grid point. -/
theorem ix2_1 : ∀ t : Fin cfg2.N, win2_1.index t = ![0, 0] := (by decide +kernel : ∀ t : Fin grid2.N, _)
/-- Where window 2 of the first pallas_call stands at a grid point. -/
theorem ix2_2 : ∀ t : Fin cfg2.N, win2_2.index t = ![0, 0] := (by decide +kernel : ∀ t : Fin grid2.N, _)
/-- Where window 3 of the first pallas_call stands at a grid point. -/
theorem ix2_3 : ∀ t : Fin cfg2.N, win2_3.index t = ![0, 0] := (by decide +kernel : ∀ t : Fin grid2.N, _)
/-- Where window 4 of the first pallas_call stands at a grid point. -/
theorem ix2_4 : ∀ t : Fin cfg2.N, win2_4.index t = ![0, 0] := (by decide +kernel : ∀ t : Fin grid2.N, _)
/-- Where window 5 of the first pallas_call stands at a grid point. -/
theorem ix2_5 : ∀ t : Fin cfg2.N, win2_5.index t = ![t.val, 0, 0] := (by decide +kernel : ∀ t : Fin grid2.N, _)

section
variable (W : Valuation τ sig (Elt Ideal))

/-! A window that is its whole array reads the array. -/

/-- Window 1 of the first pallas_call is its whole array. -/
theorem whole2_1 (t : Fin cfg2.N) : blk2_1 W t = bv W main_v13 := by
  funext x
  show bv W main_v13 (((cfg2.win 1).blk t).view.emb x) = bv W main_v13 x
  refine congrArg (bv W main_v13) (funext fun a => ?_)
  match a with
  | 0 => refine Fin.ext ?_; blk_simp [ix2_1]
  | 1 => refine Fin.ext ?_; blk_simp [ix2_1]
/-- Window 2 of the first pallas_call is its whole array. -/
theorem whole2_2 (t : Fin cfg2.N) : blk2_2 W t = bv W main_v19 := by
  funext x
  show bv W main_v19 (((cfg2.win 2).blk t).view.emb x) = bv W main_v19 x
  refine congrArg (bv W main_v19) (funext fun a => ?_)
  match a with
  | 0 => refine Fin.ext ?_; blk_simp [ix2_2]
  | 1 => refine Fin.ext ?_; blk_simp [ix2_2]
/-- Window 3 of the first pallas_call is its whole array. -/
theorem whole2_3 (t : Fin cfg2.N) : blk2_3 W t = bv W main_v25 := by
  funext x
  show bv W main_v25 (((cfg2.win 3).blk t).view.emb x) = bv W main_v25 x
  refine congrArg (bv W main_v25) (funext fun a => ?_)
  match a with
  | 0 => refine Fin.ext ?_; blk_simp [ix2_3]
  | 1 => refine Fin.ext ?_; blk_simp [ix2_3]
/-- Window 4 of the first pallas_call is its whole array. -/
theorem whole2_4 (t : Fin cfg2.N) : blk2_4 W t = bv W main_v27 := by
  funext x
  show bv W main_v27 (((cfg2.win 4).blk t).view.emb x) = bv W main_v27 x
  refine congrArg (bv W main_v27) (funext fun a => ?_)
  match a with
  | 0 => refine Fin.ext ?_; blk_simp [ix2_4]
  | 1 => refine Fin.ext ?_; blk_simp [ix2_4]
end

/-! ## The second pallas_call's windows -/

/-- Where window 0 of the second pallas_call stands at a grid point. -/
theorem ix3_0 : ∀ t : Fin cfg3.N, win3_0.index t = ![0, 0, 0] := (by decide +kernel : ∀ t : Fin grid3.N, _)
/-- Where window 1 of the second pallas_call stands at a grid point. -/
theorem ix3_1 : ∀ t : Fin cfg3.N, win3_1.index t = ![0, 0] := (by decide +kernel : ∀ t : Fin grid3.N, _)
/-- Where window 2 of the second pallas_call stands at a grid point. -/
theorem ix3_2 : ∀ t : Fin cfg3.N, win3_2.index t = ![0, 0] := (by decide +kernel : ∀ t : Fin grid3.N, _)
/-- Where window 3 of the second pallas_call stands at a grid point. -/
theorem ix3_3 : ∀ t : Fin cfg3.N, win3_3.index t = ![0, 0] := (by decide +kernel : ∀ t : Fin grid3.N, _)
/-- Where window 4 of the second pallas_call stands at a grid point. -/
theorem ix3_4 : ∀ t : Fin cfg3.N, win3_4.index t = ![0, 0] := (by decide +kernel : ∀ t : Fin grid3.N, _)
/-- Where window 5 of the second pallas_call stands at a grid point. -/
theorem ix3_5 : ∀ t : Fin cfg3.N, win3_5.index t = ![0, 0, 0] := (by decide +kernel : ∀ t : Fin grid3.N, _)
/-- Where window 6 of the second pallas_call stands at a grid point. -/
theorem ix3_6 : ∀ t : Fin cfg3.N, win3_6.index t = ![0, 0] := (by decide +kernel : ∀ t : Fin grid3.N, _)
/-- Where window 7 of the second pallas_call stands at a grid point. -/
theorem ix3_7 : ∀ t : Fin cfg3.N, win3_7.index t = ![0, 0] := (by decide +kernel : ∀ t : Fin grid3.N, _)
/-- Where window 8 of the second pallas_call stands at a grid point. -/
theorem ix3_8 : ∀ t : Fin cfg3.N, win3_8.index t = ![0, 0] := (by decide +kernel : ∀ t : Fin grid3.N, _)
/-- Where window 9 of the second pallas_call stands at a grid point. -/
theorem ix3_9 : ∀ t : Fin cfg3.N, win3_9.index t = ![0, 0] := (by decide +kernel : ∀ t : Fin grid3.N, _)
/-- Where window 10 of the second pallas_call stands at a grid point. -/
theorem ix3_10 : ∀ t : Fin cfg3.N, win3_10.index t = ![0, 0] := (by decide +kernel : ∀ t : Fin grid3.N, _)
/-- Where window 11 of the second pallas_call stands at a grid point. -/
theorem ix3_11 : ∀ t : Fin cfg3.N, win3_11.index t = ![0, 0] := (by decide +kernel : ∀ t : Fin grid3.N, _)
/-- Where window 12 of the second pallas_call stands at a grid point. -/
theorem ix3_12 : ∀ t : Fin cfg3.N, win3_12.index t = ![0, 0] := (by decide +kernel : ∀ t : Fin grid3.N, _)

section
variable (W : Valuation τ sig (Elt Ideal))

/-- Window 0 of the second pallas_call is its whole array. -/
theorem whole3_0 (t : Fin cfg3.N) : blk3_0 W t = bv W main_v7 := by
  funext x
  show bv W main_v7 (((cfg3.win 0).blk t).view.emb x) = bv W main_v7 x
  refine congrArg (bv W main_v7) (funext fun a => ?_)
  match a with
  | 0 => refine Fin.ext ?_; blk_simp [ix3_0]
  | 1 => refine Fin.ext ?_; blk_simp [ix3_0]
  | 2 => refine Fin.ext ?_; blk_simp [ix3_0]
/-- Window 1 of the second pallas_call is its whole array. -/
theorem whole3_1 (t : Fin cfg3.N) : blk3_1 W t = bv W main_v13 := by
  funext x
  show bv W main_v13 (((cfg3.win 1).blk t).view.emb x) = bv W main_v13 x
  refine congrArg (bv W main_v13) (funext fun a => ?_)
  match a with
  | 0 => refine Fin.ext ?_; blk_simp [ix3_1]
  | 1 => refine Fin.ext ?_; blk_simp [ix3_1]
/-- Window 2 of the second pallas_call is its whole array. -/
theorem whole3_2 (t : Fin cfg3.N) : blk3_2 W t = bv W main_v19 := by
  funext x
  show bv W main_v19 (((cfg3.win 2).blk t).view.emb x) = bv W main_v19 x
  refine congrArg (bv W main_v19) (funext fun a => ?_)
  match a with
  | 0 => refine Fin.ext ?_; blk_simp [ix3_2]
  | 1 => refine Fin.ext ?_; blk_simp [ix3_2]
/-- Window 3 of the second pallas_call is its whole array. -/
theorem whole3_3 (t : Fin cfg3.N) : blk3_3 W t = bv W main_v25 := by
  funext x
  show bv W main_v25 (((cfg3.win 3).blk t).view.emb x) = bv W main_v25 x
  refine congrArg (bv W main_v25) (funext fun a => ?_)
  match a with
  | 0 => refine Fin.ext ?_; blk_simp [ix3_3]
  | 1 => refine Fin.ext ?_; blk_simp [ix3_3]
/-- Window 4 of the second pallas_call is its whole array. -/
theorem whole3_4 (t : Fin cfg3.N) : blk3_4 W t = bv W main_v27 := by
  funext x
  show bv W main_v27 (((cfg3.win 4).blk t).view.emb x) = bv W main_v27 x
  refine congrArg (bv W main_v27) (funext fun a => ?_)
  match a with
  | 0 => refine Fin.ext ?_; blk_simp [ix3_4]
  | 1 => refine Fin.ext ?_; blk_simp [ix3_4]
/-- Window 5 of the second pallas_call is its whole array. -/
theorem whole3_5 (t : Fin cfg3.N) : blk3_5 W t = bv W main_v28 := by
  funext x
  show bv W main_v28 (((cfg3.win 5).blk t).view.emb x) = bv W main_v28 x
  refine congrArg (bv W main_v28) (funext fun a => ?_)
  match a with
  | 0 => refine Fin.ext ?_; blk_simp [ix3_5]
  | 1 => refine Fin.ext ?_; blk_simp [ix3_5]
  | 2 => refine Fin.ext ?_; blk_simp [ix3_5]
/-- Window 6 of the second pallas_call is its whole array. -/
theorem whole3_6 (t : Fin cfg3.N) : blk3_6 W t = bv W main_v30 := by
  funext x
  show bv W main_v30 (((cfg3.win 6).blk t).view.emb x) = bv W main_v30 x
  refine congrArg (bv W main_v30) (funext fun a => ?_)
  match a with
  | 0 => refine Fin.ext ?_; blk_simp [ix3_6]
  | 1 => refine Fin.ext ?_; blk_simp [ix3_6]
/-- Window 7 of the second pallas_call is its whole array. -/
theorem whole3_7 (t : Fin cfg3.N) : blk3_7 W t = bv W main_v32 := by
  funext x
  show bv W main_v32 (((cfg3.win 7).blk t).view.emb x) = bv W main_v32 x
  refine congrArg (bv W main_v32) (funext fun a => ?_)
  match a with
  | 0 => refine Fin.ext ?_; blk_simp [ix3_7]
  | 1 => refine Fin.ext ?_; blk_simp [ix3_7]
/-- Window 8 of the second pallas_call is its whole array. -/
theorem whole3_8 (t : Fin cfg3.N) : blk3_8 W t = bv W main_v34 := by
  funext x
  show bv W main_v34 (((cfg3.win 8).blk t).view.emb x) = bv W main_v34 x
  refine congrArg (bv W main_v34) (funext fun a => ?_)
  match a with
  | 0 => refine Fin.ext ?_; blk_simp [ix3_8]
  | 1 => refine Fin.ext ?_; blk_simp [ix3_8]
/-- Window 9 of the second pallas_call is its whole array. -/
theorem whole3_9 (t : Fin cfg3.N) : blk3_9 W t = bv W main_v36 := by
  funext x
  show bv W main_v36 (((cfg3.win 9).blk t).view.emb x) = bv W main_v36 x
  refine congrArg (bv W main_v36) (funext fun a => ?_)
  match a with
  | 0 => refine Fin.ext ?_; blk_simp [ix3_9]
  | 1 => refine Fin.ext ?_; blk_simp [ix3_9]
/-- Window 10 of the second pallas_call is its whole array. -/
theorem whole3_10 (t : Fin cfg3.N) : blk3_10 W t = bv W main_v38 := by
  funext x
  show bv W main_v38 (((cfg3.win 10).blk t).view.emb x) = bv W main_v38 x
  refine congrArg (bv W main_v38) (funext fun a => ?_)
  match a with
  | 0 => refine Fin.ext ?_; blk_simp [ix3_10]
  | 1 => refine Fin.ext ?_; blk_simp [ix3_10]
/-- Window 11 of the second pallas_call is its whole array. -/
theorem whole3_11 (t : Fin cfg3.N) : blk3_11 W t = bv W main_v40 := by
  funext x
  show bv W main_v40 (((cfg3.win 11).blk t).view.emb x) = bv W main_v40 x
  refine congrArg (bv W main_v40) (funext fun a => ?_)
  match a with
  | 0 => refine Fin.ext ?_; blk_simp [ix3_11]
  | 1 => refine Fin.ext ?_; blk_simp [ix3_11]
/-- Window 12 of the second pallas_call is its whole array. -/
theorem whole3_12 (t : Fin cfg3.N) : blk3_12 W t = bv W main_v41 := by
  funext x
  show bv W main_v41 (((cfg3.win 12).blk t).view.emb x) = bv W main_v41 x
  refine congrArg (bv W main_v41) (funext fun a => ?_)
  match a with
  | 0 => refine Fin.ext ?_; blk_simp [ix3_12]
  | 1 => refine Fin.ext ?_; blk_simp [ix3_12]
end

/-- The first pallas_call leaves the features of the first twelve paths, four at a grid point. -/
theorem v28_eq : bv (Vf m d) main_v28 = fun i : S12x3x256.Idx => ftr m d ⟨(i 0).val, by have := (i 0).isLt; simp at this; omega⟩ (i 1) (i 2) := by
  refine (out2_self (Ve m d) d).trans ?_
  refine (dat2 (Ve m d) d).arrAt_eq_of_covers 5 _ (by decide +kernel) fun t hf y => ?_
  blk_simp
  have ht : t.val < 3 := lt_of_lt_of_eq t.isLt N_2
  have hq : ∀ (q : Fin 4) (s : Fin 1024) (e : Fin 128), blk2_0 (Ve m d) t (ValueIdx.ix3 q s e)
      = Ref.rowAt (toks m d) (ag m d main_arg1) ⟨t.val * 4 + q.val, by omega⟩ s.val e.val := by
    intro q s e
    refine Eq.trans ?_ (Ve_v4 m d ⟨t.val * 4 + q.val, by omega⟩ s e)
    refine congrArg (bv (Ve m d) main_v4) (funext fun a => ?_)
    match a with
    | 0 => refine Fin.ext ?_; blk_simp [ix2_0]; rfl
    | 1 => refine Fin.ext ?_; blk_simp [ix2_0]; rfl
    | 2 => refine Fin.ext ?_; blk_simp [ix2_0]; rfl
  have e := convOut_ftr m d (blk2_0 (Ve m d) t) (blk2_1 (Ve m d) t) (blk2_2 (Ve m d) t) (blk2_3 (Ve m d) t) (blk2_4 (Ve m d) t)
    (whole2_1 _ t) (whole2_2 _ t) (whole2_3 _ t) (whole2_4 _ t) (fun q => ⟨t.val * 4 + q.val, by omega⟩) hq
  have ey : y = ValueIdx.ix3 (y 0) (y 1) (y 2) := by
    funext a
    match a with
    | 0 => rfl
    | 1 => rfl
    | 2 => rfl
  refine (congrArg (res2 (Ve m d) t) ey).trans ((e (y 0) (y 1) (y 2)).trans ?_)
  congr 1
  · refine Fin.ext ?_; show t.val * 4 + (y 0).val = win2_5.index t 0 * 4 + (y 0).val; rw [ix2_5]; rfl
  · refine Fin.ext ?_; blk_simp [ix2_5]
  · refine Fin.ext ?_; blk_simp [ix2_5]

end Cert.Proof.Sc

end
-- ==== Proof.Value.lean ====
/-
  The value: the class scores the kernel leaves are the reference's, under the precondition.
-/
module

public import proofs.«01_k».proof.Proof.ValueRun
public import proofs.«01_k».proof.Defs

@[expose] public section

set_option maxRecDepth 16384

noncomputable section

namespace Cert.Proof.Sc

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (d : Dev nD)

/-- An array of the first region entering the second. -/
theorem Vg_Ve (r : Ref sig .tc) (h : r ≠ main_v28) (g : r ∉ hops3_W) : bv (Vg m d) r = bv (Ve m d) r := by
  rw [Vg_keep m d r g, Vf_keep m d r h]

/-- The features of the last four paths, as the second body computes them. -/
def hiPart : FVec Ideal S4x3x256 .f32 :=
  convOut (F := Ideal) (bv (Vg m d) main_v13) (bv (Vg m d) main_v19) (bv (Vg m d) main_v25) (bv (Vg m d) main_v27) (bv (Vg m d) main_v7)

/-- They are the features of paths twelve to fifteen. -/
theorem hiPart_apply (q : Fin 4) (j : Fin 3) (c : Fin 256) : hiPart m d (ValueIdx.ix3 q j c) = ftr m d ⟨12 + q.val, by omega⟩ j c := by
  refine convOut_ftr m d _ _ _ _ _ (Vg_Ve m d main_v13 (by decide) (by decide)) (Vg_Ve m d main_v19 (by decide) (by decide))
    (Vg_Ve m d main_v25 (by decide) (by decide)) (Vg_Ve m d main_v27 (by decide) (by decide)) (fun q => ⟨12 + q.val, by omega⟩) ?_ q j c
  intro q s e
  rw [Vg_Ve m d main_v7 (by decide) (by decide)]
  exact Ve_v7 m d q s e

/-- The features of the first twelve paths, as the second body reads them. -/
theorem loPart_apply (r : Fin 12) (j : Fin 3) (c : Fin 256) : bv (Vg m d) main_v28 (ValueIdx.ix3 r j c) = ftr m d ⟨r.val, by omega⟩ j c := by
  rw [Vg_keep m d main_v28 (by decide), v28_eq]

/-- All paths' features at one step. -/
theorem stack_ftr (j : Fin 3) (i12 : ∀ a, (![0, j.val, 0] : Fin 3 → ℕ) a + S12x1x256.size a ≤ S12x3x256.size a)
    (i4 : ∀ a, (![0, j.val, 0] : Fin 3 → ℕ) a + S4x1x256.size a ≤ S4x3x256.size a) (r : Fin 16) (c : Fin 256) :
    stack (step12 (bv (Vg m d) main_v28) j.val i12) (step4 (F := Ideal) (hiPart m d) j.val i4) (ValueIdx.ix2 r c) = ftr m d r j c := by
  by_cases h : r.val < 12
  · refine (stack_lo _ _ r c h).trans (Eq.trans ?_ (loPart_apply m d ⟨r.val, h⟩ j c))
    refine congrArg (bv (Vg m d) main_v28) (funext fun a => ?_)
    match a with
    | 0 => exact Fin.ext (by show 0 + 1 * r.val = r.val; omega)
    | 1 => exact Fin.ext (by show j.val + 1 * 0 = j.val; omega)
    | 2 => exact Fin.ext (by show 0 + 1 * c.val = c.val; omega)
  · refine (stack_hi _ _ r c (by omega)).trans (Eq.trans (Eq.trans ?_ (hiPart_apply m d ⟨r.val - 12, by omega⟩ j c)) ?_)
    · refine congrArg (hiPart m d) (funext fun a => ?_)
      match a with
      | 0 => exact Fin.ext (by show 0 + 1 * (r.val - 12) = r.val - 12; omega)
      | 1 => exact Fin.ext (by show j.val + 1 * 0 = j.val; omega)
      | 2 => exact Fin.ext (by show 0 + 1 * c.val = c.val; omega)
    · exact congrArg (fun r => ftr m d r j c) (Fin.ext (by show 12 + (r.val - 12) = r.val; omega))

/-- All paths' features at one step, as one array. -/
def feats (j : Fin 3) : FVec Ideal S16x256 .f32 := fun i => ftr m d (i 0) j (i 1)

/-- An index by its two coordinates. -/
theorem ix2_eta (i : S16x256.Idx) : i = ValueIdx.ix2 (i 0) (i 1) := by
  funext a
  match a with
  | 0 => rfl
  | 1 => rfl

/-- The stacked array at a step is the features of all paths. -/
theorem stack_feats (j : Fin 3) (i12) (i4) : stack (step12 (bv (Vg m d) main_v28) j.val i12) (step4 (F := Ideal) (hiPart m d) j.val i4) = feats m d j := by
  funext i
  exact (congrArg _ (ix2_eta i)).trans (stack_ftr m d j i12 i4 (i 0) (i 1))

/-- Where window 13 of the second pallas_call stands at a grid point. -/
theorem ix3_13 : ∀ t : Fin cfg3.N, win3_13.index t = ![0, 0] := (by decide +kernel : ∀ t : Fin grid3.N, _)

/-- The class scores at the end. -/
theorem v42_eq : bv (Vh m d) main_v42 = Ref.lsm (Ref.logits (Ref.fwd (feats m d 0) (feats m d 1) (feats m d 2) (ag m d main_arg8) (ag m d main_arg9)
    (ag m d main_arg10) (ag m d main_arg11)) (Ref.bwd (feats m d 2) (ag m d main_arg12) (ag m d main_arg13) (ag m d main_arg14) (ag m d main_arg15))
    (ag m d main_arg16) (ag m d main_arg17)) := by
  refine (out3_self (Vg m d) d).trans ?_
  refine (dat3 (Vg m d) d).arrAt_eq_of_covers 13 _ (by decide +kernel) fun t hf y => ?_
  blk_simp
  have e : res3 (Vg m d) t = Ref.lsm (Ref.logits (Ref.fwd (feats m d 0) (feats m d 1) (feats m d 2) (ag m d main_arg8) (ag m d main_arg9)
      (ag m d main_arg10) (ag m d main_arg11)) (Ref.bwd (feats m d 2) (ag m d main_arg12) (ag m d main_arg13) (ag m d main_arg14) (ag m d main_arg15))
      (ag m d main_arg16) (ag m d main_arg17)) := by
    show recOut (blk3_5 (Vg m d) t) (convOut (blk3_1 (Vg m d) t) (blk3_2 (Vg m d) t) (blk3_3 (Vg m d) t) (blk3_4 (Vg m d) t) (blk3_0 (Vg m d) t))
      (blk3_6 (Vg m d) t) (blk3_7 (Vg m d) t) (blk3_8 (Vg m d) t) (blk3_9 (Vg m d) t) (blk3_10 (Vg m d) t) (blk3_11 (Vg m d) t) (blk3_12 (Vg m d) t) = _
    rw [whole3_0, whole3_1, whole3_2, whole3_3, whole3_4, whole3_5, whole3_6, whole3_7, whole3_8, whole3_9, whole3_10, whole3_11, whole3_12,
      Vg_v30, Vg_v32, Vg_v34, Vg_v36, Vg_v38, Vg_v40, Vg_v41]
    refine (recFn_ref _ _ _ _ _ _ (ag m d main_arg8) (ag m d main_arg9) (ag m d main_arg10) (ag m d main_arg11) (ag m d main_arg12) (ag m d main_arg13)
      (ag m d main_arg14) (ag m d main_arg15) (ag m d main_arg16) (ag m d main_arg17)).trans ?_
    have s0 := stack_feats m d 0 inb_S12x3x256_S12x1x256_0_0_0 inb_S4x3x256_S4x1x256_0_0_0
    have s1 := stack_feats m d 1 inb_S12x3x256_S12x1x256_0_1_0 inb_S4x3x256_S4x1x256_0_1_0
    have s2 := stack_feats m d 2 inb_S12x3x256_S12x1x256_0_2_0 inb_S4x3x256_S4x1x256_0_2_0
    rw [← s0, ← s1, ← s2]
    rfl
  refine (congrFun e y).trans (congrArg _ (funext fun a => ?_))
  match a with
  | 0 => refine Fin.ext ?_; blk_simp [ix3_13]
  | 1 => refine Fin.ext ?_; blk_simp [ix3_13]

/-- The reference's arguments are the kernel's. -/
structure Agree (V : Valuation Cert.ReferenceIdeal.τ Cert.ReferenceIdeal.sig (Elt Ideal)) : Prop where
  h0 : Ref.ar V Cert.ReferenceIdeal.main_arg0 = ag m d main_arg0
  h1 : Ref.ar V Cert.ReferenceIdeal.main_arg1 = ag m d main_arg1
  h2 : Ref.ar V Cert.ReferenceIdeal.main_arg2 = ag m d main_arg2
  h3 : Ref.ar V Cert.ReferenceIdeal.main_arg3 = ag m d main_arg3
  h4 : Ref.ar V Cert.ReferenceIdeal.main_arg4 = ag m d main_arg4
  h5 : Ref.ar V Cert.ReferenceIdeal.main_arg5 = ag m d main_arg5
  h6 : Ref.ar V Cert.ReferenceIdeal.main_arg6 = ag m d main_arg6
  h7 : Ref.ar V Cert.ReferenceIdeal.main_arg7 = ag m d main_arg7
  h8 : Ref.ar V Cert.ReferenceIdeal.main_arg8 = ag m d main_arg8
  h9 : Ref.ar V Cert.ReferenceIdeal.main_arg9 = ag m d main_arg9
  h10 : Ref.ar V Cert.ReferenceIdeal.main_arg10 = ag m d main_arg10
  h11 : Ref.ar V Cert.ReferenceIdeal.main_arg11 = ag m d main_arg11
  h12 : Ref.ar V Cert.ReferenceIdeal.main_arg12 = ag m d main_arg12
  h13 : Ref.ar V Cert.ReferenceIdeal.main_arg13 = ag m d main_arg13
  h14 : Ref.ar V Cert.ReferenceIdeal.main_arg14 = ag m d main_arg14
  h15 : Ref.ar V Cert.ReferenceIdeal.main_arg15 = ag m d main_arg15
  h16 : Ref.ar V Cert.ReferenceIdeal.main_arg16 = ag m d main_arg16
  h17 : Ref.ar V Cert.ReferenceIdeal.main_arg17 = ag m d main_arg17

section
variable {V : Valuation Cert.ReferenceIdeal.τ Cert.ReferenceIdeal.sig (Elt Ideal)} (hA : Agree m d V) (hv : ∀ i, (toks m d i).toNat < 256)
include hA hv

/-- The reference's rows are the table's rows that the tokens name. -/
theorem rows_eq (r : Fin 16) (t : Fin 1024) (e : Fin 128) :
    Cert.ReferenceIdeal.Value.res_main_v1 V (ValueIdx.ix3 r t e) = Ref.rowAt (toks m d) (ag m d main_arg1) r t.val e.val := by
  refine (Ref.emb_apply V (fun i => by rw [hA.h0]; exact hv i) r t e).trans ?_
  rw [hA.h0, hA.h1]

/-- The reference's three features are the kernel's. -/
theorem pool5_eq : Ref.pool5 (Cert.ReferenceIdeal.Value.res_main_v1 V) (Ref.ar V Cert.ReferenceIdeal.main_arg2) (Ref.ar V Cert.ReferenceIdeal.main_arg3) = feats m d 0 := by
  funext i
  rw [hA.h2, hA.h3]
  exact (congrArg _ (ix2_eta i)).trans (Ref.pool5_apply _ _ _ _ (i 0) (fun t e => rows_eq m d hA hv (i 0) t e) (i 1))

/-- The middle filter's, -/
theorem pool4_eq : Ref.pool4 (Cert.ReferenceIdeal.Value.res_main_v1 V) (Ref.ar V Cert.ReferenceIdeal.main_arg4) (Ref.ar V Cert.ReferenceIdeal.main_arg5) = feats m d 1 := by
  funext i
  rw [hA.h4, hA.h5]
  exact (congrArg _ (ix2_eta i)).trans (Ref.pool4_apply _ _ _ _ (i 0) (fun t e => rows_eq m d hA hv (i 0) t e) (i 1))

/-- and the narrowest filter's. -/
theorem pool3_eq : Ref.pool3 (Cert.ReferenceIdeal.Value.res_main_v1 V) (Ref.ar V Cert.ReferenceIdeal.main_arg6) (Ref.ar V Cert.ReferenceIdeal.main_arg7) = feats m d 2 := by
  funext i
  rw [hA.h6, hA.h7]
  exact (congrArg _ (ix2_eta i)).trans (Ref.pool3_apply _ _ _ _ (i 0) (fun t e => rows_eq m d hA hv (i 0) t e) (i 1))

/-- The reference's result is what the kernel leaves. -/
theorem result_v42 : Ref.result V = bv (Vh m d) main_v42 := by
  rw [v42_eq]
  unfold Ref.result
  rw [pool5_eq m d hA hv, pool4_eq m d hA hv, pool3_eq m d hA hv, hA.h8, hA.h9, hA.h10, hA.h11, hA.h12, hA.h13, hA.h14, hA.h15, hA.h16, hA.h17]

end

/-- From memories that hold the same arguments, every token in the vocabulary, the kernel and the reference end with the same class scores. -/
theorem algebraic : Cert.algebraic_KernelIdeal_ReferenceIdeal := by
  intro m g m' g' hpre hag
  have hok : PreOK m := fun d i => toks_lt (hpre d) i
  refine ⟨fun c => bv (Vh m c) main_v42, ?_, ?_⟩
  · exact (θ_run Cert.KernelIdeal.defs _ _).mono (fun r h c => ⟨final m c main_v42 (by decide) h, args_all m c h⟩) (run_main m g hok.ok0 hok.ok1)
  · refine (θ_run Cert.ReferenceIdeal.defs _ _).mono (fun r h c => ⟨?_, (h c).2⟩) (Cert.ReferenceIdeal.Value.run (F := Ideal) m' g')
    refine (h c).1.trans ((Ref.result_eq _).trans (result_v42 m c ?_ (hok c)))
    obtain ⟨h0, h1, h2, h3, h4, h5, h6, h7, h8, h9, h10, h11, h12, h13, h14, h15, h16, h17⟩ := hag c
    exact ⟨h0, h1, h2, h3, h4, h5, h6, h7, h8, h9, h10, h11, h12, h13, h14, h15, h16, h17⟩

end Cert.Proof.Sc

end
-- ==== Proof.lean ====
/- The certificate of the classifier: its launch, its quiescence, and the untouched arguments of the kernel, of its
   idealization and of the reference; and that the kernel's class scores are the reference's.  The launch is proved once,
   for any instance of the floating-point operations. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_idx_in_vocab
public import proofs.«01_k».proof.Proof.Frames
public import proofs.«01_k».proof.Proof.Value

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Pre_idx_in_vocab.Gen.facts,
    Sc.frame_K, Sc.frame_KI, Sc.frame_RI, trivial, Sc.algebraic⟩

end Cert.Proof
